-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_gates [hPre_finite_gates : Cert.Pre_finite_gates.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_gates.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_gates [hPre_finite_gates : Cert.Pre_finite_gates.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_gates.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_gates [hKernel7Ideal : Cert.Kernel7Ideal.Facts] [hPre_finite_gates : Cert.Pre_finite_gates.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_gates m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_gates [hReference7Ideal : Cert.Reference7Ideal.Facts] [hPre_finite_gates : Cert.Pre_finite_gates.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_gates m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v49_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v35_0)) (v1 : (c : Dev Cert.Kernel5Ideal.nD) → Buf (Elt Ideal) ((c.tc : Thread Cert.Kernel5Ideal.nD Cert.Kernel5Ideal.τ).loc Cert.Kernel5Ideal.main_v35_1)) (v2 : (c : Dev Cert.Kernel5Ideal.nD) → Buf (Elt Ideal) ((c.tc : Thread Cert.Kernel5Ideal.nD Cert.Kernel5Ideal.τ).loc Cert.Kernel5Ideal.main_v35_2)) (v3 : (c : Dev Cert.Kernel5Ideal.nD) → Buf (Elt Ideal) ((c.tc : Thread Cert.Kernel5Ideal.nD Cert.Kernel5Ideal.τ).loc Cert.Kernel5Ideal.main_v35_3)) (v4 : (c : Dev Cert.Kernel5Ideal.nD) → Buf (Elt Ideal) ((c.tc : Thread Cert.Kernel5Ideal.nD Cert.Kernel5Ideal.τ).loc Cert.Kernel5Ideal.main_v35_4)) (v5 : (c : Dev Cert.Kernel5Ideal.nD) → Buf (Elt Ideal) ((c.tc : Thread Cert.Kernel5Ideal.nD Cert.Kernel5Ideal.τ).loc Cert.Kernel5Ideal.main_v35_5)) (v6 : (c : Dev Cert.Kernel5Ideal.nD) → Buf (Elt Ideal) ((c.tc : Thread Cert.Kernel5Ideal.nD Cert.Kernel5Ideal.τ).loc Cert.Kernel5Ideal.main_v35_6)) (v7 : (c : Dev Cert.Kernel5Ideal.nD) → Buf (Elt Ideal) ((c.tc : Thread Cert.Kernel5Ideal.nD Cert.Kernel5Ideal.τ).loc Cert.Kernel5Ideal.main_v35_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v35_0) = v0 c
          ∧ r.2.mem ((c.tc : Thread Cert.Kernel5Ideal.nD Cert.Kernel5Ideal.τ).loc Cert.Kernel5Ideal.main_v35_1) = v1 c
          ∧ r.2.mem ((c.tc : Thread Cert.Kernel5Ideal.nD Cert.Kernel5Ideal.τ).loc Cert.Kernel5Ideal.main_v35_2) = v2 c
          ∧ r.2.mem ((c.tc : Thread Cert.Kernel5Ideal.nD Cert.Kernel5Ideal.τ).loc Cert.Kernel5Ideal.main_v35_3) = v3 c
          ∧ r.2.mem ((c.tc : Thread Cert.Kernel5Ideal.nD Cert.Kernel5Ideal.τ).loc Cert.Kernel5Ideal.main_v35_4) = v4 c
          ∧ r.2.mem ((c.tc : Thread Cert.Kernel5Ideal.nD Cert.Kernel5Ideal.τ).loc Cert.Kernel5Ideal.main_v35_5) = v5 c
          ∧ r.2.mem ((c.tc : Thread Cert.Kernel5Ideal.nD Cert.Kernel5Ideal.τ).loc Cert.Kernel5Ideal.main_v35_6) = v6 c
          ∧ r.2.mem ((c.tc : Thread Cert.Kernel5Ideal.nD Cert.Kernel5Ideal.τ).loc Cert.Kernel5Ideal.main_v35_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v142) = v0 c
          ∧ r.2.mem ((c.tc : Thread Cert.Reference5Ideal.nD Cert.Reference5Ideal.τ).loc Cert.Reference5Ideal.main_v143) = v1 c
          ∧ r.2.mem ((c.tc : Thread Cert.Reference5Ideal.nD Cert.Reference5Ideal.τ).loc Cert.Reference5Ideal.main_v113) = v2 c
          ∧ r.2.mem ((c.tc : Thread Cert.Reference5Ideal.nD Cert.Reference5Ideal.τ).loc Cert.Reference5Ideal.main_v14) = v3 c
          ∧ r.2.mem ((c.tc : Thread Cert.Reference5Ideal.nD Cert.Reference5Ideal.τ).loc Cert.Reference5Ideal.main_v141) = v4 c
          ∧ r.2.mem ((c.tc : Thread Cert.Reference5Ideal.nD Cert.Reference5Ideal.τ).loc Cert.Reference5Ideal.main_v144) = v5 c
          ∧ r.2.mem ((c.tc : Thread Cert.Reference5Ideal.nD Cert.Reference5Ideal.τ).loc Cert.Reference5Ideal.main_v145) = v6 c
          ∧ r.2.mem ((c.tc : Thread Cert.Reference5Ideal.nD Cert.Reference5Ideal.τ).loc Cert.Reference5Ideal.main_v146) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite_gates [hKernel7Ideal : Cert.Kernel7Ideal.Facts] [hReference7Ideal : Cert.Reference7Ideal.Facts] [hPre_finite_gates : Cert.Pre_finite_gates.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_gates m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_v28_5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts) (hPre_finite_gates : Cert.Pre_finite_gates.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_gates (hKernel7Ideal := hKernel7Ideal) (hPre_finite_gates := hPre_finite_gates)
    ∧ quiescent_Reference7Ideal (hReference7Ideal := hReference7Ideal)
    ∧ quiescent_Reference7Ideal_pre_finite_gates (hReference7Ideal := hReference7Ideal) (hPre_finite_gates := hPre_finite_gates)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_gates (hKernel7Ideal := hKernel7Ideal) (hReference7Ideal := hReference7Ideal) (hPre_finite_gates := hPre_finite_gates)
-- ==== Pre_finite_gates.lean ====
abbrev S16896x8704 : Shape := ⟨2, ![16896, 8704]⟩
abbrev S128x512 : Shape := ⟨2, ![128, 512]⟩
abbrev S1x512 : Shape := ⟨2, ![1, 512]⟩
abbrev S1x128 : Shape := ⟨2, ![1, 128]⟩
abbrev S2x4x128x128 : Shape := ⟨4, ![2, 4, 128, 128]⟩
abbrev S16384x8704 : Shape := ⟨2, ![16384, 8704]⟩
abbrev S16384x512 : Shape := ⟨2, ![16384, 512]⟩
abbrev S16384x128 : Shape := ⟨2, ![16384, 128]⟩
abbrev S_ : Shape := ⟨0, ![]⟩
abbrev S1x16384x1x128 : Shape := ⟨4, ![1, 16384, 1, 128]⟩
abbrev S1x16384x4x128 : Shape := ⟨4, ![1, 16384, 4, 128]⟩
abbrev S1x128x1x512 : Shape := ⟨4, ![1, 128, 1, 512]⟩
abbrev S128x128x1x512 : Shape := ⟨4, ![128, 128, 1, 512]⟩

class Facts : Prop where
  slices_S16896x8704_S16384x8704_0_0 : S16896x8704.Slices ![0, 0] S16384x8704
  slices_S16384x8704_S16384x512_0_5120 : S16384x8704.Slices ![0, 5120] S16384x512
  slices_S16384x8704_S16384x512_0_5632 : S16384x8704.Slices ![0, 5632] S16384x512
  slices_S16384x8704_S16384x512_0_6144 : S16384x8704.Slices ![0, 6144] S16384x512
  slices_S16384x8704_S16384x128_0_8576 : S16384x8704.Slices ![0, 8576] S16384x128
  bcast_S_S16384x512 : S_.BroadcastsInDim S16384x512 (![] : Fin 0 → Fin S16384x512.rank)
  shapeCasts_S16384x128_S1x16384x1x128 : S16384x128.ShapeCasts S1x16384x1x128
  bcast_S1x16384x1x128_S1x16384x4x128_0_1_2_3 : S1x16384x1x128.BroadcastsInDim S1x16384x4x128 (![0, 1, 2, 3] : Fin 4 → Fin S1x16384x4x128.rank)
  shapeCasts_S1x16384x4x128_S16384x512 : S1x16384x4x128.ShapeCasts S16384x512
  shapeCasts_S128x512_S1x128x1x512 : S128x512.ShapeCasts S1x128x1x512
  bcast_S1x128x1x512_S128x128x1x512_0_1_2_3 : S1x128x1x512.BroadcastsInDim S128x128x1x512 (![0, 1, 2, 3] : Fin 4 → Fin S128x128x1x512.rank)
  shapeCasts_S128x128x1x512_S16384x512 : S128x128x1x512.ShapeCasts S16384x512

variable [Facts]

def fn_part1 {F : FTy → Type} [FloatOps F] (main_arg1 : FVec F S128x512 .f32) (main_v15 : IVec S16384x512 1) (main_v19 : FVec F S16384x512 .f32) (main_cst_2 : FVec F S_ .f32) : IVec S16384x512 1 :=
  let main_v20 : FVec F S16384x512 .f32 := broadcastInDim S16384x512 ![] bcast_S_S16384x512 main_cst_2
  let main_v21 : IVec S16384x512 1 := cmpf .olt main_v19 main_v20
  let main_v22 : IVec S16384x512 1 := andi main_v15 main_v21
  let main_v23 : FVec F S1x128x1x512 .f32 := shapeCast S1x128x1x512 main_arg1 shapeCasts_S128x512_S1x128x1x512
  let main_v24 : FVec F S128x128x1x512 .f32 := broadcastInDim S128x128x1x512 ![0, 1, 2, 3] bcast_S1x128x1x512_S128x128x1x512_0_1_2_3 main_v23
  let main_v25 : FVec F S16384x512 .f32 := shapeCast S16384x512 main_v24 shapeCasts_S128x128x1x512_S16384x512
  let main_v26 : FVec F S16384x512 .f32 := Host.absf main_v25
  let main_cst_3 : FVec F S_ .f32 := constant S_ .f32 0x7F800000#32
  let main_v27 : FVec F S16384x512 .f32 := broadcastInDim S16384x512 ![] bcast_S_S16384x512 main_cst_3
  let main_v28 : IVec S16384x512 1 := cmpf .olt main_v26 main_v27
  let main_v29 : IVec S16384x512 1 := andi main_v22 main_v28
  main_v29

def fn {F : FTy → Type} [FloatOps F] (main_arg0 : FVec F S16896x8704 .f32) (main_arg1 : FVec F S128x512 .f32) (main_arg2 : FVec F S1x512 .f32) (main_arg3 : FVec F S1x128 .f32) (main_arg4 : FVec F S2x4x128x128 .f32) : IVec S16384x512 1 :=
  let main_v0 : FVec F S16384x8704 .f32 := (extractStridedSlice S16384x8704 ![0, 0] · slices_S16896x8704_S16384x8704_0_0) main_arg0
  let main_v1 : FVec F S16384x512 .f32 := (extractStridedSlice S16384x512 ![0, 5120] · slices_S16384x8704_S16384x512_0_5120) main_v0
  let main_v2 : FVec F S16384x512 .f32 := (extractStridedSlice S16384x512 ![0, 5632] · slices_S16384x8704_S16384x512_0_5632) main_v0
  let main_v3 : FVec F S16384x512 .f32 := (extractStridedSlice S16384x512 ![0, 6144] · slices_S16384x8704_S16384x512_0_6144) main_v0
  let main_v4 : FVec F S16384x128 .f32 := (extractStridedSlice S16384x128 ![0, 8576] · slices_S16384x8704_S16384x128_0_8576) main_v0
  let main_v5 : FVec F S16384x512 .f32 := Host.absf main_v1
  let main_cst : FVec F S_ .f32 := constant S_ .f32 0x7F800000#32
  let main_v6 : FVec F S16384x512 .f32 := broadcastInDim S16384x512 ![] bcast_S_S16384x512 main_cst
  let main_v7 : IVec S16384x512 1 := cmpf .olt main_v5 main_v6
  let main_v8 : FVec F S16384x512 .f32 := Host.absf main_v2
  let main_cst_0 : FVec F S_ .f32 := constant S_ .f32 0x7F800000#32
  let main_v9 : FVec F S16384x512 .f32 := broadcastInDim S16384x512 ![] bcast_S_S16384x512 main_cst_0
  let main_v10 : IVec S16384x512 1 := cmpf .olt main_v8 main_v9
  let main_v11 : IVec S16384x512 1 := andi main_v7 main_v10
  let main_v12 : FVec F S16384x512 .f32 := Host.absf main_v3
  let main_cst_1 : FVec F S_ .f32 := constant S_ .f32 0x7F800000#32
  let main_v13 : FVec F S16384x512 .f32 := broadcastInDim S16384x512 ![] bcast_S_S16384x512 main_cst_1
  let main_v14 : IVec S16384x512 1 := cmpf .olt main_v12 main_v13
  let main_v15 : IVec S16384x512 1 := andi main_v11 main_v14
  let main_v16 : FVec F S1x16384x1x128 .f32 := shapeCast S1x16384x1x128 main_v4 shapeCasts_S16384x128_S1x16384x1x128
  let main_v17 : FVec F S1x16384x4x128 .f32 := broadcastInDim S1x16384x4x128 ![0, 1, 2, 3] bcast_S1x16384x1x128_S1x16384x4x128_0_1_2_3 main_v16
  let main_v18 : FVec F S16384x512 .f32 := shapeCast S16384x512 main_v17 shapeCasts_S1x16384x4x128_S16384x512
  let main_v19 : FVec F S16384x512 .f32 := Host.absf main_v18
  let main_cst_2 : FVec F S_ .f32 := constant S_ .f32 0x7F800000#32
  fn_part1 (F := F) main_arg1 main_v15 main_v19 main_cst_2
-- ==== Pre_finite_inputs.lean ====
abbrev S16896x8704 : Shape := ⟨2, ![16896, 8704]⟩
abbrev S1x512 : Shape := ⟨2, ![1, 512]⟩
abbrev S1x128 : Shape := ⟨2, ![1, 128]⟩
abbrev S2x4x128x128 : Shape := ⟨4, ![2, 4, 128, 128]⟩
abbrev S16384x8704 : Shape := ⟨2, ![16384, 8704]⟩
abbrev S16384x512 : Shape := ⟨2, ![16384, 512]⟩
abbrev S_ : Shape := ⟨0, ![]⟩

class Facts : Prop where
  slices_S16896x8704_S16384x8704_0_0 : S16896x8704.Slices ![0, 0] S16384x8704
  slices_S16384x8704_S16384x512_0_3072 : S16384x8704.Slices ![0, 3072] S16384x512
  slices_S16384x8704_S16384x512_0_4096 : S16384x8704.Slices ![0, 4096] S16384x512
  bcast_S_S16384x512 : S_.BroadcastsInDim S16384x512 (![] : Fin 0 → Fin S16384x512.rank)
  bcast_S_S1x512 : S_.BroadcastsInDim S1x512 (![] : Fin 0 → Fin S1x512.rank)
  bcast_S1x512_S16384x512_0_1 : S1x512.BroadcastsInDim S16384x512 (![0, 1] : Fin 2 → Fin S16384x512.rank)

variable [Facts]

def fn {F : FTy → Type} [FloatOps F] (main_arg0 : FVec F S16896x8704 .f32) (main_arg1 : FVec F S1x512 .f32) (main_arg2 : FVec F S1x128 .f32) (main_arg3 : FVec F S2x4x128x128 .f32) : IVec S16384x512 1 :=
  let main_v0 : FVec F S16384x8704 .f32 := (extractStridedSlice S16384x8704 ![0, 0] · slices_S16896x8704_S16384x8704_0_0) main_arg0
  let main_v1 : FVec F S16384x512 .f32 := (extractStridedSlice S16384x512 ![0, 3072] · slices_S16384x8704_S16384x512_0_3072) main_v0
  let main_v2 : FVec F S16384x512 .f32 := (extractStridedSlice S16384x512 ![0, 4096] · slices_S16384x8704_S16384x512_0_4096) main_v0
  let main_cst : FVec F S_ .f32 := constant S_ .f32 0x7F800000#32
  let main_v3 : FVec F S16384x512 .f32 := broadcastInDim S16384x512 ![] bcast_S_S16384x512 main_cst
  let main_v4 : IVec S16384x512 1 := cmpf .olt main_v1 main_v3
  let main_v5 : FVec F S16384x512 .f32 := Host.absf main_v2
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : IVec S16384x512 1 := andi main_v4 main_v7
  let main_v9 : FVec F S1x512 .f32 := Host.absf main_arg1
  let main_cst_1 : FVec F S_ .f32 := constant S_ .f32 0x7F800000#32
  let main_v10 : FVec F S1x512 .f32 := broadcastInDim S1x512 ![] bcast_S_S1x512 main_cst_1
  let main_v11 : IVec S1x512 1 := cmpf .olt main_v9 main_v10
  let main_v12 : IVec S16384x512 1 := broadcastInDim S16384x512 ![0, 1] bcast_S1x512_S16384x512_0_1 main_v11
  let main_v13 : IVec S16384x512 1 := andi main_v8 main_v12
  main_v13
-- ==== Kernel.lean ====
abbrev S16896x8704 : Shape := ⟨2, ![16896, 8704]⟩
abbrev S1x512 : Shape := ⟨2, ![1, 512]⟩
abbrev S1x128 : Shape := ⟨2, ![1, 128]⟩
abbrev S2x4x128x128 : Shape := ⟨4, ![2, 4, 128, 128]⟩
abbrev S16384x512 : Shape := ⟨2, ![16384, 512]⟩
abbrev S128x512 : Shape := ⟨2, ![128, 512]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x16x128 : Shape := ⟨3, ![8, 16, 128]⟩
abbrev S8x16x1 : Shape := ⟨3, ![8, 16, 1]⟩
abbrev S8x1x128 : Shape := ⟨3, ![8, 1, 128]⟩
abbrev S8x16 : Shape := ⟨2, ![8, 16]⟩
abbrev S1x1x128 : Shape := ⟨3, ![1, 1, 128]⟩
abbrev S1x128x1 : Shape := ⟨3, ![1, 128, 1]⟩
abbrev S2x64x128 : Shape := ⟨3, ![2, 64, 128]⟩
abbrev S2x1x128 : Shape := ⟨3, ![2, 1, 128]⟩
abbrev S2x64x1 : Shape := ⟨3, ![2, 64, 1]⟩
abbrev S4x32x128 : Shape := ⟨3, ![4, 32, 128]⟩
abbrev S4x1x128 : Shape := ⟨3, ![4, 1, 128]⟩
abbrev S4x32x1 : Shape := ⟨3, ![4, 32, 1]⟩
abbrev S128 : Shape := ⟨1, ![128]⟩
abbrev S128x1 : Shape := ⟨2, ![128, 1]⟩

abbrev nBuf : Space → Nat
  | .hbm => 6
  | .vmem => 17
  | .smem => 0
  | _ => 0

abbrev bufTy : (tb : Table) → Fin (tcTables nBuf tb) → BufTy
  | .hbm, ⟨0, _⟩ => ⟨S16896x8704, .f32⟩
  | .hbm, ⟨1, _⟩ => ⟨S1x512, .f32⟩
  | .hbm, ⟨2, _⟩ => ⟨S1x128, .f32⟩
  | .hbm, ⟨3, _⟩ => ⟨S2x4x128x128, .f32⟩
  | .hbm, ⟨4, _⟩ => ⟨S16384x512, .f32⟩
  | .hbm, ⟨5, _⟩ => ⟨S2x4x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1x128, .f32⟩
  | .local _ .vmem, ⟨10, _⟩ => ⟨S1x4x128x128, .f32⟩
  | .local _ .vmem, ⟨11, _⟩ => ⟨S1x4x128x128, .f32⟩
  | .local _ .vmem, ⟨12, _⟩ => ⟨S128x512, .f32⟩
  | .local _ .vmem, ⟨13, _⟩ => ⟨S128x512, .f32⟩
  | .local _ .vmem, ⟨14, _⟩ => ⟨S1x4x128x128, .f32⟩
  | .local _ .vmem, ⟨15, _⟩ => ⟨S1x4x128x128, .f32⟩
  | .local _ .vmem, ⟨16, _⟩ => ⟨S4x128x128, .f32⟩
  | _, _ => ⟨S16896x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v2311 : BitVec 1 := Scalar.cmpi .eq arg1 c63_i32
  let v2312 : BitVec 32 := Scalar.extui v2311
  let c0_i32_471 : BitVec 32 := 0#32
  let v2313 : BitVec 1 := Scalar.cmpi .ne v2312 c0_i32_471
  v2313

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c6_i32 : BitVec 32 := 6#32
  let c0_i32_0 : BitVec 32 := 0#32
  ![v2.toNat, c6_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c7_i32 : BitVec 32 := 7#32
  let c0_i32_0 : BitVec 32 := 0#32
  ![v2.toNat, c7_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c8_i32 : BitVec 32 := 8#32
  let c0_i32_0 : BitVec 32 := 0#32
  ![v2.toNat, c8_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16896x8704 : Shape := ⟨2, ![16896, 8704]⟩
abbrev S1x512 : Shape := ⟨2, ![1, 512]⟩
abbrev S1x128 : Shape := ⟨2, ![1, 128]⟩
abbrev S2x4x128x128 : Shape := ⟨4, ![2, 4, 128, 128]⟩
abbrev S16384x8704 : Shape := ⟨2, ![16384, 8704]⟩
abbrev S16384x512 : Shape := ⟨2, ![16384, 512]⟩
abbrev S4x128 : Shape := ⟨2, ![4, 128]⟩
abbrev S2x8192x4x128 : Shape := ⟨4, ![2, 8192, 4, 128]⟩
abbrev S_ : Shape := ⟨0, ![]⟩
abbrev S1x1x4x128 : Shape := ⟨4, ![1, 1, 4, 128]⟩
abbrev S2x512x16x4x128 : Shape := ⟨5, ![2, 512, 16, 4, 128]⟩
abbrev S512x2x16x4x128 : Shape := ⟨5, ![512, 2, 16, 4, 128]⟩
abbrev S1x2x16x4x128 : Shape := ⟨5, ![1, 2, 16, 4, 128]⟩
abbrev S2x16x4x128 : Shape := ⟨4, ![2, 16, 4, 128]⟩
abbrev S16x16 : Shape := ⟨2, ![16, 16]⟩
abbrev S1x16x16x1x1 : Shape := ⟨5, ![1, 16, 16, 1, 1]⟩
abbrev S2x16x1x4x128 : Shape := ⟨5, ![2, 16, 1, 4, 128]⟩
abbrev S2x1x16x4x128 : Shape := ⟨5, ![2, 1, 16, 4, 128]⟩
abbrev S2x16x16x4x128 : Shape := ⟨5, ![2, 16, 16, 4, 128]⟩
abbrev S2x16x16x4 : Shape := ⟨4, ![2, 16, 16, 4]⟩
abbrev S2x4x128x16 : Shape := ⟨4, ![2, 4, 128, 16]⟩
abbrev S2x1x4x128 : Shape := ⟨4, ![2, 1, 4, 128]⟩
abbrev S2x4x128 : Shape := ⟨3, ![2, 4, 128]⟩
abbrev S2x4x128x1 : Shape := ⟨4, ![2, 4, 128, 1]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 203
  | .vmem => 0
  | .smem => 0
  | _ => 0

abbrev hbmTy0_0 (i : Nat) : BufTy := match i % 128 with
  | 0 => ⟨S16896x8704, .f32⟩
  | 1 => ⟨S1x512, .f32⟩
  | 2 => ⟨S1x128, .f32⟩
  | 3 => ⟨S2x4x128x128, .f32⟩
  | 4 => ⟨S16384x8704, .f32⟩
  | 5 => ⟨S16384x512, .f32⟩
  | 6 => ⟨S16384x512, .f32⟩
  | 7 => ⟨S16384x512, .f32⟩
  | 8 => ⟨S4x128, .f32⟩
  | 9 => ⟨S2x8192x4x128, .f32⟩
  | 10 => ⟨S_, .f32⟩
  | 11 => ⟨S4x128, .f32⟩
  | 12 => ⟨S4x128, .f32⟩
  | 13 => ⟨S2x8192x4x128, .f32⟩
  | 14 => ⟨S2x8192x4x128, .f32⟩
  | 15 => ⟨S_, .f32⟩
  | 16 => ⟨S2x8192x4x128, .f32⟩
  | 17 => ⟨S2x8192x4x128, .f32⟩
  | 18 => ⟨S_, .f32⟩
  | 19 => ⟨S2x8192x4x128, .f32⟩
  | 20 => ⟨S2x8192x4x128, .f32⟩
  | 21 => ⟨S1x1x4x128, .f32⟩
  | 22 => ⟨S2x8192x4x128, .f32⟩
  | 23 => ⟨S2x8192x4x128, .f32⟩
  | 24 => ⟨S1x1x4x128, .f32⟩
  | 25 => ⟨S2x8192x4x128, .f32⟩
  | 26 => ⟨S2x8192x4x128, .f32⟩
  | 27 => ⟨S_, .f32⟩
  | 28 => ⟨S2x8192x4x128, .f32⟩
  | 29 => ⟨S2x8192x4x128, .f32⟩
  | 30 => ⟨S2x8192x4x128, .f32⟩
  | 31 => ⟨S_, .f32⟩
  | 32 => ⟨S4x128, .f32⟩
  | 33 => ⟨S4x128, .f32⟩
  | 34 => ⟨S2x8192x4x128, .f32⟩
  | 35 => ⟨S2x8192x4x128, .f32⟩
  | 36 => ⟨S2x8192x4x128, .f32⟩
  | 37 => ⟨S_, .f32⟩
  | 38 => ⟨S2x8192x4x128, .f32⟩
  | 39 => ⟨S2x8192x4x128, .f32⟩
  | 40 => ⟨S_, .f32⟩
  | 41 => ⟨S2x8192x4x128, .f32⟩
  | 42 => ⟨S2x8192x4x128, .f32⟩
  | 43 => ⟨S1x1x4x128, .f32⟩
  | 44 => ⟨S2x8192x4x128, .f32⟩
  | 45 => ⟨S2x8192x4x128, .f32⟩
  | 46 => ⟨S2x8192x4x128, .f32⟩
  | 47 => ⟨S2x8192x4x128, .f32⟩
  | 48 => ⟨S2x8192x4x128, .f32⟩
  | 49 => ⟨S_, .f32⟩
  | 50 => ⟨S2x8192x4x128, .f32⟩
  | 51 => ⟨S2x8192x4x128, .f32⟩
  | 52 => ⟨S_, .f32⟩
  | 53 => ⟨S2x8192x4x128, .f32⟩
  | 54 => ⟨S2x8192x4x128, .f32⟩
  | 55 => ⟨S2x8192x4x128, .f32⟩
  | 56 => ⟨S_, .f32⟩
  | 57 => ⟨S2x8192x4x128, .f32⟩
  | 58 => ⟨S2x8192x4x128, .f32⟩
  | 59 => ⟨S2x8192x4x128, .f32⟩
  | 60 => ⟨S2x512x16x4x128, .f32⟩
  | 61 => ⟨S512x2x16x4x128, .f32⟩
  | 62 => ⟨S2x512x16x4x128, .f32⟩
  | 63 => ⟨S512x2x16x4x128, .f32⟩
  | 64 => ⟨S2x512x16x4x128, .f32⟩
  | 65 => ⟨S512x2x16x4x128, .f32⟩
  | 66 => ⟨S2x512x16x4x128, .f32⟩
  | 67 => ⟨S512x2x16x4x128, .f32⟩
  | 68 => ⟨S_, .f32⟩
  | 69 => ⟨S512x2x16x4x128, .f32⟩
  | 70 => ⟨S_, .i32⟩
  | 71 => ⟨S512x2x16x4x128, .f32⟩
  | 72 => ⟨S512x2x16x4x128, .f32⟩
  | 73 => ⟨S512x2x16x4x128, .f32⟩
  | 74 => ⟨S512x2x16x4x128, .f32⟩
  | 75 => ⟨S_, .i32⟩
  | 76 => ⟨S2x4x128x128, .f32⟩
  | 77 => ⟨S512x2x16x4x128, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x2x16x4x128, .f32⟩
  | 85 => ⟨S2x16x4x128, .f32⟩
  | 86 => ⟨S_, .i32⟩
  | 87 => ⟨S_, .i32⟩
  | 88 => ⟨S_, .i32⟩
  | 89 => ⟨S_, .i32⟩
  | 90 => ⟨S1x2x16x4x128, .f32⟩
  | 91 => ⟨S2x16x4x128, .f32⟩
  | 92 => ⟨S_, .i32⟩
  | 93 => ⟨S_, .i32⟩
  | 94 => ⟨S_, .i32⟩
  | 95 => ⟨S_, .i32⟩
  | 96 => ⟨S1x2x16x4x128, .f32⟩
  | 97 => ⟨S2x16x4x128, .f32⟩
  | 98 => ⟨S_, .i32⟩
  | 99 => ⟨S_, .i32⟩
  | 100 => ⟨S_, .i32⟩
  | 101 => ⟨S_, .i32⟩
  | 102 => ⟨S1x2x16x4x128, .f32⟩
  | 103 => ⟨S2x16x4x128, .f32⟩
  | 104 => ⟨S_, .f32⟩
  | 105 => ⟨S_, .f32⟩
  | 106 => ⟨S2x16x4x128, .f32⟩
  | 107 => ⟨S_, .i1⟩
  | 108 => ⟨S16x16, .i1⟩
  | 109 => ⟨S16x16, .i32⟩
  | 110 => ⟨S_, .i32⟩
  | 111 => ⟨S16x16, .i32⟩
  | 112 => ⟨S16x16, .i32⟩
  | 113 => ⟨S16x16, .i32⟩
  | 114 => ⟨S16x16, .i1⟩
  | 115 => ⟨S_, .i1⟩
  | 116 => ⟨S16x16, .i1⟩
  | 117 => ⟨S16x16, .i1⟩
  | 118 => ⟨S1x16x16x1x1, .i1⟩
  | 119 => ⟨S2x16x1x4x128, .f32⟩
  | 120 => ⟨S2x1x16x4x128, .f32⟩
  | 121 => ⟨S2x16x16x4x128, .f32⟩
  | 122 => ⟨S2x16x16x4x128, .f32⟩
  | 123 => ⟨S2x16x16x4x128, .f32⟩
  | 124 => ⟨S_, .f32⟩
  | 125 => ⟨S_, .f32⟩
  | 126 => ⟨S2x16x16x4x128, .i1⟩
  | 127 => ⟨S2x16x16x4x128, .f32⟩
  | _ => ⟨S16896x8704, .f32⟩

abbrev hbmTy0_1 (i : Nat) : BufTy := match i % 128 with
  | 0 => ⟨S2x16x16x4x128, .f32⟩
  | 1 => ⟨S2x16x16x4x128, .f32⟩
  | 2 => ⟨S_, .f32⟩
  | 3 => ⟨S_, .f32⟩
  | 4 => ⟨S2x16x16x4x128, .i1⟩
  | 5 => ⟨S2x16x16x4x128, .f32⟩
  | 6 => ⟨S2x16x16x4x128, .f32⟩
  | 7 => ⟨S2x16x1x4x128, .f32⟩
  | 8 => ⟨S2x1x16x4x128, .f32⟩
  | 9 => ⟨S2x16x16x4x128, .f32⟩
  | 10 => ⟨S2x16x16x4x128, .f32⟩
  | 11 => ⟨S2x16x16x4x128, .f32⟩
  | 12 => ⟨S2x16x16x4x128, .f32⟩
  | 13 => ⟨S_, .f32⟩
  | 14 => ⟨S2x16x16x4, .f32⟩
  | 15 => ⟨S2x4x128x16, .f32⟩
  | 16 => ⟨S2x16x4x128, .f32⟩
  | 17 => ⟨S2x1x4x128, .f32⟩
  | 18 => ⟨S2x4x128, .f32⟩
  | 19 => ⟨S2x16x4x128, .f32⟩
  | 20 => ⟨S2x16x4x128, .f32⟩
  | 21 => ⟨S2x1x4x128, .f32⟩
  | 22 => ⟨S2x16x4x128, .f32⟩
  | 23 => ⟨S2x16x4x128, .f32⟩
  | 24 => ⟨S2x16x4x128, .f32⟩
  | 25 => ⟨S2x16x4x128, .f32⟩
  | 26 => ⟨S2x4x128x16, .f32⟩
  | 27 => ⟨S2x16x4x128, .f32⟩
  | 28 => ⟨S2x4x128, .f32⟩
  | 29 => ⟨S2x4x128x1, .f32⟩
  | 30 => ⟨S2x4x128x128, .f32⟩
  | 31 => ⟨S2x4x128x128, .f32⟩
  | 32 => ⟨S2x4x128x128, .f32⟩
  | 33 => ⟨S2x4x128x128, .f32⟩
  | 34 => ⟨S2x16x4x128, .f32⟩
  | 35 => ⟨S1x2x16x4x128, .f32⟩
  | 36 => ⟨S_, .i32⟩
  | 37 => ⟨S_, .i32⟩
  | 38 => ⟨S_, .i32⟩
  | 39 => ⟨S_, .i32⟩
  | 40 => ⟨S512x2x16x4x128, .f32⟩
  | 41 => ⟨S_, .i32⟩
  | 42 => ⟨S_, .i32⟩
  | 43 => ⟨S2x512x16x4x128, .f32⟩
  | 44 => ⟨S2x8192x4x128, .f32⟩
  | 45 => ⟨S16384x512, .f32⟩
  | 46 => ⟨S128, .f32⟩
  | 47 => ⟨S2x8192x4x128, .f32⟩
  | 48 => ⟨S_, .f32⟩
  | 49 => ⟨S2x8192x4, .f32⟩
  | 50 => ⟨S2x8192x4x1, .f32⟩
  | 51 => ⟨S_, .f32⟩
  | 52 => ⟨S2x8192x4x1, .f32⟩
  | 53 => ⟨S2x8192x4x1, .f32⟩
  | 54 => ⟨S_, .f32⟩
  | 55 => ⟨S2x8192x4x1, .f32⟩
  | 56 => ⟨S2x8192x4x1, .f32⟩
  | 57 => ⟨S2x8192x4x1, .f32⟩
  | 58 => ⟨S2x8192x4x128, .f32⟩
  | 59 => ⟨S2x8192x4x128, .f32⟩
  | 60 => ⟨S1x1x1x128, .f32⟩
  | 61 => ⟨S2x8192x4x128, .f32⟩
  | 62 => ⟨S2x8192x4x128, .f32⟩
  | 63 => ⟨S2x8192x4x128, .f32⟩
  | 64 => ⟨S2x8192x4x128, .f32⟩
  | 65 => ⟨S2x8192x4x128, .f32⟩
  | 66 => ⟨S_, .f32⟩
  | 67 => ⟨S2x8192x4x128, .f32⟩
  | 68 => ⟨S2x8192x4x128, .f32⟩
  | 69 => ⟨S_, .f32⟩
  | 70 => ⟨S2x8192x4x128, .f32⟩
  | 71 => ⟨S2x8192x4x128, .f32⟩
  | 72 => ⟨S2x8192x4x128, .f32⟩
  | 73 => ⟨S2x8192x4x128, .f32⟩
  | 74 => ⟨S16384x512, .f32⟩
  | _ => ⟨S16896x8704, .f32⟩

abbrev hbmTy (i : Nat) : BufTy := match i / 128 with
  | 0 => hbmTy0_0 i
  | 1 => hbmTy0_1 i
  | _ => ⟨S16896x8704, .f32⟩

abbrev bufTy : (tb : Table) → Fin (tcTables nBuf tb) → BufTy
  | .hbm, ⟨i, _⟩ => hbmTy i
  | _, _ => ⟨S16896x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_c : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev main_v49_3 : Ref sig .tc := ⟨.hbm, 74, rfl⟩
abbrev main_v49_4 : Ref sig .tc := ⟨.hbm, 75, rfl⟩
abbrev main_v49_5 : Ref sig .tc := ⟨.hbm, 76, rfl⟩
abbrev main_v49_6 : Ref sig .tc := ⟨.hbm, 77, rfl⟩
abbrev main_while0c_c_17 : Ref sig .tc := ⟨.hbm, 78, rfl⟩
abbrev main_while0c_v71 : Ref sig .tc := ⟨.hbm, 79, rfl⟩
abbrev main_while0b_call1_c : Ref sig .tc := ⟨.hbm, 80, rfl⟩
abbrev main_while0b_call1_c_0 : Ref sig .tc := ⟨.hbm, 81, rfl⟩
abbrev main_while0b_call1_c_1 : Ref sig .tc := ⟨.hbm, 82, rfl⟩
abbrev main_while0b_call1_c_2 : Ref sig .tc := ⟨.hbm, 83, rfl⟩
abbrev main_while0b_call1_v0 : Ref sig .tc := ⟨.hbm, 84, rfl⟩
abbrev main_while0b_v71 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_c_2 : Ref sig .tc := ⟨.hbm, 89, rfl⟩
abbrev main_while0b_call2_v0 : Ref sig .tc := ⟨.hbm, 90, rfl⟩
abbrev main_while0b_v72 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_c_1 : Ref sig .tc := ⟨.hbm, 94, rfl⟩
abbrev main_while0b_call3_c_2 : Ref sig .tc := ⟨.hbm, 95, rfl⟩
abbrev main_while0b_call3_v0 : Ref sig .tc := ⟨.hbm, 96, rfl⟩
abbrev main_while0b_v73 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_c_2 : Ref sig .tc := ⟨.hbm, 101, rfl⟩
abbrev main_while0b_call4_v0 : Ref sig .tc := ⟨.hbm, 102, rfl⟩
abbrev main_while0b_v74 : Ref sig .tc := ⟨.hbm, 103, rfl⟩
abbrev main_while0b_call5_call0_cst : Ref sig .tc := ⟨.hbm, 104, rfl⟩
abbrev main_while0b_call5_call0_v0 : Ref sig .tc := ⟨.hbm, 105, rfl⟩
abbrev main_while0b_v75 : Ref sig .tc := ⟨.hbm, 106, rfl⟩
abbrev main_while0b_c_17 : Ref sig .tc := ⟨.hbm, 107, rfl⟩
abbrev main_while0b_v76 : Ref sig .tc := ⟨.hbm, 108, rfl⟩
abbrev main_while0b_call6_v0 : Ref sig .tc := ⟨.hbm, 109, rfl⟩
abbrev main_while0b_call6_c : Ref sig .tc := ⟨.hbm, 110, rfl⟩
abbrev main_while0b_call6_v1 : Ref sig .tc := ⟨.hbm, 111, rfl⟩
abbrev main_while0b_call6_v2 : Ref sig .tc := ⟨.hbm, 112, rfl⟩
abbrev main_while0b_call6_v3 : Ref sig .tc := ⟨.hbm, 113, rfl⟩
abbrev main_while0b_call6_v4 : Ref sig .tc := ⟨.hbm, 114, rfl⟩
abbrev main_while0b_call6_c_0 : Ref sig .tc := ⟨.hbm, 115, rfl⟩
abbrev main_while0b_call6_v5 : Ref sig .tc := ⟨.hbm, 116, rfl⟩
abbrev main_while0b_v77 : Ref sig .tc := ⟨.hbm, 117, rfl⟩
abbrev main_while0b_v78 : Ref sig .tc := ⟨.hbm, 118, rfl⟩
abbrev main_while0b_v79 : Ref sig .tc := ⟨.hbm, 119, rfl⟩
abbrev main_while0b_v80 : Ref sig .tc := ⟨.hbm, 120, rfl⟩
abbrev main_while0b_v81 : Ref sig .tc := ⟨.hbm, 121, rfl⟩
abbrev main_while0b_v82 : Ref sig .tc := ⟨.hbm, 122, rfl⟩
abbrev main_while0b_v83 : Ref sig .tc := ⟨.hbm, 123, rfl⟩
abbrev main_while0b_cst_18 : Ref sig .tc := ⟨.hbm, 124, rfl⟩
abbrev main_while0b_call7_v0 : Ref sig .tc := ⟨.hbm, 125, rfl⟩
abbrev main_while0b_call7_v1 : Ref sig .tc := ⟨.hbm, 126, rfl⟩
abbrev main_while0b_call7_v2 : Ref sig .tc := ⟨.hbm, 127, rfl⟩
abbrev main_while0b_v84 : Ref sig .tc := ⟨.hbm, 128, rfl⟩
abbrev main_while0b_v85 : Ref sig .tc := ⟨.hbm, 129, rfl⟩
abbrev main_while0b_cst_19 : Ref sig .tc := ⟨.hbm, 130, rfl⟩
abbrev main_while0b_call8_v0 : Ref sig .tc := ⟨.hbm, 131, rfl⟩
abbrev main_while0b_call8_v1 : Ref sig .tc := ⟨.hbm, 132, rfl⟩
abbrev main_while0b_call8_v2 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_v90 : Ref sig .tc := ⟨.hbm, 138, rfl⟩
abbrev main_while0b_v91 : Ref sig .tc := ⟨.hbm, 139, rfl⟩
abbrev main_while0b_v92 : Ref sig .tc := ⟨.hbm, 140, rfl⟩
abbrev main_while0b_cst_20 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_v96 : Ref sig .tc := ⟨.hbm, 145, rfl⟩
abbrev main_while0b_v97 : Ref sig .tc := ⟨.hbm, 146, rfl⟩
abbrev main_while0b_v98 : Ref sig .tc := ⟨.hbm, 147, rfl⟩
abbrev main_while0b_v99 : Ref sig .tc := ⟨.hbm, 148, rfl⟩
abbrev main_while0b_v100 : Ref sig .tc := ⟨.hbm, 149, rfl⟩
abbrev main_while0b_v101 : Ref sig .tc := ⟨.hbm, 150, rfl⟩
abbrev main_while0b_v102 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_v106 : Ref sig .tc := ⟨.hbm, 155, rfl⟩
abbrev main_while0b_v107 : Ref sig .tc := ⟨.hbm, 156, rfl⟩
abbrev main_while0b_v108 : Ref sig .tc := ⟨.hbm, 157, rfl⟩
abbrev main_while0b_v109 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_v113 : Ref sig .tc := ⟨.hbm, 162, rfl⟩
abbrev main_while0b_call9_v0 : Ref sig .tc := ⟨.hbm, 163, rfl⟩
abbrev main_while0b_call9_c : Ref sig .tc := ⟨.hbm, 164, rfl⟩
abbrev main_while0b_call9_c_0 : Ref sig .tc := ⟨.hbm, 165, rfl⟩
abbrev main_while0b_call9_c_1 : Ref sig .tc := ⟨.hbm, 166, rfl⟩
abbrev main_while0b_call9_c_2 : Ref sig .tc := ⟨.hbm, 167, rfl⟩
abbrev main_while0b_v114 : Ref sig .tc := ⟨.hbm, 168, rfl⟩
abbrev main_while0b_c_21 : Ref sig .tc := ⟨.hbm, 169, rfl⟩
abbrev main_while0b_v115 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_cst_8 : Ref sig .tc := ⟨.hbm, 176, rfl⟩
abbrev main_v55 : Ref sig .tc := ⟨.hbm, 177, rfl⟩
abbrev main_v56 : Ref sig .tc := ⟨.hbm, 178, rfl⟩
abbrev main_cst_9 : Ref sig .tc := ⟨.hbm, 179, rfl⟩
abbrev main_v57 : Ref sig .tc := ⟨.hbm, 180, rfl⟩
abbrev main_v58 : Ref sig .tc := ⟨.hbm, 181, rfl⟩
abbrev main_cst_10 : Ref sig .tc := ⟨.hbm, 182, rfl⟩
abbrev main_v59 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_call10_v0 : Ref sig .tc := ⟨.hbm, 192, rfl⟩
abbrev main_call10_v1 : Ref sig .tc := ⟨.hbm, 193, rfl⟩
abbrev main_call10_cst : Ref sig .tc := ⟨.hbm, 194, rfl⟩
abbrev main_call10_v2 : Ref sig .tc := ⟨.hbm, 195, rfl⟩
abbrev main_call10_v3 : Ref sig .tc := ⟨.hbm, 196, rfl⟩
abbrev main_call10_cst_0 : Ref sig .tc := ⟨.hbm, 197, rfl⟩
abbrev main_call10_v4 : Ref sig .tc := ⟨.hbm, 198, rfl⟩
abbrev main_call10_v5 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S16896x1024 : Shape := ⟨2, ![16896, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![33, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16896x1024 : Shape := ⟨2, ![16896, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x2816 : Shape := ⟨2, ![16896, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S16896x2816, .f32⟩
  | .hbm, ⟨23, _⟩ => ⟨S16896x2816, .f32⟩
  | .hbm, ⟨24, _⟩ => ⟨S16896x2816, .f32⟩
  | .hbm, ⟨25, _⟩ => ⟨S_, .f32⟩
  | .hbm, ⟨26, _⟩ => ⟨S16896x2816, .f32⟩
  | .hbm, ⟨27, _⟩ => ⟨S16896x2816, .f32⟩
  | .hbm, ⟨28, _⟩ => ⟨S_, .f32⟩
  | .hbm, ⟨29, _⟩ => ⟨S16896x2816, .f32⟩
  | .hbm, ⟨30, _⟩ => ⟨S16896x2816, .f32⟩
  | .hbm, ⟨31, _⟩ => ⟨S16896x2816, .f32⟩
  | .hbm, ⟨32, _⟩ => ⟨S16896x2816, .f32⟩
  | .hbm, ⟨33, _⟩ => ⟨S16896x2816, .f32⟩
  | .hbm, ⟨34, _⟩ => ⟨S16896x1024, .f32⟩
  | .hbm, ⟨35, _⟩ => ⟨S_, .f32⟩
  | .hbm, ⟨36, _⟩ => ⟨S16896x1024, .f32⟩
  | .hbm, ⟨37, _⟩ => ⟨S16896x1024, .f32⟩
  | .hbm, ⟨38, _⟩ => ⟨S16896x1024, .f32⟩
  | .hbm, ⟨39, _⟩ => ⟨S16896x1024, .f32⟩
  | .hbm, ⟨40, _⟩ => ⟨S_, .f32⟩
  | .hbm, ⟨41, _⟩ => ⟨S16896, .f32⟩
  | .hbm, ⟨42, _⟩ => ⟨S16896x1, .f32⟩
  | .hbm, ⟨43, _⟩ => ⟨S_, .f32⟩
  | .hbm, ⟨44, _⟩ => ⟨S16896x1, .f32⟩
  | .hbm, ⟨45, _⟩ => ⟨S16896x1, .f32⟩
  | .hbm, ⟨46, _⟩ => ⟨S_, .f32⟩
  | .hbm, ⟨47, _⟩ => ⟨S16896x1, .f32⟩
  | .hbm, ⟨48, _⟩ => ⟨S16896x1, .f32⟩
  | .hbm, ⟨49, _⟩ => ⟨S16896x1, .f32⟩
  | .hbm, ⟨50, _⟩ => ⟨S16896x1024, .f32⟩
  | .hbm, ⟨51, _⟩ => ⟨S16896x1024, .f32⟩
  | .hbm, ⟨52, _⟩ => ⟨S1x1024, .f32⟩
  | .hbm, ⟨53, _⟩ => ⟨S16896x1024, .f32⟩
  | .hbm, ⟨54, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S16896x1024 : Shape := ⟨2, ![16896, 1024]⟩
abbrev S1024 : Shape := ⟨1, ![1024]⟩
abbrev S1024x8704 : Shape := ⟨2, ![1024, 8704]⟩
abbrev S1x1024 : Shape := ⟨2, ![1, 1024]⟩
abbrev S16896x8704 : Shape := ⟨2, ![16896, 8704]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x8704, .f32⟩
  | .hbm, ⟨3, _⟩ => ⟨S1x1024, .f32⟩
  | .hbm, ⟨4, _⟩ => ⟨S1024x8704, .bf16⟩
  | .hbm, ⟨5, _⟩ => ⟨S16896x8704, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16896x1024 : Shape := ⟨2, ![16896, 1024]⟩
abbrev S1024 : Shape := ⟨1, ![1024]⟩
abbrev S1024x8704 : Shape := ⟨2, ![1024, 8704]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x8704 : Shape := ⟨2, ![16896, 8704]⟩

abbrev nBuf : Space → Nat
  | .hbm => 20
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x8704, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x8704, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S16896x1024 : Shape := ⟨2, ![16896, 1024]⟩
abbrev S16896x512 : Shape := ⟨2, ![16896, 512]⟩
abbrev S16896x8704 : Shape := ⟨2, ![16896, 8704]⟩
abbrev S512x1024 : Shape := ⟨2, ![512, 1024]⟩
abbrev S1024x1024 : Shape := ⟨2, ![1024, 1024]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S16896x1024, .f32⟩
  | .hbm, ⟨1, _⟩ => ⟨S16896x512, .f32⟩
  | .hbm, ⟨2, _⟩ => ⟨S16896x512, .f32⟩
  | .hbm, ⟨3, _⟩ => ⟨S16896x512, .f32⟩
  | .hbm, ⟨4, _⟩ => ⟨S16896x8704, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16896x1024 : Shape := ⟨2, ![16896, 1024]⟩
abbrev S16896x512 : Shape := ⟨2, ![16896, 512]⟩
abbrev S16896x8704 : Shape := ⟨2, ![16896, 8704]⟩
abbrev S512x1024 : Shape := ⟨2, ![512, 1024]⟩
abbrev S1024x1024 : Shape := ⟨2, ![1024, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x512, .f32⟩
  | .hbm, ⟨2, _⟩ => ⟨S16896x512, .f32⟩
  | .hbm, ⟨3, _⟩ => ⟨S16896x512, .f32⟩
  | .hbm, ⟨4, _⟩ => ⟨S16896x8704, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16896x1024, .f32⟩
  | .hbm, ⟨10, _⟩ => ⟨S16896x1024, .f32⟩
  | .hbm, ⟨11, _⟩ => ⟨S16896x1024, .f32⟩
  | .hbm, ⟨12, _⟩ => ⟨S16896x1024, .f32⟩
  | .hbm, ⟨13, _⟩ => ⟨S16896x1024, .f32⟩
  | .hbm, ⟨14, _⟩ => ⟨S_, .f32⟩
  | .hbm, ⟨15, _⟩ => ⟨S16896x1024, .f32⟩
  | .hbm, ⟨16, _⟩ => ⟨S16896x1024, .f32⟩
  | .hbm, ⟨17, _⟩ => ⟨S_, .f32⟩
  | .hbm, ⟨18, _⟩ => ⟨S16896x1024, .f32⟩
  | .hbm, ⟨19, _⟩ => ⟨S16896x1024, .f32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S_, .f32⟩
  | .hbm, ⟨25, _⟩ => ⟨S16896x1024, .f32⟩
  | .hbm, ⟨26, _⟩ => ⟨S16896x1024, .f32⟩
  | .hbm, ⟨27, _⟩ => ⟨S_, .f32⟩
  | .hbm, ⟨28, _⟩ => ⟨S16896x1024, .f32⟩
  | .hbm, ⟨29, _⟩ => ⟨S16896x1024, .f32⟩
  | .hbm, ⟨30, _⟩ => ⟨S16896x1024, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S_, .f32⟩
  | .hbm, ⟨36, _⟩ => ⟨S16896x1024, .f32⟩
  | .hbm, ⟨37, _⟩ => ⟨S16896x1024, .f32⟩
  | .hbm, ⟨38, _⟩ => ⟨S_, .f32⟩
  | .hbm, ⟨39, _⟩ => ⟨S16896x1024, .f32⟩
  | .hbm, ⟨40, _⟩ => ⟨S16896x1024, .f32⟩
  | .hbm, ⟨41, _⟩ => ⟨S16896x1024, .f32⟩
  | .hbm, ⟨42, _⟩ => ⟨S16896x1024, .f32⟩
  | .hbm, ⟨43, _⟩ => ⟨S16896x1024, .f32⟩
  | .hbm, ⟨44, _⟩ => ⟨S16896x1024, .f32⟩
  | .hbm, ⟨45, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel5.lean ====
abbrev S16896x8704 : Shape := ⟨2, ![16896, 8704]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S16x32 : Shape := ⟨2, ![16, 32]⟩
abbrev S512 : Shape := ⟨1, ![512]⟩
abbrev S16896 : Shape := ⟨1, ![16896]⟩
abbrev S8 : Shape := ⟨1, ![8]⟩
abbrev S16896x1 : Shape := ⟨2, ![16896, 1]⟩
abbrev S1x8 : Shape := ⟨2, ![1, 8]⟩
abbrev S16896x8 : Shape := ⟨2, ![16896, 8]⟩
abbrev S16896x48 : Shape := ⟨2, ![16896, 48]⟩
abbrev S16896x64 : Shape := ⟨2, ![16896, 64]⟩
abbrev S16896x128 : Shape := ⟨2, ![16896, 128]⟩
abbrev S16896x512 : Shape := ⟨2, ![16896, 512]⟩
abbrev S512x512 : Shape := ⟨2, ![512, 512]⟩
abbrev S512x128 : Shape := ⟨2, ![512, 128]⟩
abbrev S512x64 : Shape := ⟨2, ![512, 64]⟩

abbrev nBuf : Space → Nat
  | .hbm => 50
  | .vmem => 28
  | .smem => 0
  | _ => 0

abbrev bufTy : (tb : Table) → Fin (tcTables nBuf tb) → BufTy
  | .hbm, ⟨0, _⟩ => ⟨S16896x8704, .f32⟩
  | .hbm, ⟨1, _⟩ => ⟨S8192, .i32⟩
  | .hbm, ⟨2, _⟩ => ⟨S1x8192, .i32⟩
  | .hbm, ⟨3, _⟩ => ⟨S2x8192, .i32⟩
  | .hbm, ⟨4, _⟩ => ⟨S16384, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S1x32, .i32⟩
  | .hbm, ⟨10, _⟩ => ⟨S16x32, .i32⟩
  | .hbm, ⟨11, _⟩ => ⟨S512, .i32⟩
  | .hbm, ⟨12, _⟩ => ⟨S16896, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S16896, .f32⟩
  | .hbm, ⟨22, _⟩ => ⟨S16896x1, .f32⟩
  | .hbm, ⟨23, _⟩ => ⟨S1x8, .f32⟩
  | .hbm, ⟨24, _⟩ => ⟨S16896x8, .f32⟩
  | .hbm, ⟨25, _⟩ => ⟨S16896x8, .f32⟩
  | .hbm, ⟨26, _⟩ => ⟨S16896x8, .f32⟩
  | .hbm, ⟨27, _⟩ => ⟨S16896x8, .f32⟩
  | .hbm, ⟨28, _⟩ => ⟨S16896x8, .f32⟩
  | .hbm, ⟨29, _⟩ => ⟨S_, .f32⟩
  | .hbm, ⟨30, _⟩ => ⟨S16896x48, .f32⟩
  | .hbm, ⟨31, _⟩ => ⟨S_, .f32⟩
  | .hbm, ⟨32, _⟩ => ⟨S16896x48, .f32⟩
  | .hbm, ⟨33, _⟩ => ⟨S_, .f32⟩
  | .hbm, ⟨34, _⟩ => ⟨S16896x8, .f32⟩
  | .hbm, ⟨35, _⟩ => ⟨S16896x64, .f32⟩
  | .hbm, ⟨36, _⟩ => ⟨S16896x8, .f32⟩
  | .hbm, ⟨37, _⟩ => ⟨S16896x64, .f32⟩
  | .hbm, ⟨38, _⟩ => ⟨S16896x64, .f32⟩
  | .hbm, ⟨39, _⟩ => ⟨S16896x128, .f32⟩
  | .hbm, ⟨40, _⟩ => ⟨S16896x128, .f32⟩
  | .hbm, ⟨41, _⟩ => ⟨S16896x128, .f32⟩
  | .hbm, ⟨42, _⟩ => ⟨S16896x512, .bf16⟩
  | .hbm, ⟨43, _⟩ => ⟨S16896x512, .bf16⟩
  | .hbm, ⟨44, _⟩ => ⟨S16896x128, .f32⟩
  | .hbm, ⟨45, _⟩ => ⟨S16896x128, .f32⟩
  | .hbm, ⟨46, _⟩ => ⟨S16896x64, .f32⟩
  | .hbm, ⟨47, _⟩ => ⟨S16896x128, .bf16⟩
  | .hbm, ⟨48, _⟩ => ⟨S16896x128, .bf16⟩
  | .hbm, ⟨49, _⟩ => ⟨S16896x64, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x64, .f32⟩
  | .local _ .vmem, ⟨21, _⟩ => ⟨S512x64, .f32⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x64, .bf16⟩
  | .local _ .vmem, ⟨27, _⟩ => ⟨S512x64, .bf16⟩
  | _, _ => ⟨S16896x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev main_v35_3 : Ref sig .tc := ⟨.hbm, 45, rfl⟩
abbrev main_v35_4 : Ref sig .tc := ⟨.hbm, 46, rfl⟩
abbrev main_v35_5 : Ref sig .tc := ⟨.hbm, 47, rfl⟩
abbrev main_v35_6 : Ref sig .tc := ⟨.hbm, 48, rfl⟩
abbrev main_v35_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16896x8704 : Shape := ⟨2, ![16896, 8704]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S16x32 : Shape := ⟨2, ![16, 32]⟩
abbrev S512 : Shape := ⟨1, ![512]⟩
abbrev S16896 : Shape := ⟨1, ![16896]⟩
abbrev S16896x512 : Shape := ⟨2, ![16896, 512]⟩
abbrev S16896x128 : Shape := ⟨2, ![16896, 128]⟩
abbrev S16896x64 : Shape := ⟨2, ![16896, 64]⟩
abbrev S16896x8x64 : Shape := ⟨3, ![16896, 8, 64]⟩
abbrev S8 : Shape := ⟨1, ![8]⟩
abbrev S16896x1 : Shape := ⟨2, ![16896, 1]⟩
abbrev S1x8 : Shape := ⟨2, ![1, 8]⟩
abbrev S16896x8 : Shape := ⟨2, ![16896, 8]⟩
abbrev S16896x1x8 : Shape := ⟨3, ![16896, 1, 8]⟩
abbrev S16896x8x8 : Shape := ⟨3, ![16896, 8, 8]⟩
abbrev S16896x8x48 : Shape := ⟨3, ![16896, 8, 48]⟩
abbrev S16896x2x64 : Shape := ⟨3, ![16896, 2, 64]⟩
abbrev S16896x2x8 : Shape := ⟨3, ![16896, 2, 8]⟩
abbrev S16896x2x48 : Shape := ⟨3, ![16896, 2, 48]⟩
abbrev S16896x1x64 : Shape := ⟨3, ![16896, 1, 64]⟩
abbrev S16896x1x48 : Shape := ⟨3, ![16896, 1, 48]⟩

abbrev nBuf : Space → Nat
  | .hbm => 158
  | .vmem => 0
  | .smem => 0
  | _ => 0

abbrev hbmTy0_0 (i : Nat) : BufTy := match i % 128 with
  | 0 => ⟨S16896x8704, .f32⟩
  | 1 => ⟨S8192, .i32⟩
  | 2 => ⟨S1x8192, .i32⟩
  | 3 => ⟨S2x8192, .i32⟩
  | 4 => ⟨S16384, .i32⟩
  | 5 => ⟨S32, .i32⟩
  | 6 => ⟨S_, .i32⟩
  | 7 => ⟨S32, .i32⟩
  | 8 => ⟨S32, .i32⟩
  | 9 => ⟨S1x32, .i32⟩
  | 10 => ⟨S16x32, .i32⟩
  | 11 => ⟨S512, .i32⟩
  | 12 => ⟨S16896, .i32⟩
  | 13 => ⟨S16896x512, .f32⟩
  | 14 => ⟨S16896x512, .f32⟩
  | 15 => ⟨S16896x128, .f32⟩
  | 16 => ⟨S16896x128, .f32⟩
  | 17 => ⟨S16896x64, .f32⟩
  | 18 => ⟨S16896x8x64, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S16896, .f32⟩
  | 28 => ⟨S16896x1, .f32⟩
  | 29 => ⟨S1x8, .f32⟩
  | 30 => ⟨S16896x8, .f32⟩
  | 31 => ⟨S16896x8, .f32⟩
  | 32 => ⟨S16896x8, .f32⟩
  | 33 => ⟨S16896x8, .f32⟩
  | 34 => ⟨S16896x1x8, .f32⟩
  | 35 => ⟨S16896x8, .f32⟩
  | 36 => ⟨S16896x1x8, .f32⟩
  | 37 => ⟨S16896x8x8, .f32⟩
  | 38 => ⟨S16896x8x8, .f32⟩
  | 39 => ⟨S16896x8x48, .f32⟩
  | 40 => ⟨S16896x8x8, .f32⟩
  | 41 => ⟨S16896x8x8, .f32⟩
  | 42 => ⟨S16896x8x8, .f32⟩
  | 43 => ⟨S16896x8x8, .f32⟩
  | 44 => ⟨S16896x8x8, .f32⟩
  | 45 => ⟨S16896x8x8, .f32⟩
  | 46 => ⟨S16896x8x8, .f32⟩
  | 47 => ⟨S16896x8x8, .f32⟩
  | 48 => ⟨S16896x8x8, .f32⟩
  | 49 => ⟨S16896x8x8, .f32⟩
  | 50 => ⟨S16896x8x64, .f32⟩
  | 51 => ⟨S16896x512, .f32⟩
  | 52 => ⟨S_, .f32⟩
  | 53 => ⟨S16896x512, .f32⟩
  | 54 => ⟨S16896x512, .f32⟩
  | 55 => ⟨S16896x8x64, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S16896, .f32⟩
  | 65 => ⟨S16896x1, .f32⟩
  | 66 => ⟨S1x8, .f32⟩
  | 67 => ⟨S16896x8, .f32⟩
  | 68 => ⟨S16896x8, .f32⟩
  | 69 => ⟨S16896x8, .f32⟩
  | 70 => ⟨S16896x8, .f32⟩
  | 71 => ⟨S16896x1x8, .f32⟩
  | 72 => ⟨S16896x8, .f32⟩
  | 73 => ⟨S16896x1x8, .f32⟩
  | 74 => ⟨S16896x8x8, .f32⟩
  | 75 => ⟨S16896x8x8, .f32⟩
  | 76 => ⟨S16896x8x48, .f32⟩
  | 77 => ⟨S16896x8x8, .f32⟩
  | 78 => ⟨S16896x8x8, .f32⟩
  | 79 => ⟨S16896x8x8, .f32⟩
  | 80 => ⟨S16896x8x8, .f32⟩
  | 81 => ⟨S16896x8x8, .f32⟩
  | 82 => ⟨S16896x8x8, .f32⟩
  | 83 => ⟨S16896x8x8, .f32⟩
  | 84 => ⟨S16896x8x8, .f32⟩
  | 85 => ⟨S16896x8x8, .f32⟩
  | 86 => ⟨S16896x8x8, .f32⟩
  | 87 => ⟨S16896x8x64, .f32⟩
  | 88 => ⟨S16896x512, .f32⟩
  | 89 => ⟨S16896x2x64, .f32⟩
  | 90 => ⟨S8, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S16896, .f32⟩
  | 99 => ⟨S16896x1, .f32⟩
  | 100 => ⟨S1x8, .f32⟩
  | 101 => ⟨S16896x8, .f32⟩
  | 102 => ⟨S16896x8, .f32⟩
  | 103 => ⟨S16896x8, .f32⟩
  | 104 => ⟨S16896x8, .f32⟩
  | 105 => ⟨S16896x1x8, .f32⟩
  | 106 => ⟨S16896x8, .f32⟩
  | 107 => ⟨S16896x1x8, .f32⟩
  | 108 => ⟨S16896x2x8, .f32⟩
  | 109 => ⟨S16896x2x8, .f32⟩
  | 110 => ⟨S16896x2x48, .f32⟩
  | 111 => ⟨S16896x2x8, .f32⟩
  | 112 => ⟨S16896x2x8, .f32⟩
  | 113 => ⟨S16896x2x8, .f32⟩
  | 114 => ⟨S16896x2x8, .f32⟩
  | 115 => ⟨S16896x2x8, .f32⟩
  | 116 => ⟨S16896x2x8, .f32⟩
  | 117 => ⟨S16896x2x8, .f32⟩
  | 118 => ⟨S16896x2x8, .f32⟩
  | 119 => ⟨S16896x2x8, .f32⟩
  | 120 => ⟨S16896x2x8, .f32⟩
  | 121 => ⟨S16896x2x64, .f32⟩
  | 122 => ⟨S16896x128, .f32⟩
  | 123 => ⟨S16896x1x64, .f32⟩
  | 124 => ⟨S8, .f32⟩
  | 125 => ⟨S8, .f32⟩
  | 126 => ⟨S_, .f32⟩
  | 127 => ⟨S8, .f32⟩
  | _ => ⟨S16896x8704, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S16896, .f32⟩
  | 5 => ⟨S16896x1, .f32⟩
  | 6 => ⟨S1x8, .f32⟩
  | 7 => ⟨S16896x8, .f32⟩
  | 8 => ⟨S16896x8, .f32⟩
  | 9 => ⟨S16896x8, .f32⟩
  | 10 => ⟨S16896x8, .f32⟩
  | 11 => ⟨S16896x1x8, .f32⟩
  | 12 => ⟨S16896x8, .f32⟩
  | 13 => ⟨S16896x1x8, .f32⟩
  | 14 => ⟨S16896x1x8, .f32⟩
  | 15 => ⟨S16896x1x8, .f32⟩
  | 16 => ⟨S16896x1x48, .f32⟩
  | 17 => ⟨S16896x1x8, .f32⟩
  | 18 => ⟨S16896x1x8, .f32⟩
  | 19 => ⟨S16896x1x8, .f32⟩
  | 20 => ⟨S16896x1x8, .f32⟩
  | 21 => ⟨S16896x1x8, .f32⟩
  | 22 => ⟨S16896x1x8, .f32⟩
  | 23 => ⟨S16896x1x64, .f32⟩
  | 24 => ⟨S16896x64, .f32⟩
  | 25 => ⟨S16896x512, .bf16⟩
  | 26 => ⟨S16896x512, .bf16⟩
  | 27 => ⟨S16896x128, .bf16⟩
  | 28 => ⟨S16896x128, .bf16⟩
  | 29 => ⟨S16896x64, .bf16⟩
  | _ => ⟨S16896x8704, .f32⟩

abbrev hbmTy (i : Nat) : BufTy := match i / 128 with
  | 0 => hbmTy0_0 i
  | 1 => hbmTy0_1 i
  | _ => ⟨S16896x8704, .f32⟩

abbrev bufTy : (tb : Table) → Fin (tcTables nBuf tb) → BufTy
  | .hbm, ⟨i, _⟩ => hbmTy i
  | _, _ => ⟨S16896x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst_1 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_cst_2 : Ref sig .tc := ⟨.hbm, 58, rfl⟩
abbrev main_v53 : Ref sig .tc := ⟨.hbm, 59, rfl⟩
abbrev main_v54 : Ref sig .tc := ⟨.hbm, 60, rfl⟩
abbrev main_cst_3 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_cst_4 : Ref sig .tc := ⟨.hbm, 92, rfl⟩
abbrev main_v85 : Ref sig .tc := ⟨.hbm, 93, rfl⟩
abbrev main_v86 : Ref sig .tc := ⟨.hbm, 94, rfl⟩
abbrev main_cst_5 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_cst_6 : Ref sig .tc := ⟨.hbm, 126, rfl⟩
abbrev main_v117 : Ref sig .tc := ⟨.hbm, 127, rfl⟩
abbrev main_v118 : Ref sig .tc := ⟨.hbm, 128, rfl⟩
abbrev main_cst_7 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩

abbrev nD : Nat := 1
abbrev τ : Topo := Topo.v7x

variable {F : FTy → Type} [FloatOps F]
-- ==== Kernel6.lean ====
abbrev S16896x1024 : Shape := ⟨2, ![16896, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![33, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S16896x1024 : Shape := ⟨2, ![16896, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x2816 : Shape := ⟨2, ![16896, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S16896x2816, .f32⟩
  | .hbm, ⟨23, _⟩ => ⟨S16896x2816, .f32⟩
  | .hbm, ⟨24, _⟩ => ⟨S16896x2816, .f32⟩
  | .hbm, ⟨25, _⟩ => ⟨S_, .f32⟩
  | .hbm, ⟨26, _⟩ => ⟨S16896x2816, .f32⟩
  | .hbm, ⟨27, _⟩ => ⟨S16896x2816, .f32⟩
  | .hbm, ⟨28, _⟩ => ⟨S_, .f32⟩
  | .hbm, ⟨29, _⟩ => ⟨S16896x2816, .f32⟩
  | .hbm, ⟨30, _⟩ => ⟨S16896x2816, .f32⟩
  | .hbm, ⟨31, _⟩ => ⟨S16896x2816, .f32⟩
  | .hbm, ⟨32, _⟩ => ⟨S16896x2816, .f32⟩
  | .hbm, ⟨33, _⟩ => ⟨S16896x2816, .f32⟩
  | .hbm, ⟨34, _⟩ => ⟨S16896x1024, .f32⟩
  | .hbm, ⟨35, _⟩ => ⟨S_, .f32⟩
  | .hbm, ⟨36, _⟩ => ⟨S16896x1024, .f32⟩
  | .hbm, ⟨37, _⟩ => ⟨S16896x1024, .f32⟩
  | .hbm, ⟨38, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Kernel7.lean ====
abbrev S16896x8704 : Shape := ⟨2, ![16896, 8704]⟩
abbrev S128x512 : Shape := ⟨2, ![128, 512]⟩
abbrev S1x512 : Shape := ⟨2, ![1, 512]⟩
abbrev S1x128 : Shape := ⟨2, ![1, 128]⟩
abbrev S2x4x128x128 : Shape := ⟨4, ![2, 4, 128, 128]⟩
abbrev S16384x512 : Shape := ⟨2, ![16384, 512]⟩
abbrev S128x128 : Shape := ⟨2, ![128, 128]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S1x128x128 : Shape := ⟨3, ![1, 128, 128]⟩
abbrev S8x16x128 : Shape := ⟨3, ![8, 16, 128]⟩
abbrev S8x16x1 : Shape := ⟨3, ![8, 16, 1]⟩
abbrev S8x1x128 : Shape := ⟨3, ![8, 1, 128]⟩
abbrev S8x16 : Shape := ⟨2, ![8, 16]⟩
abbrev S1x1x128 : Shape := ⟨3, ![1, 1, 128]⟩
abbrev S1x128x1 : Shape := ⟨3, ![1, 128, 1]⟩
abbrev S2x64x128 : Shape := ⟨3, ![2, 64, 128]⟩
abbrev S2x1x128 : Shape := ⟨3, ![2, 1, 128]⟩
abbrev S2x64x1 : Shape := ⟨3, ![2, 64, 1]⟩
abbrev S4x32x128 : Shape := ⟨3, ![4, 32, 128]⟩
abbrev S4x1x128 : Shape := ⟨3, ![4, 1, 128]⟩
abbrev S4x32x1 : Shape := ⟨3, ![4, 32, 1]⟩
abbrev S128 : Shape := ⟨1, ![128]⟩
abbrev S128x1 : Shape := ⟨2, ![128, 1]⟩

abbrev nBuf : Space → Nat
  | .hbm => 7
  | .vmem => 20
  | .smem => 0
  | _ => 0

abbrev bufTy : (tb : Table) → Fin (tcTables nBuf tb) → BufTy
  | .hbm, ⟨0, _⟩ => ⟨S16896x8704, .f32⟩
  | .hbm, ⟨1, _⟩ => ⟨S128x512, .f32⟩
  | .hbm, ⟨2, _⟩ => ⟨S1x512, .f32⟩
  | .hbm, ⟨3, _⟩ => ⟨S1x128, .f32⟩
  | .hbm, ⟨4, _⟩ => ⟨S2x4x128x128, .f32⟩
  | .hbm, ⟨5, _⟩ => ⟨S16384x512, .f32⟩
  | .hbm, ⟨6, _⟩ => ⟨S2x4x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x512, .f32⟩
  | .local _ .vmem, ⟨11, _⟩ => ⟨S1x512, .f32⟩
  | .local _ .vmem, ⟨12, _⟩ => ⟨S1x128, .f32⟩
  | .local _ .vmem, ⟨13, _⟩ => ⟨S1x4x128x128, .f32⟩
  | .local _ .vmem, ⟨14, _⟩ => ⟨S1x4x128x128, .f32⟩
  | .local _ .vmem, ⟨15, _⟩ => ⟨S128x512, .f32⟩
  | .local _ .vmem, ⟨16, _⟩ => ⟨S128x512, .f32⟩
  | .local _ .vmem, ⟨17, _⟩ => ⟨S1x4x128x128, .f32⟩
  | .local _ .vmem, ⟨18, _⟩ => ⟨S1x4x128x128, .f32⟩
  | .local _ .vmem, ⟨19, _⟩ => ⟨S4x128x128, .f32⟩
  | _, _ => ⟨S16896x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v2263 : BitVec 1 := Scalar.cmpi .eq arg1 c63_i32
  let v2264 : BitVec 32 := Scalar.extui v2263
  let c0_i32_459 : BitVec 32 := 0#32
  let v2265 : BitVec 1 := Scalar.cmpi .ne v2264 c0_i32_459
  v2265

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c10_i32 : BitVec 32 := 10#32
  let c0_i32_0 : BitVec 32 := 0#32
  ![v2.toNat, c10_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c11_i32 : BitVec 32 := 11#32
  let c0_i32_0 : BitVec 32 := 0#32
  ![v2.toNat, c11_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c12_i32 : BitVec 32 := 12#32
  let c0_i32_0 : BitVec 32 := 0#32
  ![v2.toNat, c12_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c13_i32 : BitVec 32 := 13#32
  let c0_i32_0 : BitVec 32 := 0#32
  ![v2.toNat, c13_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg1
  let c67_i32 : BitVec 32 := 67#32
  let c0_i32_0 : BitVec 32 := 0#32
  ![v2.toNat, c67_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S16896x8704 : Shape := ⟨2, ![16896, 8704]⟩
abbrev S128x512 : Shape := ⟨2, ![128, 512]⟩
abbrev S1x512 : Shape := ⟨2, ![1, 512]⟩
abbrev S1x128 : Shape := ⟨2, ![1, 128]⟩
abbrev S2x4x128x128 : Shape := ⟨4, ![2, 4, 128, 128]⟩
abbrev S16384x8704 : Shape := ⟨2, ![16384, 8704]⟩
abbrev S16384x512 : Shape := ⟨2, ![16384, 512]⟩
abbrev S16384x128 : Shape := ⟨2, ![16384, 128]⟩
abbrev S_ : Shape := ⟨0, ![]⟩
abbrev S2x8192x4x128 : Shape := ⟨4, ![2, 8192, 4, 128]⟩
abbrev S2x512x16x4x128 : Shape := ⟨5, ![2, 512, 16, 4, 128]⟩
abbrev S512x2x16x4x128 : Shape := ⟨5, ![512, 2, 16, 4, 128]⟩
abbrev S1x2x16x4x128 : Shape := ⟨5, ![1, 2, 16, 4, 128]⟩
abbrev S2x16x4x128 : Shape := ⟨4, ![2, 16, 4, 128]⟩
abbrev S16x16 : Shape := ⟨2, ![16, 16]⟩
abbrev S1x16x16x1x1 : Shape := ⟨5, ![1, 16, 16, 1, 1]⟩
abbrev S2x16x1x4x128 : Shape := ⟨5, ![2, 16, 1, 4, 128]⟩
abbrev S2x1x16x4x128 : Shape := ⟨5, ![2, 1, 16, 4, 128]⟩
abbrev S2x16x16x4x128 : Shape := ⟨5, ![2, 16, 16, 4, 128]⟩
abbrev S2x16x16x4 : Shape := ⟨4, ![2, 16, 16, 4]⟩
abbrev S2x4x128x16 : Shape := ⟨4, ![2, 4, 128, 16]⟩
abbrev S2x1x4x128 : Shape := ⟨4, ![2, 1, 4, 128]⟩
abbrev S2x4x128 : Shape := ⟨3, ![2, 4, 128]⟩
abbrev S2x4x128x1 : Shape := ⟨4, ![2, 4, 128, 1]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 182
  | .vmem => 0
  | .smem => 0
  | _ => 0

abbrev hbmTy0_0 (i : Nat) : BufTy := match i % 128 with
  | 0 => ⟨S16896x8704, .f32⟩
  | 1 => ⟨S128x512, .f32⟩
  | 2 => ⟨S1x512, .f32⟩
  | 3 => ⟨S1x128, .f32⟩
  | 4 => ⟨S2x4x128x128, .f32⟩
  | 5 => ⟨S16384x8704, .f32⟩
  | 6 => ⟨S16384x512, .f32⟩
  | 7 => ⟨S16384x512, .f32⟩
  | 8 => ⟨S16384x512, .f32⟩
  | 9 => ⟨S16384x128, .f32⟩
  | 10 => ⟨S16384x512, .f32⟩
  | 11 => ⟨S16384x512, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S16384x512, .f32⟩
  | 18 => ⟨S16384x512, .f32⟩
  | 19 => ⟨S16384x512, .i1⟩
  | 20 => ⟨S16384x512, .f32⟩
  | 21 => ⟨S16384x512, .f32⟩
  | 22 => ⟨S16384x512, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S_, .f32⟩
  | 30 => ⟨S16384x512, .f32⟩
  | 31 => ⟨S16384x512, .f32⟩
  | 32 => ⟨S2x8192x4x128, .f32⟩
  | 33 => ⟨S2x8192x4x128, .f32⟩
  | 34 => ⟨S_, .f32⟩
  | 35 => ⟨S2x8192x4x128, .f32⟩
  | 36 => ⟨S2x8192x4x128, .f32⟩
  | 37 => ⟨S2x8192x4x128, .f32⟩
  | 38 => ⟨S2x8192x4x128, .f32⟩
  | 39 => ⟨S2x512x16x4x128, .f32⟩
  | 40 => ⟨S512x2x16x4x128, .f32⟩
  | 41 => ⟨S2x512x16x4x128, .f32⟩
  | 42 => ⟨S512x2x16x4x128, .f32⟩
  | 43 => ⟨S2x512x16x4x128, .f32⟩
  | 44 => ⟨S512x2x16x4x128, .f32⟩
  | 45 => ⟨S2x512x16x4x128, .f32⟩
  | 46 => ⟨S512x2x16x4x128, .f32⟩
  | 47 => ⟨S_, .f32⟩
  | 48 => ⟨S512x2x16x4x128, .f32⟩
  | 49 => ⟨S_, .i32⟩
  | 50 => ⟨S512x2x16x4x128, .f32⟩
  | 51 => ⟨S512x2x16x4x128, .f32⟩
  | 52 => ⟨S512x2x16x4x128, .f32⟩
  | 53 => ⟨S512x2x16x4x128, .f32⟩
  | 54 => ⟨S_, .i32⟩
  | 55 => ⟨S2x4x128x128, .f32⟩
  | 56 => ⟨S512x2x16x4x128, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S1x2x16x4x128, .f32⟩
  | 64 => ⟨S2x16x4x128, .f32⟩
  | 65 => ⟨S_, .i32⟩
  | 66 => ⟨S_, .i32⟩
  | 67 => ⟨S_, .i32⟩
  | 68 => ⟨S_, .i32⟩
  | 69 => ⟨S1x2x16x4x128, .f32⟩
  | 70 => ⟨S2x16x4x128, .f32⟩
  | 71 => ⟨S_, .i32⟩
  | 72 => ⟨S_, .i32⟩
  | 73 => ⟨S_, .i32⟩
  | 74 => ⟨S_, .i32⟩
  | 75 => ⟨S1x2x16x4x128, .f32⟩
  | 76 => ⟨S2x16x4x128, .f32⟩
  | 77 => ⟨S_, .i32⟩
  | 78 => ⟨S_, .i32⟩
  | 79 => ⟨S_, .i32⟩
  | 80 => ⟨S_, .i32⟩
  | 81 => ⟨S1x2x16x4x128, .f32⟩
  | 82 => ⟨S2x16x4x128, .f32⟩
  | 83 => ⟨S_, .f32⟩
  | 84 => ⟨S_, .f32⟩
  | 85 => ⟨S2x16x4x128, .f32⟩
  | 86 => ⟨S_, .i1⟩
  | 87 => ⟨S16x16, .i1⟩
  | 88 => ⟨S16x16, .i32⟩
  | 89 => ⟨S_, .i32⟩
  | 90 => ⟨S16x16, .i32⟩
  | 91 => ⟨S16x16, .i32⟩
  | 92 => ⟨S16x16, .i32⟩
  | 93 => ⟨S16x16, .i1⟩
  | 94 => ⟨S_, .i1⟩
  | 95 => ⟨S16x16, .i1⟩
  | 96 => ⟨S16x16, .i1⟩
  | 97 => ⟨S1x16x16x1x1, .i1⟩
  | 98 => ⟨S2x16x1x4x128, .f32⟩
  | 99 => ⟨S2x1x16x4x128, .f32⟩
  | 100 => ⟨S2x16x16x4x128, .f32⟩
  | 101 => ⟨S2x16x16x4x128, .f32⟩
  | 102 => ⟨S2x16x16x4x128, .f32⟩
  | 103 => ⟨S_, .f32⟩
  | 104 => ⟨S_, .f32⟩
  | 105 => ⟨S2x16x16x4x128, .i1⟩
  | 106 => ⟨S2x16x16x4x128, .f32⟩
  | 107 => ⟨S2x16x16x4x128, .f32⟩
  | 108 => ⟨S2x16x16x4x128, .f32⟩
  | 109 => ⟨S_, .f32⟩
  | 110 => ⟨S_, .f32⟩
  | 111 => ⟨S2x16x16x4x128, .i1⟩
  | 112 => ⟨S2x16x16x4x128, .f32⟩
  | 113 => ⟨S2x16x16x4x128, .f32⟩
  | 114 => ⟨S2x16x1x4x128, .f32⟩
  | 115 => ⟨S2x1x16x4x128, .f32⟩
  | 116 => ⟨S2x16x16x4x128, .f32⟩
  | 117 => ⟨S2x16x16x4x128, .f32⟩
  | 118 => ⟨S2x16x16x4x128, .f32⟩
  | 119 => ⟨S2x16x16x4x128, .f32⟩
  | 120 => ⟨S_, .f32⟩
  | 121 => ⟨S2x16x16x4, .f32⟩
  | 122 => ⟨S2x4x128x16, .f32⟩
  | 123 => ⟨S2x16x4x128, .f32⟩
  | 124 => ⟨S2x1x4x128, .f32⟩
  | 125 => ⟨S2x4x128, .f32⟩
  | 126 => ⟨S2x16x4x128, .f32⟩
  | 127 => ⟨S2x16x4x128, .f32⟩
  | _ => ⟨S16896x8704, .f32⟩

abbrev hbmTy0_1 (i : Nat) : BufTy := match i % 128 with
  | 0 => ⟨S2x1x4x128, .f32⟩
  | 1 => ⟨S2x16x4x128, .f32⟩
  | 2 => ⟨S2x16x4x128, .f32⟩
  | 3 => ⟨S2x16x4x128, .f32⟩
  | 4 => ⟨S2x16x4x128, .f32⟩
  | 5 => ⟨S2x4x128x16, .f32⟩
  | 6 => ⟨S2x16x4x128, .f32⟩
  | 7 => ⟨S2x4x128, .f32⟩
  | 8 => ⟨S2x4x128x1, .f32⟩
  | 9 => ⟨S2x4x128x128, .f32⟩
  | 10 => ⟨S2x4x128x128, .f32⟩
  | 11 => ⟨S2x4x128x128, .f32⟩
  | 12 => ⟨S2x4x128x128, .f32⟩
  | 13 => ⟨S2x16x4x128, .f32⟩
  | 14 => ⟨S1x2x16x4x128, .f32⟩
  | 15 => ⟨S_, .i32⟩
  | 16 => ⟨S_, .i32⟩
  | 17 => ⟨S_, .i32⟩
  | 18 => ⟨S_, .i32⟩
  | 19 => ⟨S512x2x16x4x128, .f32⟩
  | 20 => ⟨S_, .i32⟩
  | 21 => ⟨S_, .i32⟩
  | 22 => ⟨S2x512x16x4x128, .f32⟩
  | 23 => ⟨S2x8192x4x128, .f32⟩
  | 24 => ⟨S16384x512, .f32⟩
  | 25 => ⟨S128, .f32⟩
  | 26 => ⟨S2x8192x4x128, .f32⟩
  | 27 => ⟨S_, .f32⟩
  | 28 => ⟨S2x8192x4, .f32⟩
  | 29 => ⟨S2x8192x4x1, .f32⟩
  | 30 => ⟨S_, .f32⟩
  | 31 => ⟨S2x8192x4x1, .f32⟩
  | 32 => ⟨S2x8192x4x1, .f32⟩
  | 33 => ⟨S_, .f32⟩
  | 34 => ⟨S2x8192x4x1, .f32⟩
  | 35 => ⟨S2x8192x4x1, .f32⟩
  | 36 => ⟨S2x8192x4x1, .f32⟩
  | 37 => ⟨S2x8192x4x128, .f32⟩
  | 38 => ⟨S2x8192x4x128, .f32⟩
  | 39 => ⟨S1x1x1x128, .f32⟩
  | 40 => ⟨S2x8192x4x128, .f32⟩
  | 41 => ⟨S2x8192x4x128, .f32⟩
  | 42 => ⟨S2x8192x4x128, .f32⟩
  | 43 => ⟨S2x8192x4x128, .f32⟩
  | 44 => ⟨S2x8192x4x128, .f32⟩
  | 45 => ⟨S_, .f32⟩
  | 46 => ⟨S2x8192x4x128, .f32⟩
  | 47 => ⟨S2x8192x4x128, .f32⟩
  | 48 => ⟨S_, .f32⟩
  | 49 => ⟨S2x8192x4x128, .f32⟩
  | 50 => ⟨S2x8192x4x128, .f32⟩
  | 51 => ⟨S2x8192x4x128, .f32⟩
  | 52 => ⟨S2x8192x4x128, .f32⟩
  | 53 => ⟨S16384x512, .f32⟩
  | _ => ⟨S16896x8704, .f32⟩

abbrev hbmTy (i : Nat) : BufTy := match i / 128 with
  | 0 => hbmTy0_0 i
  | 1 => hbmTy0_1 i
  | _ => ⟨S16896x8704, .f32⟩

abbrev bufTy : (tb : Table) → Fin (tcTables nBuf tb) → BufTy
  | .hbm, ⟨i, _⟩ => hbmTy i
  | _, _ => ⟨S16896x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_1 : Ref sig .tc := ⟨.hbm, 47, rfl⟩
abbrev main_v27 : Ref sig .tc := ⟨.hbm, 48, rfl⟩
abbrev main_c : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v28_3 : Ref sig .tc := ⟨.hbm, 53, rfl⟩
abbrev main_v28_4 : Ref sig .tc := ⟨.hbm, 54, rfl⟩
abbrev main_v28_5 : Ref sig .tc := ⟨.hbm, 55, rfl⟩
abbrev main_v28_6 : Ref sig .tc := ⟨.hbm, 56, rfl⟩
abbrev main_while0c_c_11 : Ref sig .tc := ⟨.hbm, 57, rfl⟩
abbrev main_while0c_v50 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_c_1 : Ref sig .tc := ⟨.hbm, 61, rfl⟩
abbrev main_while0b_call1_c_2 : Ref sig .tc := ⟨.hbm, 62, rfl⟩
abbrev main_while0b_call1_v0 : Ref sig .tc := ⟨.hbm, 63, rfl⟩
abbrev main_while0b_v50 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_c_2 : Ref sig .tc := ⟨.hbm, 68, rfl⟩
abbrev main_while0b_call2_v0 : Ref sig .tc := ⟨.hbm, 69, rfl⟩
abbrev main_while0b_v51 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_c_2 : Ref sig .tc := ⟨.hbm, 74, rfl⟩
abbrev main_while0b_call3_v0 : Ref sig .tc := ⟨.hbm, 75, rfl⟩
abbrev main_while0b_v52 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_c_2 : Ref sig .tc := ⟨.hbm, 80, rfl⟩
abbrev main_while0b_call4_v0 : Ref sig .tc := ⟨.hbm, 81, rfl⟩
abbrev main_while0b_v53 : Ref sig .tc := ⟨.hbm, 82, rfl⟩
abbrev main_while0b_call5_call0_cst : Ref sig .tc := ⟨.hbm, 83, rfl⟩
abbrev main_while0b_call5_call0_v0 : Ref sig .tc := ⟨.hbm, 84, rfl⟩
abbrev main_while0b_v54 : Ref sig .tc := ⟨.hbm, 85, rfl⟩
abbrev main_while0b_c_11 : Ref sig .tc := ⟨.hbm, 86, rfl⟩
abbrev main_while0b_v55 : Ref sig .tc := ⟨.hbm, 87, rfl⟩
abbrev main_while0b_call6_v0 : Ref sig .tc := ⟨.hbm, 88, rfl⟩
abbrev main_while0b_call6_c : Ref sig .tc := ⟨.hbm, 89, rfl⟩
abbrev main_while0b_call6_v1 : Ref sig .tc := ⟨.hbm, 90, rfl⟩
abbrev main_while0b_call6_v2 : Ref sig .tc := ⟨.hbm, 91, rfl⟩
abbrev main_while0b_call6_v3 : Ref sig .tc := ⟨.hbm, 92, rfl⟩
abbrev main_while0b_call6_v4 : Ref sig .tc := ⟨.hbm, 93, rfl⟩
abbrev main_while0b_call6_c_0 : Ref sig .tc := ⟨.hbm, 94, rfl⟩
abbrev main_while0b_call6_v5 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_cst_12 : Ref sig .tc := ⟨.hbm, 103, rfl⟩
abbrev main_while0b_call7_v0 : Ref sig .tc := ⟨.hbm, 104, rfl⟩
abbrev main_while0b_call7_v1 : Ref sig .tc := ⟨.hbm, 105, rfl⟩
abbrev main_while0b_call7_v2 : Ref sig .tc := ⟨.hbm, 106, rfl⟩
abbrev main_while0b_v63 : Ref sig .tc := ⟨.hbm, 107, rfl⟩
abbrev main_while0b_v64 : Ref sig .tc := ⟨.hbm, 108, rfl⟩
abbrev main_while0b_cst_13 : Ref sig .tc := ⟨.hbm, 109, rfl⟩
abbrev main_while0b_call8_v0 : Ref sig .tc := ⟨.hbm, 110, rfl⟩
abbrev main_while0b_call8_v1 : Ref sig .tc := ⟨.hbm, 111, rfl⟩
abbrev main_while0b_call8_v2 : Ref sig .tc := ⟨.hbm, 112, rfl⟩
abbrev main_while0b_v65 : Ref sig .tc := ⟨.hbm, 113, rfl⟩
abbrev main_while0b_v66 : Ref sig .tc := ⟨.hbm, 114, rfl⟩
abbrev main_while0b_v67 : Ref sig .tc := ⟨.hbm, 115, rfl⟩
abbrev main_while0b_v68 : Ref sig .tc := ⟨.hbm, 116, rfl⟩
abbrev main_while0b_v69 : Ref sig .tc := ⟨.hbm, 117, rfl⟩
abbrev main_while0b_v70 : Ref sig .tc := ⟨.hbm, 118, rfl⟩
abbrev main_while0b_v71 : Ref sig .tc := ⟨.hbm, 119, rfl⟩
abbrev main_while0b_cst_14 : Ref sig .tc := ⟨.hbm, 120, rfl⟩
abbrev main_while0b_v72 : Ref sig .tc := ⟨.hbm, 121, rfl⟩
abbrev main_while0b_v73 : Ref sig .tc := ⟨.hbm, 122, rfl⟩
abbrev main_while0b_v74 : Ref sig .tc := ⟨.hbm, 123, rfl⟩
abbrev main_while0b_v75 : Ref sig .tc := ⟨.hbm, 124, rfl⟩
abbrev main_while0b_v76 : Ref sig .tc := ⟨.hbm, 125, rfl⟩
abbrev main_while0b_v77 : Ref sig .tc := ⟨.hbm, 126, rfl⟩
abbrev main_while0b_v78 : Ref sig .tc := ⟨.hbm, 127, rfl⟩
abbrev main_while0b_v79 : Ref sig .tc := ⟨.hbm, 128, rfl⟩
abbrev main_while0b_v80 : Ref sig .tc := ⟨.hbm, 129, rfl⟩
abbrev main_while0b_v81 : Ref sig .tc := ⟨.hbm, 130, rfl⟩
abbrev main_while0b_v82 : Ref sig .tc := ⟨.hbm, 131, rfl⟩
abbrev main_while0b_v83 : Ref sig .tc := ⟨.hbm, 132, rfl⟩
abbrev main_while0b_v84 : Ref sig .tc := ⟨.hbm, 133, rfl⟩
abbrev main_while0b_v85 : Ref sig .tc := ⟨.hbm, 134, rfl⟩
abbrev main_while0b_v86 : Ref sig .tc := ⟨.hbm, 135, rfl⟩
abbrev main_while0b_v87 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_v91 : Ref sig .tc := ⟨.hbm, 140, rfl⟩
abbrev main_while0b_v92 : Ref sig .tc := ⟨.hbm, 141, rfl⟩
abbrev main_while0b_call9_v0 : Ref sig .tc := ⟨.hbm, 142, rfl⟩
abbrev main_while0b_call9_c : Ref sig .tc := ⟨.hbm, 143, rfl⟩
abbrev main_while0b_call9_c_0 : Ref sig .tc := ⟨.hbm, 144, rfl⟩
abbrev main_while0b_call9_c_1 : Ref sig .tc := ⟨.hbm, 145, rfl⟩
abbrev main_while0b_call9_c_2 : Ref sig .tc := ⟨.hbm, 146, rfl⟩
abbrev main_while0b_v93 : Ref sig .tc := ⟨.hbm, 147, rfl⟩
abbrev main_while0b_c_15 : Ref sig .tc := ⟨.hbm, 148, rfl⟩
abbrev main_while0b_v94 : Ref sig .tc := ⟨.hbm, 149, rfl⟩
abbrev main_v29 : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_cst_2 : Ref sig .tc := ⟨.hbm, 155, rfl⟩
abbrev main_v34 : Ref sig .tc := ⟨.hbm, 156, rfl⟩
abbrev main_v35 : Ref sig .tc := ⟨.hbm, 157, rfl⟩
abbrev main_cst_3 : Ref sig .tc := ⟨.hbm, 158, rfl⟩
abbrev main_v36 : Ref sig .tc := ⟨.hbm, 159, rfl⟩
abbrev main_v37 : Ref sig .tc := ⟨.hbm, 160, rfl⟩
abbrev main_cst_4 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_call10_v0 : Ref sig .tc := ⟨.hbm, 171, rfl⟩
abbrev main_call10_v1 : Ref sig .tc := ⟨.hbm, 172, rfl⟩
abbrev main_call10_cst : Ref sig .tc := ⟨.hbm, 173, rfl⟩
abbrev main_call10_v2 : Ref sig .tc := ⟨.hbm, 174, rfl⟩
abbrev main_call10_v3 : Ref sig .tc := ⟨.hbm, 175, rfl⟩
abbrev main_call10_cst_0 : Ref sig .tc := ⟨.hbm, 176, rfl⟩
abbrev main_call10_v4 : Ref sig .tc := ⟨.hbm, 177, rfl⟩
abbrev main_call10_v5 : Ref sig .tc := ⟨.hbm, 178, rfl⟩
abbrev main_v47 : Ref sig .tc := ⟨.hbm, 179, rfl⟩
abbrev main_v48 : Ref sig .tc := ⟨.hbm, 180, rfl⟩
abbrev main_v49 : Ref sig .tc := ⟨.hbm, 181, rfl⟩

abbrev nD : Nat := 1
abbrev τ : Topo := Topo.v7x

variable {F : FTy → Type} [FloatOps F]

abbrev main_while0_count : Scf.Loop 32 := ⟨0#32, 512#32, 1#32⟩
-- ==== Proof.Head.lean ====
/-
  One head of the kernel's chunk of 128 tokens, written once: the four heads of the body are this function of their
  column slices, and so are the parts of it that repeat (the sixteen steps over a diagonal block's keys, the three
  levels of the off-diagonal attention).
-/
module

public import proofs.«01_k».proof.Proof.Gen.KernelIdeal

@[expose] public section

noncomputable section

namespace Cert.Proof.Head

open Cert.KernelIdeal Cert.KernelIdeal.Gen Idealize.ShloMosaic

variable {F : FTy → Type} [FloatOps F]

/-- The log decay of a forget-gate block under its lower bound. -/
def gateLog (zf : FVec F S128x128 .f32) (lb : FVec F S1x128 .f32) : FVec F S128x128 .f32 :=
  log (maximumf
    (addf (broadcastTo S128x128 lb broadcasts_S1x128_S128x128)
      (mulf (broadcastTo S128x128 (subf (broadcast S1x128 (Scalar.ofBits .f32 0x3F800000#32)) lb) broadcasts_S1x128_S128x128)
        (logistic zf)))
    (broadcast S128x128 (Scalar.ofBits .f32 0x0DA24260#32)))

/-- The key block: one minus the gate. -/
def gateKey (zf : FVec F S128x128 .f32) (lb : FVec F S1x128 .f32) : FVec F S128x128 .f32 :=
  mulf (broadcastTo S128x128 (subf (broadcast S1x128 (Scalar.ofBits .f32 0x3F800000#32)) lb) broadcasts_S1x128_S128x128)
    (logistic (subf (broadcast S128x128 (Scalar.ofBits .f32 0x00000000#32)) zf))

/-- The query block: silu, scaled. -/
def gateQuery (zq : FVec F S128x128 .f32) : FVec F S128x128 .f32 :=
  mulf (mulf zq (logistic zq)) (broadcast S128x128 (Scalar.ofBits .f32 0x3DB504F3#32))

/-- The lower triangle of ones. -/
def tril : FVec F S128x128 .bf16 :=
  truncf .bf16 (sitofp .f32 (extui 32
    (cmpi .sle (iota .tc S128x128 32 [1] iota_S128x128_d1_w32) (iota .tc S128x128 32 [0] iota_S128x128_d0_w32))
    natLt_1_32)) bitsLt_bf16_f32

/-- The first part of a block split in three. -/
def part1 (x : FVec F S128x128 .f32) : FVec F S128x128 .bf16 := truncf .bf16 x bitsLt_bf16_f32

/-- What the first part leaves. -/
def rest1 (x : FVec F S128x128 .f32) : FVec F S128x128 .f32 := subf x (extf .f32 (part1 x) bitsLt_bf16_f32)

/-- The running sum of the log decays: the triangle times the three parts of them. -/
def running (x : FVec F S128x128 .f32) : FVec F S128x128 .f32 :=
  addf
    (addf (matmul dot_S128x128_S128x128_S128x128_1_0_0_1_n_n none tril (part1 x) (constant S128x128 .f32 0x00000000#32))
      (matmul dot_S128x128_S128x128_S128x128_1_0_0_1_n_n none tril (part1 (rest1 x)) (constant S128x128 .f32 0x00000000#32)))
    (matmul dot_S128x128_S128x128_S128x128_1_0_0_1_n_n none tril (part1 (rest1 (rest1 x))) (constant S128x128 .f32 0x00000000#32))

/-- The rows of the eight blocks of sixteen that key `j` of a block may reach. -/
def reach (w : BitVec 32) : IVec S8x16x1 1 :=
  cmpi .sge (iota .tc S8x16x1 32 [1] iota_S8x16x1_d1_w32) (broadcast S8x16x1 w)

/-- Key `j`'s weight in each row of its block of sixteen. -/
def diagWeight (j : ℕ) (w : BitVec 32) (hs : S8x16x128.Slices ![0, j, 0] S8x1x128) (b q k : FVec F S8x16x128 .f32) :
    FVec F S8x16x1 .f32 :=
  select (reach w)
    (shapeCast S8x16x1
      (multiReduction .add [2] S8x16
        (mulf (mulf q (broadcastTo S8x16x128 (extractStridedSlice S8x1x128 ![0, j, 0] k hs) broadcasts_S8x1x128_S8x16x128))
          (exp (select
            (broadcastTo S8x16x128 (shapeCast S8x16x1 (reach w) shapeCasts_S8x16x1_S8x16x1) broadcasts_S8x16x1_S8x16x128)
            (subf b (broadcastTo S8x16x128 (extractStridedSlice S8x1x128 ![0, j, 0] b hs) broadcasts_S8x1x128_S8x16x128))
            (broadcast S8x16x128 (Scalar.ofBits .f32 0x00000000#32)))))
        0x00000000#32 reduces_S8x16x128_S8x16 (.inl rfl) rfl)
      shapeCasts_S8x16_S8x16x1)
    (broadcast S8x16x1 (Scalar.ofBits .f32 0x00000000#32))

/-- One step over the diagonal blocks: key `j`'s value row, by its weight, added to what the earlier keys gave. -/
def diagStep (j : ℕ) (w : BitVec 32) (hs : S8x16x128.Slices ![0, j, 0] S8x1x128) (b q k v o : FVec F S8x16x128 .f32) :
    FVec F S8x16x128 .f32 :=
  addf o (mulf (broadcastTo S8x16x128 (diagWeight j w hs b q k) broadcasts_S8x16x1_S8x16x128)
    (broadcastTo S8x16x128 (extractStridedSlice S8x1x128 ![0, j, 0] v hs) broadcasts_S8x1x128_S8x16x128))

/-- The sixteen steps. -/
def diagAll (b q k v : FVec F S8x16x128 .f32) : FVec F S8x16x128 .f32 :=
  diagStep 15 15#32 slices_S8x16x128_o0_15_0_S8x1x128 b q k v <|
  diagStep 14 14#32 slices_S8x16x128_o0_14_0_S8x1x128 b q k v <|
  diagStep 13 13#32 slices_S8x16x128_o0_13_0_S8x1x128 b q k v <|
  diagStep 12 12#32 slices_S8x16x128_o0_12_0_S8x1x128 b q k v <|
  diagStep 11 11#32 slices_S8x16x128_o0_11_0_S8x1x128 b q k v <|
  diagStep 10 10#32 slices_S8x16x128_o0_10_0_S8x1x128 b q k v <|
  diagStep 9 9#32 slices_S8x16x128_o0_9_0_S8x1x128 b q k v <|
  diagStep 8 8#32 slices_S8x16x128_o0_8_0_S8x1x128 b q k v <|
  diagStep 7 7#32 slices_S8x16x128_o0_7_0_S8x1x128 b q k v <|
  diagStep 6 6#32 slices_S8x16x128_o0_6_0_S8x1x128 b q k v <|
  diagStep 5 5#32 slices_S8x16x128_o0_5_0_S8x1x128 b q k v <|
  diagStep 4 4#32 slices_S8x16x128_o0_4_0_S8x1x128 b q k v <|
  diagStep 3 3#32 slices_S8x16x128_o0_3_0_S8x1x128 b q k v <|
  diagStep 2 2#32 slices_S8x16x128_o0_2_0_S8x1x128 b q k v <|
  diagStep 1 1#32 slices_S8x16x128_o0_1_0_S8x1x128 b q k v <|
  diagStep 0 0#32 slices_S8x16x128_o0_0_0_S8x1x128 b q k v
    (broadcast S8x16x128 (Scalar.ofBits .f32 0x00000000#32))

/-- The diagonal blocks' part of the output, as one block of 128 rows. -/
def diag (cum q k v : FVec F S128x128 .f32) : FVec F S128x128 .f32 :=
  shapeCast S128x128
    (diagAll (shapeCast S8x16x128 cum shapeCasts_S128x128_S8x16x128) (shapeCast S8x16x128 q shapeCasts_S128x128_S8x16x128)
      (shapeCast S8x16x128 k shapeCasts_S128x128_S8x16x128) (shapeCast S8x16x128 v shapeCasts_S128x128_S8x16x128))
    shapeCasts_S8x16x128_S128x128

/-- The second halves of a level's blocks. -/
def second (nb blk : ℕ) (S : Shape) (hi : (⟨3, ![nb, blk, 1]⟩ : Shape).Iotas .tc 32 [1])
    (hm : (⟨3, ![nb, blk, 1]⟩ : Shape).ShapeCasts ⟨3, ![nb, blk, 1]⟩) (hbm : (⟨3, ![nb, blk, 1]⟩ : Shape).Broadcasts S)
    (w : BitVec 32) : IVec S 1 :=
  broadcastTo S (shapeCast ⟨3, ![nb, blk, 1]⟩ (cmpi .sge (iota .tc ⟨3, ![nb, blk, 1]⟩ 32 [1] hi)
    (broadcast ⟨3, ![nb, blk, 1]⟩ w)) hm) hbm

/-- A level's decays: from a block's middle to a row of its second half, from a row of its first half to the middle. -/
def lvlDecay (S S1 : Shape) (off : Fin S.rank → ℕ) (hc : S128x128.ShapeCasts S) (hs : S.Slices off S1)
    (hb : S1.Broadcasts S) (sec : IVec S 1) (cum : FVec F S128x128 .f32) : FVec F S .f32 :=
  exp (select sec
    (subf (shapeCast S cum hc) (broadcastTo S (extractStridedSlice S1 off (shapeCast S cum hc) hs) hb))
    (subf (broadcast S (Scalar.ofBits .f32 0x00000000#32))
      (subf (shapeCast S cum hc) (broadcastTo S (extractStridedSlice S1 off (shapeCast S cum hc) hs) hb))))

/-- A level's queries: the second halves' rows, decayed. -/
def lvlQuery (S : Shape) (hc : S128x128.ShapeCasts S) (hr : S.ShapeCasts S128x128) (sec : IVec S 1) (e : FVec F S .f32)
    (q : FVec F S128x128 .f32) : FVec F S128x128 .bf16 :=
  truncf .bf16 (shapeCast S128x128 (select sec (mulf (shapeCast S q hc) e) (broadcast S (Scalar.ofBits .f32 0x00000000#32))) hr)
    bitsLt_bf16_f32

/-- A level's keys: the first halves' rows, decayed. -/
def lvlKey (S : Shape) (hc : S128x128.ShapeCasts S) (hr : S.ShapeCasts S128x128) (sec : IVec S 1) (e : FVec F S .f32)
    (k : FVec F S128x128 .f32) : FVec F S128x128 .bf16 :=
  truncf .bf16 (shapeCast S128x128 (select sec (broadcast S (Scalar.ofBits .f32 0x00000000#32)) (mulf (shapeCast S k hc) e)) hr)
    bitsLt_bf16_f32

/-- A level's attention: its queries against its keys, inside a block. -/
def lvlAttn (sh : BitVec 32) (qt kt : FVec F S128x128 .bf16) : FVec F S128x128 .f32 :=
  select
    (cmpi .eq (shrsi (iota .tc S128x128 32 [0] iota_S128x128_d0_w32) (broadcast S128x128 sh))
      (shrsi (iota .tc S128x128 32 [1] iota_S128x128_d1_w32) (broadcast S128x128 sh)))
    (matmul dot_S128x128_S128x128_S128x128_1_1_0_0_n_n none qt kt (constant S128x128 .f32 0x00000000#32))
    (broadcast S128x128 (Scalar.ofBits .f32 0x00000000#32))

/-- The mask of the level of one block of 128. -/
abbrev sec64 : IVec S1x128x128 1 :=
  second 1 128 S1x128x128 iota_S1x128x1_d1_w32 shapeCasts_S1x128x1_S1x128x1 broadcasts_S1x128x1_S1x128x128 64#32

/-- The decays of the level of one block of 128. -/
abbrev dec64 (cum : FVec F S128x128 .f32) : FVec F S1x128x128 .f32 :=
  lvlDecay S1x128x128 S1x1x128 ![0, 63, 0] shapeCasts_S128x128_S1x128x128 slices_S1x128x128_o0_63_0_S1x1x128
    broadcasts_S1x1x128_S1x128x128 sec64 cum

/-- The mask of the level of two blocks of 64. -/
abbrev sec32 : IVec S2x64x128 1 :=
  second 2 64 S2x64x128 iota_S2x64x1_d1_w32 shapeCasts_S2x64x1_S2x64x1 broadcasts_S2x64x1_S2x64x128 32#32

/-- The decays of the level of two blocks of 64. -/
abbrev dec32 (cum : FVec F S128x128 .f32) : FVec F S2x64x128 .f32 :=
  lvlDecay S2x64x128 S2x1x128 ![0, 31, 0] shapeCasts_S128x128_S2x64x128 slices_S2x64x128_o0_31_0_S2x1x128
    broadcasts_S2x1x128_S2x64x128 sec32 cum

/-- The mask of the level of four blocks of 32. -/
abbrev sec16 : IVec S4x32x128 1 :=
  second 4 32 S4x32x128 iota_S4x32x1_d1_w32 shapeCasts_S4x32x1_S4x32x1 broadcasts_S4x32x1_S4x32x128 16#32

/-- The decays of the level of four blocks of 32. -/
abbrev dec16 (cum : FVec F S128x128 .f32) : FVec F S4x32x128 .f32 :=
  lvlDecay S4x32x128 S4x1x128 ![0, 15, 0] shapeCasts_S128x128_S4x32x128 slices_S4x32x128_o0_15_0_S4x1x128
    broadcasts_S4x1x128_S4x32x128 sec16 cum

/-- The attention between different blocks of sixteen. -/
def attn (cum q k : FVec F S128x128 .f32) : FVec F S128x128 .f32 :=
  addf
    (addf
      (addf (broadcast S128x128 (Scalar.ofBits .f32 0x00000000#32))
        (lvlAttn 7#32
          (lvlQuery S1x128x128 shapeCasts_S128x128_S1x128x128 shapeCasts_S1x128x128_S128x128 sec64 (dec64 cum) q)
          (lvlKey S1x128x128 shapeCasts_S128x128_S1x128x128 shapeCasts_S1x128x128_S128x128 sec64 (dec64 cum) k)))
      (lvlAttn 6#32
        (lvlQuery S2x64x128 shapeCasts_S128x128_S2x64x128 shapeCasts_S2x64x128_S128x128 sec32 (dec32 cum) q)
        (lvlKey S2x64x128 shapeCasts_S128x128_S2x64x128 shapeCasts_S2x64x128_S128x128 sec32 (dec32 cum) k)))
    (lvlAttn 5#32
      (lvlQuery S4x32x128 shapeCasts_S128x128_S4x32x128 shapeCasts_S4x32x128_S128x128 sec16 (dec16 cum) q)
      (lvlKey S4x32x128 shapeCasts_S128x128_S4x32x128 shapeCasts_S4x32x128_S128x128 sec16 (dec16 cum) k))

/-- What the chunk gives of its own keys. -/
def inner (cum q k v : FVec F S128x128 .f32) : FVec F S128x128 .f32 :=
  addf (diag cum q k v)
    (matmul dot_S128x128_S128x128_S128x128_1_0_0_1_n_n none (truncf .bf16 (attn cum q k) bitsLt_bf16_f32)
      (truncf .bf16 v bitsLt_bf16_f32) (constant S128x128 .f32 0x00000000#32))

/-- … and of the state it was given (stored value by key). -/
def outer (cum q st : FVec F S128x128 .f32) : FVec F S128x128 .f32 :=
  matmul dot_S128x128_S128x128_S128x128_1_1_0_0_n_n none (truncf .bf16 (mulf q (exp cum)) bitsLt_bf16_f32)
    (truncf .bf16 st bitsLt_bf16_f32) (constant S128x128 .f32 0x00000000#32)

/-- The head's reading of its chunk. -/
def out (cum q k v st : FVec F S128x128 .f32) : FVec F S128x128 .f32 := addf (inner cum q k v) (outer cum q st)

/-- The state after the chunk (value by key). -/
def next (cum k v st : FVec F S128x128 .f32) : FVec F S128x128 .f32 :=
  addf
    (mulf st (broadcastTo S128x128 (exp (extractStridedSlice S1x128 ![127, 0] cum slices_S128x128_o127_0_S1x128))
      broadcasts_S1x128_S128x128))
    (matmul dot_S128x128_S128x128_S128x128_0_0_1_1_n_n none (truncf .bf16 v bitsLt_bf16_f32)
      (truncf .bf16 (mulf k (exp (subf
        (broadcastTo S128x128 (extractStridedSlice S1x128 ![127, 0] cum slices_S128x128_o127_0_S1x128) broadcasts_S1x128_S128x128)
        cum))) bitsLt_bf16_f32)
      (constant S128x128 .f32 0x00000000#32))

/-- The finish: the reading normalised over its row, weighted, gated. -/
def finish (o : FVec F S128x128 .f32) (nw : FVec F S1x128 .f32) (gate : FVec F S128x128 .f32) : FVec F S128x128 .f32 :=
  mulf
    (mulf
      (mulf o
        (broadcastTo S128x128
          (rsqrt (addf
            (divf
              (shapeCast S128x1 (multiReduction .add [1] S128 (mulf o o) 0x00000000#32 reduces_S128x128_S128 (.inl rfl) rfl)
                shapeCasts_S128_S128x1)
              (broadcast S128x1 (Scalar.ofBits .f32 0x43000000#32)))
            (broadcast S128x1 (Scalar.ofBits .f32 0x358637BD#32))))
          broadcasts_S128x1_S128x128))
      (broadcastTo S128x128 nw broadcasts_S1x128_S128x128))
    (mulf gate (logistic gate))

/-- A state as the scratch holds it, and back. -/
def unpackState (s : FVec F S1x128x128 .f32) : FVec F S128x128 .f32 := shapeCast S128x128 s shapeCasts_S1x128x128_S128x128

/-- A state, as the scratch holds it. -/
def packState (s : FVec F S128x128 .f32) : FVec F S1x128x128 .f32 := shapeCast S1x128x128 s shapeCasts_S128x128_S1x128x128

/-- One head's output block of a chunk, from the column slices of the chunk and the head's scratch slice. -/
def headOut (zq zf v gate : FVec F S128x128 .f32) (lb nw : FVec F S1x128 .f32) (st : FVec F S1x128x128 .f32) :
    FVec F S128x128 .f32 :=
  finish (out (running (gateLog zf lb)) (gateQuery zq) (gateKey zf lb) v (unpackState st)) nw gate

/-- One head's scratch slice after a chunk. -/
def headState (zf v : FVec F S128x128 .f32) (lb : FVec F S1x128 .f32) (st : FVec F S1x128x128 .f32) : FVec F S1x128x128 .f32 :=
  packState (next (running (gateLog zf lb)) (gateKey zf lb) v (unpackState st))

/-- A head's entry state as the scratch takes it: transposed to value by key. -/
def stateIn (s : FVec F S1x1x128x128 .f32) : FVec F S1x128x128 .f32 :=
  shapeCast S1x128x128 (transpose S128x128 [1, 0] (shapeCast S128x128 s shapeCasts_S1x1x128x128_S128x128)
    transposes_S128x128_p1_0_S128x128) shapeCasts_S128x128_S1x128x128

/-- A head's last state as the output takes it: transposed back. -/
def stateOut (s : FVec F S1x128x128 .f32) : FVec F S1x1x128x128 .f32 :=
  shapeCast S1x1x128x128 (transpose S128x128 [1, 0] (shapeCast S128x128 s shapeCasts_S1x128x128_S128x128)
    transposes_S128x128_p1_0_S128x128) shapeCasts_S128x128_S1x1x128x128

end Cert.Proof.Head
-- ==== Proof.Pieces.lean ====
/-
  What the kernel's body stores, in its three cases, as the head function of `Head` at the four column slices: the first
  chunk of a sequence (the scratch filled from the entry states before the heads run), a middle chunk, and the last one
  (the scratch copied to the state output after them).
-/
module

public import proofs.«01_k».proof.Proof.Gen.KernelIdeal.Value
public import proofs.«01_k».proof.Proof.Head

@[expose] public section

set_option maxRecDepth 16384

noncomputable section

namespace Cert.Proof.Pieces

open Cert.KernelIdeal Cert.KernelIdeal.Gen Idealize.ShloMosaic Idealize.ShloMosaic.TcCoe Idealize.SL.Sem Cert.Proof.Head

variable {F : FTy → Type} [FloatOps F]

/-- The rectangle of a head's columns. -/
abbrev colRect (o : ℕ) (inb : ∀ a, (![0, o] : Fin 2 → ℕ) a + S128x128.size a ≤ S128x512.size a) : Rect S128x512 :=
  Rect.unit ![0, o] S128x128.size inb

/-- The rectangle of a head's lower bounds. -/
abbrev lbRect (o : ℕ) (inb : ∀ a, (![0, o] : Fin 2 → ℕ) a + S1x128.size a ≤ S1x512.size a) : Rect S1x512 :=
  Rect.unit ![0, o] S1x128.size inb

/-- The rectangle of a head's slice of the scratch. -/
abbrev slotRect (h : ℕ) (inb : ∀ a, (![h, 0, 0] : Fin 3 → ℕ) a + S1x128x128.size a ≤ S4x128x128.size a) : Rect S4x128x128 :=
  Rect.unit ![h, 0, 0] S1x128x128.size inb

/-- The rectangle of a head's slice of the state windows. -/
abbrev winRect (h : ℕ) (inb : ∀ a, (![0, h, 0, 0] : Fin 4 → ℕ) a + S1x1x128x128.size a ≤ S1x4x128x128.size a) :
    Rect S1x4x128x128 :=
  Rect.unit ![0, h, 0, 0] S1x1x128x128.size inb

variable (x0 x1 x2 x3 : Vec F S128x512 .f32) (x4 : Vec F S1x512 .f32) (x5 : Vec F S1x128 .f32)
  (x6 : Vec F S1x4x128x128 .f32) (xs : Vec F S4x128x128 .f32)

/-- A head's output from its columns. -/
def outAt (o : ℕ) (inb : ∀ a, (![0, o] : Fin 2 → ℕ) a + S128x128.size a ≤ S128x512.size a)
    (inl : ∀ a, (![0, o] : Fin 2 → ℕ) a + S1x128.size a ≤ S1x512.size a) (st : FVec F S1x128x128 .f32) : FVec F S128x128 .f32 :=
  headOut (View.ld x0 (colRect o inb)) (View.ld x1 (colRect o inb)) (View.ld x2 (colRect o inb)) (View.ld x3 (colRect o inb))
    (View.ld x4 (lbRect o inl)) (View.ld x5 (Rect.unit ![0, 0] S1x128.size inb_S1x128_S1x128_0_0)) st

/-- A head's next state from its columns. -/
def nextAt (o : ℕ) (inb : ∀ a, (![0, o] : Fin 2 → ℕ) a + S128x128.size a ≤ S128x512.size a)
    (inl : ∀ a, (![0, o] : Fin 2 → ℕ) a + S1x128.size a ≤ S1x512.size a) (st : FVec F S1x128x128 .f32) : FVec F S1x128x128 .f32 :=
  headState (View.ld x1 (colRect o inb)) (View.ld x2 (colRect o inb)) (View.ld x4 (lbRect o inl)) st

/-- The stores into the output block, last first. -/
def outList (s0 s1 s2 s3 : FVec F S1x128x128 .f32) : List (View.Piece (Elt F) S128x512 .f32) :=
  [⟨colRect 384 inb_S128x512_S128x128_0_384, outAt x0 x1 x2 x3 x4 x5 384 inb_S128x512_S128x128_0_384 inb_S1x512_S1x128_0_384 s3⟩,
   ⟨colRect 256 inb_S128x512_S128x128_0_256, outAt x0 x1 x2 x3 x4 x5 256 inb_S128x512_S128x128_0_256 inb_S1x512_S1x128_0_256 s2⟩,
   ⟨colRect 128 inb_S128x512_S128x128_0_128, outAt x0 x1 x2 x3 x4 x5 128 inb_S128x512_S128x128_0_128 inb_S1x512_S1x128_0_128 s1⟩,
   ⟨colRect 0 inb_S128x512_S128x128_0_0, outAt x0 x1 x2 x3 x4 x5 0 inb_S128x512_S128x128_0_0 inb_S1x512_S1x128_0_0 s0⟩]

/-- Pieces that fill the scratch slice by slice, over others. -/
def slotList (t0 t1 t2 t3 : FVec F S1x128x128 .f32) (L : List (View.Piece (Elt F) S4x128x128 .f32)) :
    List (View.Piece (Elt F) S4x128x128 .f32) :=
  ⟨slotRect 3 inb_S4x128x128_S1x128x128_3_0_0, t3⟩ :: ⟨slotRect 2 inb_S4x128x128_S1x128x128_2_0_0, t2⟩
    :: ⟨slotRect 1 inb_S4x128x128_S1x128x128_1_0_0, t1⟩ :: ⟨slotRect 0 inb_S4x128x128_S1x128x128_0_0_0, t0⟩ :: L

/-- The heads' stores into the scratch, over others. -/
def stateList (s0 s1 s2 s3 : FVec F S1x128x128 .f32) (L : List (View.Piece (Elt F) S4x128x128 .f32)) :
    List (View.Piece (Elt F) S4x128x128 .f32) :=
  slotList
    (nextAt x1 x2 x4 0 inb_S128x512_S128x128_0_0 inb_S1x512_S1x128_0_0 s0)
    (nextAt x1 x2 x4 128 inb_S128x512_S128x128_0_128 inb_S1x512_S1x128_0_128 s1)
    (nextAt x1 x2 x4 256 inb_S128x512_S128x128_0_256 inb_S1x512_S1x128_0_256 s2)
    (nextAt x1 x2 x4 384 inb_S128x512_S128x128_0_384 inb_S1x512_S1x128_0_384 s3) L

/-- The stores into the state output, last first. -/
def winList (s0 s1 s2 s3 : FVec F S1x128x128 .f32) : List (View.Piece (Elt F) S1x4x128x128 .f32) :=
  [⟨winRect 3 inb_S1x4x128x128_S1x1x128x128_0_3_0_0, stateOut s3⟩,
   ⟨winRect 2 inb_S1x4x128x128_S1x1x128x128_0_2_0_0, stateOut s2⟩,
   ⟨winRect 1 inb_S1x4x128x128_S1x1x128x128_0_1_0_0, stateOut s1⟩,
   ⟨winRect 0 inb_S1x4x128x128_S1x1x128x128_0_0_0_0, stateOut s0⟩]

/-- The scratch's slices. -/
abbrev slot0 : FVec F S1x128x128 .f32 := View.ld xs (slotRect 0 inb_S4x128x128_S1x128x128_0_0_0)
abbrev slot1 : FVec F S1x128x128 .f32 := View.ld xs (slotRect 1 inb_S4x128x128_S1x128x128_1_0_0)
abbrev slot2 : FVec F S1x128x128 .f32 := View.ld xs (slotRect 2 inb_S4x128x128_S1x128x128_2_0_0)
abbrev slot3 : FVec F S1x128x128 .f32 := View.ld xs (slotRect 3 inb_S4x128x128_S1x128x128_3_0_0)

/-- The entry states, as the scratch takes them. -/
abbrev in0 : FVec F S1x128x128 .f32 := stateIn (View.ld x6 (winRect 0 inb_S1x4x128x128_S1x1x128x128_0_0_0_0))
abbrev in1 : FVec F S1x128x128 .f32 := stateIn (View.ld x6 (winRect 1 inb_S1x4x128x128_S1x1x128x128_0_1_0_0))
abbrev in2 : FVec F S1x128x128 .f32 := stateIn (View.ld x6 (winRect 2 inb_S1x4x128x128_S1x1x128x128_0_2_0_0))
abbrev in3 : FVec F S1x128x128 .f32 := stateIn (View.ld x6 (winRect 3 inb_S1x4x128x128_S1x1x128x128_0_3_0_0))

/-- A load of a rectangle just stored. -/
theorem readCov_hit {σ : RefSig} {κ : Kind} {sp : Space} {s : Shape} {e : EltTy} (v : View σ κ sp s e) (r : Rect s)
    (w : r.shape.Idx → Elt F e) (L : List (View.Piece (Elt F) s e)) :
    v.readCov (Val := Elt F) (⟨r, w⟩ :: L) r.toLoadRect = w :=
  funext fun j => View.read_writes_cons_emb v v.junk r w L j

/-- A load of another slice than the one just stored. -/
theorem readCov_miss {σ : RefSig} {κ : Kind} {sp : Space} (v : View σ κ sp S4x128x128 .f32) (h h' : ℕ) (hne : h ≠ h')
    (inb : ∀ a, (![h, 0, 0] : Fin 3 → ℕ) a + S1x128x128.size a ≤ S4x128x128.size a)
    (inb' : ∀ a, (![h', 0, 0] : Fin 3 → ℕ) a + S1x128x128.size a ≤ S4x128x128.size a) (w : FVec F S1x128x128 .f32)
    (L : List (View.Piece (Elt F) S4x128x128 .f32)) :
    v.readCov (Val := Elt F) (⟨slotRect h inb, w⟩ :: L) (slotRect h' inb').toLoadRect
      = v.readCov (Val := Elt F) L (slotRect h' inb').toLoadRect :=
  View.readCov_cons_of_disjoint v (⟨slotRect h inb, w⟩ : View.Piece (Elt F) S4x128x128 .f32) L (slotRect h' inb').toLoadRect
    (Rect.unit_disjoint (inb := inb) (inb' := inb') 0 (by
      show h + 1 ≤ h' ∨ h' + 1 ≤ h
      omega))

/-- The loads of a scratch filled slice by slice. -/
theorem readCov_slots {σ : RefSig} {κ : Kind} {sp : Space} (v : View σ κ sp S4x128x128 .f32) (t0 t1 t2 t3 : FVec F S1x128x128 .f32)
    (L : List (View.Piece (Elt F) S4x128x128 .f32)) :
    v.readCov (Val := Elt F) (slotList t0 t1 t2 t3 L) (slotRect 0 inb_S4x128x128_S1x128x128_0_0_0).toLoadRect = t0
    ∧ v.readCov (Val := Elt F) (slotList t0 t1 t2 t3 L) (slotRect 1 inb_S4x128x128_S1x128x128_1_0_0).toLoadRect = t1
    ∧ v.readCov (Val := Elt F) (slotList t0 t1 t2 t3 L) (slotRect 2 inb_S4x128x128_S1x128x128_2_0_0).toLoadRect = t2
    ∧ v.readCov (Val := Elt F) (slotList t0 t1 t2 t3 L) (slotRect 3 inb_S4x128x128_S1x128x128_3_0_0).toLoadRect = t3 := by
  unfold slotList
  refine ⟨?_, ?_, ?_, ?_⟩
  · exact (readCov_miss v 3 0 (by decide) _ _ _ _).trans ((readCov_miss v 2 0 (by decide) _ _ _ _).trans
      ((readCov_miss v 1 0 (by decide) _ _ _ _).trans (readCov_hit v _ _ _)))
  · exact (readCov_miss v 3 1 (by decide) _ _ _ _).trans ((readCov_miss v 2 1 (by decide) _ _ _ _).trans (readCov_hit v _ _ _))
  · exact (readCov_miss v 3 2 (by decide) _ _ _ _).trans (readCov_hit v _ _ _)
  · exact readCov_hit v _ _ _

section Runs

variable (c : Dev nD) (i : grid0.Coords) (arg2 : Memref sig .tc .vmem S128x512 .f32) (harg2 : arg2.IsWhole)
  (arg3 : Memref sig .tc .vmem S128x512 .f32) (harg3 : arg3.IsWhole) (arg4 : Memref sig .tc .vmem S128x512 .f32)
  (harg4 : arg4.IsWhole) (arg5 : Memref sig .tc .vmem S128x512 .f32) (harg5 : arg5.IsWhole)
  (arg6 : Memref sig .tc .vmem S1x512 .f32) (harg6 : arg6.IsWhole) (arg7 : Memref sig .tc .vmem S1x128 .f32)
  (harg7 : arg7.IsWhole) (arg8 : Memref sig .tc .vmem S1x4x128x128 .f32) (harg8 : arg8.IsWhole)
  (arg9 : Memref sig .tc .vmem S128x512 .f32) (harg9 : arg9.IsWhole) (arg10 : Memref sig .tc .vmem S1x4x128x128 .f32)
  (harg10 : arg10.IsWhole) (arg11 : Memref sig .tc .vmem S4x128x128 .f32) (harg11 : arg11.IsWhole)

/-- A middle chunk's stores. -/
theorem run_B (hc0 : ¬cond0_0 i) (hc1 : ¬cond0_1 i) :
    (kernelRun0_B c i arg2 harg2 arg3 harg3 arg4 harg4 arg5 harg5 arg6 harg6 arg7 harg7 arg8 harg8 arg9 harg9 arg10 harg10
      arg11 harg11 hc0 hc1 x0 x1 x2 x3 x4 x5 x6 xs).1
        = outList x0 x1 x2 x3 x4 x5 (slot0 xs) (slot1 xs) (slot2 xs) (slot3 xs)
    ∧ (kernelRun0_B c i arg2 harg2 arg3 harg3 arg4 harg4 arg5 harg5 arg6 harg6 arg7 harg7 arg8 harg8 arg9 harg9 arg10 harg10
      arg11 harg11 hc0 hc1 x0 x1 x2 x3 x4 x5 x6 xs).2.2.1
        = stateList x1 x2 x4 (slot0 xs) (slot1 xs) (slot2 xs) (slot3 xs) [] := by
  unfold kernelRun0_B
  dsimp only
  sl_unfold_words
  simp only [View.readAt_eq_ld, harg2.read_unread, harg3.read_unread, harg4.read_unread, harg5.read_unread,
    harg6.read_unread, harg7.read_unread, harg11.read_unread]
  exact ⟨rfl, rfl⟩

/-- The last chunk's stores. -/
theorem run_C (hc0 : ¬cond0_0 i) (hc1 : cond0_1 i) :
    (kernelRun0_C c i arg2 harg2 arg3 harg3 arg4 harg4 arg5 harg5 arg6 harg6 arg7 harg7 arg8 harg8 arg9 harg9 arg10 harg10
      arg11 harg11 hc0 hc1 x0 x1 x2 x3 x4 x5 x6 xs).1
        = outList x0 x1 x2 x3 x4 x5 (slot0 xs) (slot1 xs) (slot2 xs) (slot3 xs)
    ∧ (kernelRun0_C c i arg2 harg2 arg3 harg3 arg4 harg4 arg5 harg5 arg6 harg6 arg7 harg7 arg8 harg8 arg9 harg9 arg10 harg10
      arg11 harg11 hc0 hc1 x0 x1 x2 x3 x4 x5 x6 xs).2.2.1
        = stateList x1 x2 x4 (slot0 xs) (slot1 xs) (slot2 xs) (slot3 xs) []
    ∧ (kernelRun0_C c i arg2 harg2 arg3 harg3 arg4 harg4 arg5 harg5 arg6 harg6 arg7 harg7 arg8 harg8 arg9 harg9 arg10 harg10
      arg11 harg11 hc0 hc1 x0 x1 x2 x3 x4 x5 x6 xs).2.1
        = winList
            (nextAt x1 x2 x4 0 inb_S128x512_S128x128_0_0 inb_S1x512_S1x128_0_0 (slot0 xs))
            (nextAt x1 x2 x4 128 inb_S128x512_S128x128_0_128 inb_S1x512_S1x128_0_128 (slot1 xs))
            (nextAt x1 x2 x4 256 inb_S128x512_S128x128_0_256 inb_S1x512_S1x128_0_256 (slot2 xs))
            (nextAt x1 x2 x4 384 inb_S128x512_S128x128_0_384 inb_S1x512_S1x128_0_384 (slot3 xs)) := by
  unfold kernelRun0_C
  dsimp only
  sl_unfold_words
  simp only [View.readAt_eq_ld, harg2.read_unread, harg3.read_unread, harg4.read_unread, harg5.read_unread,
    harg6.read_unread, harg7.read_unread, harg11.read_unread]
  refine ⟨rfl, rfl, ?_⟩
  obtain ⟨e0, e1, e2, e3⟩ := readCov_slots (F := F) arg11.view
    (nextAt x1 x2 x4 0 inb_S128x512_S128x128_0_0 inb_S1x512_S1x128_0_0 (slot0 xs))
    (nextAt x1 x2 x4 128 inb_S128x512_S128x128_0_128 inb_S1x512_S1x128_0_128 (slot1 xs))
    (nextAt x1 x2 x4 256 inb_S128x512_S128x128_0_256 inb_S1x512_S1x128_0_256 (slot2 xs))
    (nextAt x1 x2 x4 384 inb_S128x512_S128x128_0_384 inb_S1x512_S1x128_0_384 (slot3 xs)) []
  refine Eq.trans ?_ (congr (congr (congr (congrArg winList e0) e1) e2) e3)
  rfl

/-- The first chunk's stores. -/
theorem run_A (hc0 : cond0_0 i) (hc1 : ¬cond0_1 i) :
    (kernelRun0_A c i arg2 harg2 arg3 harg3 arg4 harg4 arg5 harg5 arg6 harg6 arg7 harg7 arg8 harg8 arg9 harg9 arg10 harg10
      arg11 harg11 hc0 hc1 x0 x1 x2 x3 x4 x5 x6).1
        = outList x0 x1 x2 x3 x4 x5 (in0 x6) (in1 x6) (in2 x6) (in3 x6)
    ∧ (kernelRun0_A c i arg2 harg2 arg3 harg3 arg4 harg4 arg5 harg5 arg6 harg6 arg7 harg7 arg8 harg8 arg9 harg9 arg10 harg10
      arg11 harg11 hc0 hc1 x0 x1 x2 x3 x4 x5 x6).2.2.1
        = stateList x1 x2 x4 (in0 x6) (in1 x6) (in2 x6) (in3 x6) (slotList (in0 x6) (in1 x6) (in2 x6) (in3 x6) []) := by
  unfold kernelRun0_A
  dsimp only
  sl_unfold_words
  simp only [View.readAt_eq_ld, harg2.read_unread, harg3.read_unread, harg4.read_unread, harg5.read_unread,
    harg6.read_unread, harg7.read_unread, harg8.read_unread]
  obtain ⟨e0, e1, e2, e3⟩ := readCov_slots (F := F) arg11.view (in0 x6) (in1 x6) (in2 x6) (in3 x6) []
  have f1 := fun t0 => (readCov_miss (F := F) arg11.view 0 1 (by decide) inb_S4x128x128_S1x128x128_0_0_0
    inb_S4x128x128_S1x128x128_1_0_0 t0 (slotList (in0 x6) (in1 x6) (in2 x6) (in3 x6) [])).trans e1
  have f2 := fun t0 t1 => (readCov_miss (F := F) arg11.view 1 2 (by decide) inb_S4x128x128_S1x128x128_1_0_0
    inb_S4x128x128_S1x128x128_2_0_0 t1 (⟨slotRect 0 inb_S4x128x128_S1x128x128_0_0_0, t0⟩ ::
      slotList (in0 x6) (in1 x6) (in2 x6) (in3 x6) [])).trans ((readCov_miss (F := F) arg11.view 0 2 (by decide)
      inb_S4x128x128_S1x128x128_0_0_0 inb_S4x128x128_S1x128x128_2_0_0 t0
      (slotList (in0 x6) (in1 x6) (in2 x6) (in3 x6) [])).trans e2)
  have f3 := fun t0 t1 t2 => (readCov_miss (F := F) arg11.view 2 3 (by decide) inb_S4x128x128_S1x128x128_2_0_0
    inb_S4x128x128_S1x128x128_3_0_0 t2 (⟨slotRect 1 inb_S4x128x128_S1x128x128_1_0_0, t1⟩ ::
      ⟨slotRect 0 inb_S4x128x128_S1x128x128_0_0_0, t0⟩ :: slotList (in0 x6) (in1 x6) (in2 x6) (in3 x6) [])).trans
    ((readCov_miss (F := F) arg11.view 1 3 (by decide) inb_S4x128x128_S1x128x128_1_0_0 inb_S4x128x128_S1x128x128_3_0_0 t1
      (⟨slotRect 0 inb_S4x128x128_S1x128x128_0_0_0, t0⟩ :: slotList (in0 x6) (in1 x6) (in2 x6) (in3 x6) [])).trans
    ((readCov_miss (F := F) arg11.view 0 3 (by decide) inb_S4x128x128_S1x128x128_0_0_0 inb_S4x128x128_S1x128x128_3_0_0 t0
      (slotList (in0 x6) (in1 x6) (in2 x6) (in3 x6) [])).trans e3))
  set t0 := nextAt x1 x2 x4 0 inb_S128x512_S128x128_0_0 inb_S1x512_S1x128_0_0
    (arg11.view.readCov (Val := Elt F) (slotList (in0 x6) (in1 x6) (in2 x6) (in3 x6) [])
      (slotRect 0 inb_S4x128x128_S1x128x128_0_0_0).toLoadRect) with ht0
  set t1 := nextAt x1 x2 x4 128 inb_S128x512_S128x128_0_128 inb_S1x512_S1x128_0_128
    (arg11.view.readCov (Val := Elt F) (⟨slotRect 0 inb_S4x128x128_S1x128x128_0_0_0, t0⟩ ::
      slotList (in0 x6) (in1 x6) (in2 x6) (in3 x6) []) (slotRect 1 inb_S4x128x128_S1x128x128_1_0_0).toLoadRect) with ht1
  set t2 := nextAt x1 x2 x4 256 inb_S128x512_S128x128_0_256 inb_S1x512_S1x128_0_256
    (arg11.view.readCov (Val := Elt F) (⟨slotRect 1 inb_S4x128x128_S1x128x128_1_0_0, t1⟩ ::
      ⟨slotRect 0 inb_S4x128x128_S1x128x128_0_0_0, t0⟩ ::
      slotList (in0 x6) (in1 x6) (in2 x6) (in3 x6) []) (slotRect 2 inb_S4x128x128_S1x128x128_2_0_0).toLoadRect) with ht2
  constructor
  · refine Eq.trans ?_ (congr (congr (congr (congrArg (outList x0 x1 x2 x3 x4 x5) e0) (f1 t0)) (f2 t0 t1)) (f3 t0 t1 t2))
    rfl
  · refine Eq.trans ?_ (congrFun (congr (congr (congr (congrArg (stateList x1 x2 x4) e0) (f1 t0)) (f2 t0 t1)) (f3 t0 t1 t2)) _)
    rfl

/-- A first chunk's output block. -/
theorem out_A (hc0 : cond0_0 i) (hc1 : ¬cond0_1 i) :
    out0_A_7 c i arg2 harg2 arg3 harg3 arg4 harg4 arg5 harg5 arg6 harg6 arg7 harg7 arg8 harg8 arg9 harg9 arg10 harg10
      arg11 harg11 hc0 hc1 x0 x1 x2 x3 x4 x5 x6
      = View.canon (outList x0 x1 x2 x3 x4 x5 (in0 x6) (in1 x6) (in2 x6) (in3 x6)) := by
  unfold out0_A_7
  rw [View.read_writes_eq_canon _ _ _ (cover0_A_7 c i arg2 harg2 arg3 harg3 arg4 harg4 arg5 harg5 arg6 harg6 arg7 harg7 arg8 harg8 arg9 harg9 arg10 harg10
      arg11 harg11 hc0 hc1 x0 x1 x2 x3 x4 x5 x6),
    (run_A x0 x1 x2 x3 x4 x5 x6 c i arg2 harg2 arg3 harg3 arg4 harg4 arg5 harg5 arg6 harg6 arg7 harg7 arg8 harg8 arg9 harg9 arg10 harg10 arg11 harg11 hc0 hc1).1]

/-- A first chunk's scratch. -/
theorem scratch_A (hc0 : cond0_0 i) (hc1 : ¬cond0_1 i) :
    sout0_A_0 c i arg2 harg2 arg3 harg3 arg4 harg4 arg5 harg5 arg6 harg6 arg7 harg7 arg8 harg8 arg9 harg9 arg10 harg10
      arg11 harg11 hc0 hc1 x0 x1 x2 x3 x4 x5 x6
      = View.canon (stateList x1 x2 x4 (in0 x6) (in1 x6) (in2 x6) (in3 x6) (slotList (in0 x6) (in1 x6) (in2 x6) (in3 x6) [])) := by
  unfold sout0_A_0
  rw [View.read_writes_eq_canon _ _ _ (scover0_A_0 c i arg2 harg2 arg3 harg3 arg4 harg4 arg5 harg5 arg6 harg6 arg7 harg7 arg8 harg8 arg9 harg9 arg10 harg10
      arg11 harg11 hc0 hc1 x0 x1 x2 x3 x4 x5 x6),
    (run_A x0 x1 x2 x3 x4 x5 x6 c i arg2 harg2 arg3 harg3 arg4 harg4 arg5 harg5 arg6 harg6 arg7 harg7 arg8 harg8 arg9 harg9 arg10 harg10 arg11 harg11 hc0 hc1).2]

/-- A middle chunk's output block. -/
theorem out_B (hc0 : ¬cond0_0 i) (hc1 : ¬cond0_1 i) :
    out0_B_7 c i arg2 harg2 arg3 harg3 arg4 harg4 arg5 harg5 arg6 harg6 arg7 harg7 arg8 harg8 arg9 harg9 arg10 harg10
      arg11 harg11 hc0 hc1 x0 x1 x2 x3 x4 x5 x6 xs
      = View.canon (outList x0 x1 x2 x3 x4 x5 (slot0 xs) (slot1 xs) (slot2 xs) (slot3 xs)) := by
  unfold out0_B_7
  rw [View.read_writes_eq_canon _ _ _ (cover0_B_7 c i arg2 harg2 arg3 harg3 arg4 harg4 arg5 harg5 arg6 harg6 arg7 harg7 arg8 harg8 arg9 harg9 arg10 harg10
      arg11 harg11 hc0 hc1 x0 x1 x2 x3 x4 x5 x6 xs),
    (run_B x0 x1 x2 x3 x4 x5 x6 xs c i arg2 harg2 arg3 harg3 arg4 harg4 arg5 harg5 arg6 harg6 arg7 harg7 arg8 harg8 arg9 harg9 arg10 harg10 arg11 harg11 hc0 hc1).1]

/-- A middle chunk's scratch. -/
theorem scratch_B (hc0 : ¬cond0_0 i) (hc1 : ¬cond0_1 i) :
    sout0_B_0 c i arg2 harg2 arg3 harg3 arg4 harg4 arg5 harg5 arg6 harg6 arg7 harg7 arg8 harg8 arg9 harg9 arg10 harg10
      arg11 harg11 hc0 hc1 x0 x1 x2 x3 x4 x5 x6 xs
      = View.canon (stateList x1 x2 x4 (slot0 xs) (slot1 xs) (slot2 xs) (slot3 xs) []) := by
  unfold sout0_B_0
  rw [View.read_writes_eq_canon _ _ _ (scover0_B_0 c i arg2 harg2 arg3 harg3 arg4 harg4 arg5 harg5 arg6 harg6 arg7 harg7 arg8 harg8 arg9 harg9 arg10 harg10
      arg11 harg11 hc0 hc1 x0 x1 x2 x3 x4 x5 x6 xs),
    (run_B x0 x1 x2 x3 x4 x5 x6 xs c i arg2 harg2 arg3 harg3 arg4 harg4 arg5 harg5 arg6 harg6 arg7 harg7 arg8 harg8 arg9 harg9 arg10 harg10 arg11 harg11 hc0 hc1).2]

/-- A last chunk's output block. -/
theorem out_C (hc0 : ¬cond0_0 i) (hc1 : cond0_1 i) :
    out0_C_7 c i arg2 harg2 arg3 harg3 arg4 harg4 arg5 harg5 arg6 harg6 arg7 harg7 arg8 harg8 arg9 harg9 arg10 harg10
      arg11 harg11 hc0 hc1 x0 x1 x2 x3 x4 x5 x6 xs
      = View.canon (outList x0 x1 x2 x3 x4 x5 (slot0 xs) (slot1 xs) (slot2 xs) (slot3 xs)) := by
  unfold out0_C_7
  rw [View.read_writes_eq_canon _ _ _ (cover0_C_7 c i arg2 harg2 arg3 harg3 arg4 harg4 arg5 harg5 arg6 harg6 arg7 harg7 arg8 harg8 arg9 harg9 arg10 harg10
      arg11 harg11 hc0 hc1 x0 x1 x2 x3 x4 x5 x6 xs),
    (run_C x0 x1 x2 x3 x4 x5 x6 xs c i arg2 harg2 arg3 harg3 arg4 harg4 arg5 harg5 arg6 harg6 arg7 harg7 arg8 harg8 arg9 harg9 arg10 harg10 arg11 harg11 hc0 hc1).1]

/-- A last chunk's scratch. -/
theorem scratch_C (hc0 : ¬cond0_0 i) (hc1 : cond0_1 i) :
    sout0_C_0 c i arg2 harg2 arg3 harg3 arg4 harg4 arg5 harg5 arg6 harg6 arg7 harg7 arg8 harg8 arg9 harg9 arg10 harg10
      arg11 harg11 hc0 hc1 x0 x1 x2 x3 x4 x5 x6 xs
      = View.canon (stateList x1 x2 x4 (slot0 xs) (slot1 xs) (slot2 xs) (slot3 xs) []) := by
  unfold sout0_C_0
  rw [View.read_writes_eq_canon _ _ _ (scover0_C_0 c i arg2 harg2 arg3 harg3 arg4 harg4 arg5 harg5 arg6 harg6 arg7 harg7 arg8 harg8 arg9 harg9 arg10 harg10
      arg11 harg11 hc0 hc1 x0 x1 x2 x3 x4 x5 x6 xs),
    (run_C x0 x1 x2 x3 x4 x5 x6 xs c i arg2 harg2 arg3 harg3 arg4 harg4 arg5 harg5 arg6 harg6 arg7 harg7 arg8 harg8 arg9 harg9 arg10 harg10 arg11 harg11 hc0 hc1).2.1]

/-- The last chunk's state block. -/
theorem last_C (hc0 : ¬cond0_0 i) (hc1 : cond0_1 i) :
    out0_C_8 c i arg2 harg2 arg3 harg3 arg4 harg4 arg5 harg5 arg6 harg6 arg7 harg7 arg8 harg8 arg9 harg9 arg10 harg10
      arg11 harg11 hc0 hc1 x0 x1 x2 x3 x4 x5 x6 xs
      = View.canon (winList
          (nextAt x1 x2 x4 0 inb_S128x512_S128x128_0_0 inb_S1x512_S1x128_0_0 (slot0 xs))
          (nextAt x1 x2 x4 128 inb_S128x512_S128x128_0_128 inb_S1x512_S1x128_0_128 (slot1 xs))
          (nextAt x1 x2 x4 256 inb_S128x512_S128x128_0_256 inb_S1x512_S1x128_0_256 (slot2 xs))
          (nextAt x1 x2 x4 384 inb_S128x512_S128x128_0_384 inb_S1x512_S1x128_0_384 (slot3 xs))) := by
  unfold out0_C_8
  rw [View.read_writes_eq_canon _ _ _ (cover0_C_8 c i arg2 harg2 arg3 harg3 arg4 harg4 arg5 harg5 arg6 harg6 arg7 harg7 arg8 harg8 arg9 harg9 arg10 harg10
      arg11 harg11 hc0 hc1 x0 x1 x2 x3 x4 x5 x6 xs),
    (run_C x0 x1 x2 x3 x4 x5 x6 xs c i arg2 harg2 arg3 harg3 arg4 harg4 arg5 harg5 arg6 harg6 arg7 harg7 arg8 harg8 arg9 harg9 arg10 harg10 arg11 harg11 hc0 hc1).2.2]

end Runs

end Cert.Proof.Pieces
-- ==== Proof.RefLoop.lean ====
/-
  The reference's counted loop read as a sequence of states: the carried buffers of the run, as the state one trip hands
  the next, start at `init` of the arguments and go on by `step`.
-/
module

public import proofs.«01_k».proof.Proof.Gen.ReferenceIdeal.Run
public import proofs.«01_k».proof.Proof.Gen.ReferenceIdeal.Step

@[expose] public section

noncomputable section

open Idealize.ShloMosaic Idealize.ShloMosaic.TcCoe Idealize.SL.Sem Idealize.ShloMosaic.StableHlo

namespace Cert.Proof.RefLoop

open Cert.ReferenceIdeal Cert.ReferenceIdeal.Gen Cert.ReferenceIdeal.Value
open Cert.ReferenceIdeal.Step (State step init)

variable {F : FTy → Type} [FloatOps F]

/-- The carried buffers of a valuation, as one trip's state. -/
def stateOf (V : Valuation τ sig (Elt F)) : State F where
  main_v49_5 := V (Proc.devRef .tc main_v49_5)
  main_v49_6 := V (Proc.devRef .tc main_v49_6)
  main_v49_0 := V (Proc.devRef .tc main_v49_0)
  main_v49_1 := V (Proc.devRef .tc main_v49_1)
  main_v49_2 := V (Proc.devRef .tc main_v49_2)
  main_v49_3 := V (Proc.devRef .tc main_v49_3)

set_option maxRecDepth 8192 in
/-- One trip at counter `j` is `step j` on the carried buffers. -/
theorem stateOf_STEP (V : Valuation τ sig (Elt F)) (j : ℕ)
    (hn : V (Proc.devRef .tc main_v49_4) = constantI S_ 32 (BitVec.ofNat 32 j)) :
    stateOf (STEP V) = step j (stateOf V) := by
  have e5 : step_main_v49_5 V = (step j (stateOf V)).main_v49_5 := by
    unfold step_main_v49_5 res_main_while0b_v97 res_main_while0b_v75 res_main_while0b_v72 res_main_while0b_v73
    rw [hn]; rfl
  have e6 : step_main_v49_6 V = (step j (stateOf V)).main_v49_6 := by
    unfold step_main_v49_6 res_main_while0b_v78 res_main_while0b_v75 res_main_while0b_v71 res_main_while0b_v72 res_main_while0b_v73
    rw [hn]; rfl
  unfold stateOf
  rw [STEP_main_v49_5, STEP_main_v49_6, STEP_main_v49_0, STEP_main_v49_1, STEP_main_v49_2, STEP_main_v49_3, e5, e6]
  rfl

/-- One trip raises the counter by one. -/
theorem counter_STEP (V : Valuation τ sig (Elt F)) (j : ℕ)
    (hn : V (Proc.devRef .tc main_v49_4) = constantI S_ 32 (BitVec.ofNat 32 j)) :
    STEP V (Proc.devRef .tc main_v49_4) = constantI S_ 32 (BitVec.ofNat 32 (j + 1)) := by
  rw [STEP_main_v49_4]
  unfold step_main_v49_4
  rw [hn]
  funext i
  exact (BitVec.ofNat_add j 1).symm

/-- The reference's sequence of states: `init` of its arguments, then `step` trip by trip. -/
def refIter (z : (⟨S16896x8704, .f32⟩ : BufTy).Contents (Elt F)) (lb : (⟨S1x512, .f32⟩ : BufTy).Contents (Elt F))
    (s0 : (⟨S2x4x128x128, .f32⟩ : BufTy).Contents (Elt F)) : ℕ → State F
  | 0 => init s0 z lb
  | n + 1 => step n (refIter z lb s0 n)

variable (m : (ℓ : Loc nD τ sig) → Buf (Elt F) ℓ) (c : Dev nD)

set_option maxRecDepth 65536 in
set_option maxHeartbeats 400000 in
/-- What the operations before the loop leave in the carried buffers is `init` of the arguments. -/
theorem entry_state : stateOf (entryContents preI m c) =
    init (m ((c.tc : Thread nD τ).loc main_arg3)) (m ((c.tc : Thread nD τ).loc main_arg0)) (m ((c.tc : Thread nD τ).loc main_arg1)) := by
  unfold stateOf
  simp only [entryContents, afterL_cons, afterL_nil]
  after_reads_simp
  rfl

set_option maxRecDepth 65536 in
/-- The counter starts at zero. -/
theorem entry_counter : entryContents preI m c (Proc.devRef .tc main_v49_4) = constantI S_ 32 (BitVec.ofNat 32 0) := by
  simp only [entryContents, afterL_cons, afterL_nil]
  after_reads_simp
  rfl

/-- After `k` trips the counter is `k` and the carried buffers are the `k`-th state of the sequence. -/
theorem iter_state : ∀ k, (STEP^[k] (entryContents preI m c)) (Proc.devRef .tc main_v49_4) = constantI S_ 32 (BitVec.ofNat 32 k)
    ∧ stateOf (STEP^[k] (entryContents preI m c)) = refIter (m ((c.tc : Thread nD τ).loc main_arg0))
      (m ((c.tc : Thread nD τ).loc main_arg1)) (m ((c.tc : Thread nD τ).loc main_arg3)) k
  | 0 => ⟨entry_counter m c, entry_state m c⟩
  | k + 1 => by
    rw [Function.iterate_succ_apply']
    obtain ⟨h1, h2⟩ := iter_state k
    exact ⟨counter_STEP _ k h1, by rw [stateOf_STEP _ k h1, h2]; rfl⟩

end Cert.Proof.RefLoop

end
-- ==== Proof.Recur.lean ====
/-
  The gated linear recurrence over the extended reals, in closed form.

  A channel `d` decays by the real log factor `g i d` at token `i`, and takes the outer product of a real key and a real
  value row. The entry state may hold anything, infinities too, so the state is an extended real: a real decay times
  the entry, plus a real sum. `state_block` and `out_block` say how a block of `L` tokens moves the closed form on and
  what it reads from it, for any `L`; the reference uses them with blocks of 16 tokens, the kernel with chunks of 128.
-/
module

public import Mathlib.Data.EReal.Operations
public import Mathlib.Analysis.SpecialFunctions.Exp

public section

namespace Cert.Proof.Recur

/-- A real factor distributes over an extended real plus a real. -/
theorem mul_add_real (a c : ℝ) (x : EReal) : (a : EReal) * (x + (c : EReal)) = (a : EReal) * x + ((a * c : ℝ) : EReal) := by
  induction x with
  | bot =>
    rw [EReal.bot_add]
    rcases lt_trichotomy a 0 with h | h | h
    · rw [EReal.coe_mul_bot_of_neg h, EReal.top_add_coe]
    · subst h; simp
    · rw [EReal.coe_mul_bot_of_pos h, EReal.bot_add]
  | coe x => norm_cast; ring
  | top =>
    rw [EReal.top_add_coe]
    rcases lt_trichotomy a 0 with h | h | h
    · rw [EReal.coe_mul_top_of_neg h, EReal.bot_add]
    · subst h; simp
    · rw [EReal.coe_mul_top_of_pos h, EReal.top_add_coe]

/-- Two real factors in front of an extended real are one. -/
theorem mul_mul_real (a b : ℝ) (x : EReal) : (a : EReal) * ((b : EReal) * x) = ((a * b : ℝ) : EReal) * x := by
  rw [← mul_assoc, EReal.coe_mul]

/-- A finite sum of reals, read as an extended real, is the sum of the terms so read. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

variable (g k q vv : ℕ → Fin 128 → ℝ) (s0 : Fin 128 → Fin 128 → EReal)

/-- The log decay of channel `d` over the tokens before `n`. -/
noncomputable def C (n : ℕ) (d : Fin 128) : ℝ := ∑ i ∈ Finset.range n, g i d

/-- The state before token `n`. -/
noncomputable def stateAt (n : ℕ) (d v : Fin 128) : EReal :=
  ((Real.exp (C g n d) : ℝ) : EReal) * s0 d v
    + ((∑ j ∈ Finset.range n, Real.exp (C g n d - C g (j + 1) d) * k j d * vv j v : ℝ) : EReal)

/-- What token `i` reads of the state just after it. -/
noncomputable def outAt (i : ℕ) (v : Fin 128) : EReal :=
  (∑ d, ((q i d * Real.exp (C g (i + 1) d) : ℝ) : EReal) * s0 d v)
    + ((∑ j ∈ Finset.range (i + 1), (∑ d, q i d * Real.exp (C g (i + 1) d - C g (j + 1) d) * k j d) * vv j v : ℝ) : EReal)

theorem stateAt_zero (d v : Fin 128) : stateAt g k vv s0 0 d v = s0 d v := by
  simp [stateAt, C]

theorem C_add (n L : ℕ) (d : Fin 128) : C g (n + L) d = C g n d + ∑ j ∈ Finset.range L, g (n + j) d := by
  unfold C; rw [Finset.sum_range_add]

/-- A block of `L` tokens: the old state decayed by the whole block, plus each key decayed from its place to the end. -/
theorem state_block (n L : ℕ) (d v : Fin 128) :
    ((Real.exp (C g (n + L) d - C g n d) : ℝ) : EReal) * stateAt g k vv s0 n d v
      + ((∑ j ∈ Finset.range L, (k (n + j) d * Real.exp (C g (n + L) d - C g (n + j + 1) d)) * vv (n + j) v : ℝ) : EReal)
      = stateAt g k vv s0 (n + L) d v := by
  unfold stateAt
  rw [mul_add_real, mul_mul_real, ← Real.exp_add, sub_add_cancel, add_assoc, ← EReal.coe_add, Finset.sum_range_add,
    Finset.mul_sum]
  congr 2
  congr 1
  · refine Finset.sum_congr rfl fun j _ => ?_
    rw [← mul_assoc, ← mul_assoc, ← Real.exp_add, sub_add_sub_cancel]
  · exact Finset.sum_congr rfl fun j _ => by ring

/-- The token `i` of a block that starts at token `n`: what it reads of the old state, decayed from the block's start, plus
    what it reads of the block's own keys up to itself. -/
theorem out_block (n i : ℕ) (v : Fin 128) :
    (∑ d, ((q (n + i) d * Real.exp (C g (n + i + 1) d - C g n d) : ℝ) : EReal) * stateAt g k vv s0 n d v)
      + ((∑ j ∈ Finset.range (i + 1),
          (∑ d, q (n + i) d * Real.exp (C g (n + i + 1) d - C g (n + j + 1) d) * k (n + j) d) * vv (n + j) v : ℝ) : EReal)
      = outAt g k q vv s0 (n + i) v := by
  unfold outAt stateAt
  have h1 : ∀ d : Fin 128, ((q (n + i) d * Real.exp (C g (n + i + 1) d - C g n d) : ℝ) : EReal)
        * (((Real.exp (C g n d) : ℝ) : EReal) * s0 d v
          + ((∑ j ∈ Finset.range n, Real.exp (C g n d - C g (j + 1) d) * k j d * vv j v : ℝ) : EReal))
      = ((q (n + i) d * Real.exp (C g (n + i + 1) d) : ℝ) : EReal) * s0 d v
        + ((∑ j ∈ Finset.range n, q (n + i) d * Real.exp (C g (n + i + 1) d - C g (j + 1) d) * k j d * vv j v : ℝ) : EReal) := by
    intro d
    rw [mul_add_real, mul_mul_real, mul_assoc, ← Real.exp_add, sub_add_cancel, Finset.mul_sum]
    congr 2
    refine Finset.sum_congr rfl fun j _ => ?_
    have : Real.exp (C g (n + i + 1) d - C g (j + 1) d)
        = Real.exp (C g (n + i + 1) d - C g n d) * Real.exp (C g n d - C g (j + 1) d) := by
      rw [← Real.exp_add, sub_add_sub_cancel]
    rw [this]; ring
  rw [Finset.sum_congr rfl fun d _ => h1 d, Finset.sum_add_distrib, add_assoc, ← coe_sum, ← EReal.coe_add]
  congr 2
  rw [show n + i + 1 = n + (i + 1) by omega, Finset.sum_range_add (n := n) (m := i + 1), Finset.sum_comm]
  congr 1
  refine Finset.sum_congr rfl fun j _ => ?_
  rw [Finset.sum_mul]

end Cert.Proof.Recur
-- ==== Proof.Gates.lean ====
/-
  The gates of the recurrence as scalar functions: the log decay, the key and the query of a channel, over the extended
  reals, and where they are real.
-/
module

public import Idealize.ShloMosaic.Lib.Pointwise
public import proofs.«01_k».proof.Proof.Recur

@[expose] public section

namespace Cert.Proof.Gates

open Idealize.ShloMosaic Idealize.ShloMosaic.Pointwise

local notation "𝕀" => Idealize.ShloMosaic.Ideal

/-- The log decay under a lower bound. -/
noncomputable def gate1 (l x : EReal) : EReal :=
  Ideal.log (max (l + (1 - l) * Ideal.logistic x) (Ideal.ofBits .f32 0x0DA24260#32))

/-- The key: one minus the gate. -/
noncomputable def key1 (l x : EReal) : EReal := (1 - l) * Ideal.logistic (-x)

/-- The query: silu, scaled. -/
noncomputable def query1 (x : EReal) : EReal := x * Ideal.logistic x * Ideal.ofBits .f32 0x3DB504F3#32

/-- A head's readings of a token, normalized over the head, weighted, and gated by a silu. -/
noncomputable def finish1 (o : Fin 128 → EReal) (w x : EReal) (e : Fin 128) : EReal :=
  o e * Ideal.rsqrt (Ideal.div (∑ y, o y * o y) (Ideal.ofBits .f32 0x43000000#32) + Ideal.ofBits .f32 0x358637BD#32) * w
    * (x * Ideal.logistic x)

/-- The gate's floor is a positive real. -/
theorem floor_pos : ∃ c : ℝ, 0 < c ∧ Ideal.ofBits .f32 0x0DA24260#32 = (c : EReal) := by
  refine ⟨_, ?_, by simp [Ideal.ofBits, Ideal.ieee]; rfl⟩
  positivity

/-- The queries' scale is a real. -/
theorem scale_real : ∃ c : ℝ, Ideal.ofBits .f32 0x3DB504F3#32 = (c : EReal) := by
  refine ⟨_, by simp [Ideal.ofBits, Ideal.ieee]; rfl⟩

/-- The logistic function is real everywhere. -/
theorem logistic_real (x : EReal) : ∃ r : ℝ, Ideal.logistic x = (r : EReal) := by
  induction x with
  | bot => exact ⟨0, by simp⟩
  | top => exact ⟨1, by simp⟩
  | coe r => exact ⟨_, Ideal.logistic_coe r⟩

/-- A number neither infinite is real. -/
theorem real_of_ne {x : EReal} (h : x ≠ ⊤ ∧ x ≠ ⊥) : ∃ r : ℝ, x = (r : EReal) := ⟨x.toReal, (EReal.coe_toReal h.1 h.2).symm⟩

/-- A real number is its own real part. -/
theorem eq_toReal {x : EReal} (h : ∃ r : ℝ, x = (r : EReal)) : x = (x.toReal : EReal) := by
  obtain ⟨r, rfl⟩ := h
  rw [EReal.toReal_coe]

/-- The log decay is real where the lower bound is. -/
theorem gate1_real {l : EReal} (hl : l ≠ ⊤ ∧ l ≠ ⊥) (x : EReal) : gate1 l x = ((gate1 l x).toReal : EReal) := by
  refine eq_toReal ?_
  obtain ⟨a, rfl⟩ := real_of_ne hl
  obtain ⟨y, hy⟩ := logistic_real x
  obtain ⟨c, hc, e⟩ := floor_pos
  unfold gate1
  rw [hy, e]
  refine ⟨Real.log (max (a + (1 - a) * y) c), ?_⟩
  rw [show (1 : EReal) = ((1 : ℝ) : EReal) from rfl, ← EReal.coe_sub, ← EReal.coe_mul, ← EReal.coe_add,
    ← Monotone.map_max (f := ((↑) : ℝ → EReal)) EReal.coe_strictMono.monotone, Ideal.log_coe,
    if_neg (not_le.2 (lt_max_of_lt_right hc))]

/-- The key is real where the lower bound is. -/
theorem key1_real {l : EReal} (hl : l ≠ ⊤ ∧ l ≠ ⊥) (x : EReal) : key1 l x = ((key1 l x).toReal : EReal) := by
  refine eq_toReal ?_
  obtain ⟨a, rfl⟩ := real_of_ne hl
  obtain ⟨y, hy⟩ := logistic_real (-x)
  unfold key1
  rw [hy]
  exact ⟨(1 - a) * y, by
    rw [show (1 : EReal) = ((1 : ℝ) : EReal) from rfl, ← EReal.coe_sub, ← EReal.coe_mul]⟩

/-- The query is real below plus infinity; that of minus infinity is zero. -/
theorem query1_real {x : EReal} (hx : x ≠ ⊤) : query1 x = ((query1 x).toReal : EReal) := by
  refine eq_toReal ?_
  obtain ⟨c, e⟩ := scale_real
  unfold query1
  by_cases hb : x = ⊥
  · rw [hb, e]
    exact ⟨0, by simp⟩
  obtain ⟨a, rfl⟩ := real_of_ne ⟨hx, hb⟩
  obtain ⟨y, hy⟩ := logistic_real a
  rw [hy, e]
  exact ⟨a * y * c, by rw [EReal.coe_mul, EReal.coe_mul]⟩

section Data

variable (z : (⟨2, ![16896, 8704]⟩ : Shape).Idx → EReal) (lb : (⟨2, ![1, 512]⟩ : Shape).Idx → EReal)
  (s0 : (⟨4, ![2, 4, 128, 128]⟩ : Shape).Idx → EReal) (b : Fin 2) (h : Fin 4)

/-- A sequence's token as a row of the projected tokens. -/
abbrev tok (n : ℕ) : Fin 16896 := ⟨(b.val * 8192 + n) % 16896, Nat.mod_lt _ (by decide)⟩

/-- A head's channel as a column, from the columns' start. -/
abbrev col (o : ℕ) (ho : o + 512 ≤ 8704) (d : Fin 128) : Fin 8704 := ⟨o + (h.val * 128 + d.val), by omega⟩

/-- A head's channel as a column of the lower bounds. -/
abbrev ch (d : Fin 128) : Fin 512 := ⟨h.val * 128 + d.val, by omega⟩

/-- A head's log decays. -/
noncomputable def G (n : ℕ) (d : Fin 128) : ℝ :=
  (gate1 (lb (ix2 0 (ch h d))) (z (ix2 (tok b n) (col h 3584 (by decide) d)))).toReal

/-- A head's keys. -/
noncomputable def K (n : ℕ) (d : Fin 128) : ℝ :=
  (key1 (lb (ix2 0 (ch h d))) (z (ix2 (tok b n) (col h 3584 (by decide) d)))).toReal

/-- A head's queries. -/
noncomputable def Q (n : ℕ) (d : Fin 128) : ℝ := (query1 (z (ix2 (tok b n) (col h 3072 (by decide) d)))).toReal

/-- A head's values. -/
noncomputable def V (n : ℕ) (d : Fin 128) : ℝ := (z (ix2 (tok b n) (col h 4096 (by decide) d))).toReal

/-- A head's entry state. -/
noncomputable def S0 (d v : Fin 128) : EReal := s0 (ix4 b h d v)

/-- The queries' columns are below plus infinity, the values' columns and the lower bounds real. -/
def Finite : Prop :=
  (∀ (r : Fin 16384) (c : Fin 512), z (ix2 ⟨r.val, by omega⟩ ⟨3072 + c.val, by omega⟩) ≠ ⊤)
    ∧ (∀ (r : Fin 16384) (c : Fin 512), z (ix2 ⟨r.val, by omega⟩ ⟨4096 + c.val, by omega⟩) ≠ ⊤
      ∧ z (ix2 ⟨r.val, by omega⟩ ⟨4096 + c.val, by omega⟩) ≠ ⊥)
    ∧ (∀ c : Fin 512, lb (ix2 0 c) ≠ ⊤ ∧ lb (ix2 0 c) ≠ ⊥)

variable (hf : Finite z lb)
include hf

/-- A head's log decays are real. -/
theorem gate_eq (n : ℕ) (d : Fin 128) :
    gate1 (lb (ix2 0 (ch h d))) (z (ix2 (tok b n) (col h 3584 (by decide) d))) = (G z lb b h n d : EReal) :=
  gate1_real (hf.2.2 _) _

/-- A head's keys are real. -/
theorem key_eq (n : ℕ) (d : Fin 128) :
    key1 (lb (ix2 0 (ch h d))) (z (ix2 (tok b n) (col h 3584 (by decide) d))) = (K z lb b h n d : EReal) :=
  key1_real (hf.2.2 _) _

/-- A head's queries are real. -/
theorem query_eq (n : ℕ) (hn : n < 8192) (d : Fin 128) :
    query1 (z (ix2 (tok b n) (col h 3072 (by decide) d))) = (Q z b h n d : EReal) := by
  refine query1_real ?_
  have := hf.1 ⟨(b.val * 8192 + n) % 16896, by have := b.isLt; exact lt_of_le_of_lt (Nat.mod_le _ _) (by omega)⟩ (ch h d)
  exact this

/-- A head's values are real. -/
theorem value_eq (n : ℕ) (hn : n < 8192) (d : Fin 128) :
    z (ix2 (tok b n) (col h 4096 (by decide) d)) = (V z b h n d : EReal) := by
  refine eq_toReal (real_of_ne ?_)
  have := hf.2.1 ⟨(b.val * 8192 + n) % 16896, by have := b.isLt; exact lt_of_le_of_lt (Nat.mod_le _ _) (by omega)⟩ (ch h d)
  exact this

end Data

end Cert.Proof.Gates
-- ==== Proof.HeadValue.lean ====
/-
  One head's chunk at an index, over the extended reals: the reading is `Recur.outAt`, the next state `Recur.stateAt`.
-/
module

public import proofs.«01_k».proof.Proof.Head
public import proofs.«01_k».proof.Proof.Recur
public import Idealize.ShloMosaic.Lib.Pointwise
import Idealize.ShloMosaic.Lib.WordArith

public section

set_option maxRecDepth 16384

namespace Cert.Proof.HeadValue

open Cert.KernelIdeal Cert.KernelIdeal.Gen Idealize.ShloMosaic Idealize.ShloMosaic.TcCoe Idealize.ShloMosaic.Pointwise
open Cert.Proof.Head Cert.Proof.Recur

local notation "𝕀" => Idealize.ShloMosaic.Ideal

/-- A small counter's word as an integer. -/
theorem toInt_ofNat_small (a : ℕ) (ha : a < 2 ^ 31) : (BitVec.ofNat 32 a).toInt = a := by
  rw [BitVec.toInt_eq_toNat_cond, BitVec.toNat_ofNat, Nat.mod_eq_of_lt (by omega), if_pos (by omega)]

/-- A comparison of small counters. -/
theorem sge_ofNat (a b : ℕ) (ha : a < 2 ^ 31) (hb : b < 2 ^ 31) :
    IntOp.cmpi .sge (BitVec.ofNat 32 a) (BitVec.ofNat 32 b) = if b ≤ a then 1#1 else 0#1 := by
  have h1 : (BitVec.ofNat 32 a).toInt = a := by exact toInt_ofNat_small _ (by assumption)
  have h2 : (BitVec.ofNat 32 b).toInt = b := by exact toInt_ofNat_small _ (by assumption)
  simp only [IntOp.cmpi, BitVec.sle, h1, h2]
  by_cases h : b ≤ a <;> simp [h]

theorem sle_ofNat (a b : ℕ) (ha : a < 2 ^ 31) (hb : b < 2 ^ 31) :
    IntOp.cmpi .sle (BitVec.ofNat 32 a) (BitVec.ofNat 32 b) = if a ≤ b then 1#1 else 0#1 := by
  have h1 : (BitVec.ofNat 32 a).toInt = a := by exact toInt_ofNat_small _ (by assumption)
  have h2 : (BitVec.ofNat 32 b).toInt = b := by exact toInt_ofNat_small _ (by assumption)
  simp only [IntOp.cmpi, BitVec.sle, h1, h2]
  by_cases h : a ≤ b <;> simp [h]

theorem tril_apply (i j : Fin 128) : tril (F := 𝕀) (ix2 i j) = ((if j.val ≤ i.val then 1 else 0 : ℝ) : EReal) := by
  pointwise [tril]
  rw [sle_ofNat _ _ (by omega) (by omega)]
  by_cases h : j.val ≤ i.val
  · simp only [h, if_true]
    show (((BitVec.setWidth 32 1#1).toInt : ℝ) : EReal) = _
    norm_num
  · simp only [h, if_false]
    show (((BitVec.setWidth 32 0#1).toInt : ℝ) : EReal) = _
    norm_num

theorem sum_fin_range {n : ℕ} (f : ℕ → ℝ) : (∑ x : Fin n, f x) = ∑ x ∈ Finset.range n, f x :=
  Fin.sum_univ_eq_sum_range f n

/-- A sum over the rows up to one of them. -/
theorem sum_mask {N : ℕ} (i : ℕ) (hi : i < N) (f : ℕ → ℝ) :
    (∑ x : Fin N, (if x.val ≤ i then 1 else 0 : ℝ) * f x) = ∑ x ∈ Finset.range (i + 1), f x := by
  rw [sum_fin_range (fun x => (if x ≤ i then 1 else 0 : ℝ) * f x)]
  have : Finset.range (i + 1) ⊆ Finset.range N := Finset.range_subset_range.2 (by omega)
  rw [← Finset.sum_subset this]
  · exact Finset.sum_congr rfl fun x hx => by
      rw [if_pos (by have := Finset.mem_range.1 hx; omega), one_mul]
  · intro x _ hx
    rw [if_neg (fun h => hx (Finset.mem_range.2 (by omega))), zero_mul]

section
variable (g k q vv : ℕ → Fin 128 → ℝ) (s0 : Fin 128 → Fin 128 → EReal) (n : ℕ)

/-- The running sum of a channel's finite log decays. -/
theorem running_apply (x : FVec 𝕀 S128x128 .f32) (d : Fin 128) (hx : ∀ i : Fin 128, x (ix2 i d) = ((g (n + i) d : ℝ) : EReal))
    (i : Fin 128) : running x (ix2 i d) = ((C g (n + i + 1) d - C g n d : ℝ) : EReal) := by
  pointwise [running, part1, rest1]
  simp only [tril_apply, hx, ← EReal.coe_sub, ← EReal.coe_mul, ← coe_sum, ← EReal.coe_add, sub_self, mul_zero,
    Finset.sum_const_zero, add_zero]
  rw [sum_mask i.val i.isLt (fun j => g (n + j) d), show n + i.val + 1 = n + (i.val + 1) from rfl, C_add]
  simp

end

/-- A sum with a minus infinity in it. -/
theorem sum_bot {ι : Type} [DecidableEq ι] (s : Finset ι) (f : ι → EReal) (j : ι) (hj : j ∈ s) (h : f j = ⊥) : (∑ i ∈ s, f i) = ⊥ := by
  rw [← Finset.add_sum_erase s f hj, h, EReal.bot_add]

/-- Minus infinity less anything. -/
theorem bot_sub (x : EReal) : ⊥ - x = ⊥ := by rw [sub_eq_add_neg, EReal.bot_add]

/-- The running sum of a channel whose log decays are minus infinity. -/
theorem running_dead (x : FVec 𝕀 S128x128 .f32) (d : Fin 128) (hx : ∀ i : Fin 128, x (ix2 i d) = ⊥) (i : Fin 128) :
    running x (ix2 i d) = ⊥ := by
  pointwise [running, part1, rest1]
  simp only [hx, bot_sub]
  rw [sum_bot _ _ i (Finset.mem_univ _) (by rw [tril_apply, if_pos le_rfl]; simp), EReal.bot_add, EReal.bot_add]

/-- What decays by minus infinity is gone. -/
theorem exp_bot : Ideal.exp ⊥ = 0 := rfl

/-- A query times a key by the decay between them, in a channel alive, or in one that minus infinity has emptied. -/
theorem term_fin (p : Prop) (X Y Z W : EReal) (x y z w : ℝ) (hX : ¬p → X = (x : EReal)) (hY : ¬p → Y = (y : EReal))
    (hZ : ¬p → Z = (z : EReal)) (hW : ¬p → W = (w : EReal)) (h0 : p → X = ⊥) (hz : p → z = 0) :
    Z * W * Ideal.exp (X - Y) = ((z * w * Real.exp (x - y) : ℝ) : EReal) := by
  by_cases c : p
  · rw [h0 c, hz c, bot_sub, exp_bot]; simp
  · rw [hX c, hY c, hZ c, hW c, ← EReal.coe_sub, Ideal.exp_coe, ← EReal.coe_mul, ← EReal.coe_mul]

theorem sel (p : Prop) [Decidable p] {α : Type} (a b : α) :
    Scalar.select (if p then 1#1 else 0#1) a b = if p then a else b := by
  by_cases h : p <;> simp [h, Scalar.select]

section Diag
variable (b q k v : Fin 128 → Fin 128 → ℝ)

/-- Key `j`'s weight in row `i`. -/
noncomputable def wt (i j : Fin 128) : ℝ := ∑ d, q i d * k j d * Real.exp (b i d - b j d)

/-- The row of a block of sixteen. -/
abbrev row16 (a : Fin 8) (r : Fin 16) : Fin 128 := ⟨16 * a.val + r.val, by omega⟩

variable (D : Fin 128 → Prop) (B Q K V : FVec 𝕀 S8x16x128 .f32) (hB : ∀ a r d, ¬D d → B (ix3 a r d) = (b (row16 a r) d : EReal))
  (h0 : ∀ a r d, D d → B (ix3 a r d) = ⊥) (hq : ∀ r d, D d → q r d = 0)
  (hQ : ∀ a r d, ¬D d → Q (ix3 a r d) = (q (row16 a r) d : EReal)) (hK : ∀ a r d, ¬D d → K (ix3 a r d) = (k (row16 a r) d : EReal))
  (hV : ∀ a r d, V (ix3 a r d) = (v (row16 a r) d : EReal))

include hB h0 hq hQ hK hV in
theorem diagStep_apply (j : ℕ) (hj : j < 16) (hs : S8x16x128.Slices ![0, j, 0] S8x1x128) (o : FVec 𝕀 S8x16x128 .f32)
    (f : Fin 8 → Fin 16 → Fin 128 → ℝ) (ho : ∀ a r d, o (ix3 a r d) = (f a r d : EReal)) (a : Fin 8) (r : Fin 16) (d : Fin 128) :
    diagStep j (BitVec.ofNat 32 j) hs B Q K V o (ix3 a r d)
      = ((f a r d + if j ≤ r.val then wt b q k (row16 a r) (row16 a ⟨j, hj⟩) * v (row16 a ⟨j, hj⟩) d else 0 : ℝ) : EReal) := by
  pointwise [diagStep, diagWeight, reach]
  rw [sge_ofNat _ _ (by omega) (by omega)]
  simp only [sel, hV, ho]
  by_cases h : j ≤ r.val
  · have ht : ∀ d : Fin 128, Q (ix3 a r d) * K (ix3 a ⟨j, hj⟩ d) * Ideal.exp (B (ix3 a r d) - B (ix3 a ⟨j, hj⟩ d)) = _ := fun d =>
      term_fin (D d) _ _ _ _ _ _ _ _ (hB a r d) (hB a ⟨j, hj⟩ d) (hQ a r d) (hK a ⟨j, hj⟩ d) (h0 a r d) (hq (row16 a r) d)
    simp only [h, if_true, ht, ← coe_sum, ← EReal.coe_mul, ← EReal.coe_add, wt]
  · simp only [h, if_false, zero_mul, add_zero]

include hB h0 hq hQ hK hV in
/-- The sixteen steps: each row of a block of sixteen against the block's keys up to it. -/
theorem diagAll_apply (a : Fin 8) (r : Fin 16) (d : Fin 128) :
    diagAll B Q K V (ix3 a r d)
      = ((∑ j : Fin 16, if j.val ≤ r.val then wt b q k (row16 a r) (row16 a j) * v (row16 a j) d else 0 : ℝ) : EReal) := by
  have st := fun (j : ℕ) (hj : j < 16) hs o f ho => diagStep_apply b q k v D B Q K V hB h0 hq hQ hK hV j hj hs o f ho
  unfold diagAll
  have h0 := st 0 (by decide) slices_S8x16x128_o0_0_0_S8x1x128 (broadcast S8x16x128 (Scalar.ofBits .f32 0x00000000#32))
    (fun _ _ _ => 0) (fun a r d => by pointwise; rfl)
  have h1 := st 1 (by decide) slices_S8x16x128_o0_1_0_S8x1x128 _ _ h0
  have h2 := st 2 (by decide) slices_S8x16x128_o0_2_0_S8x1x128 _ _ h1
  have h3 := st 3 (by decide) slices_S8x16x128_o0_3_0_S8x1x128 _ _ h2
  have h4 := st 4 (by decide) slices_S8x16x128_o0_4_0_S8x1x128 _ _ h3
  have h5 := st 5 (by decide) slices_S8x16x128_o0_5_0_S8x1x128 _ _ h4
  have h6 := st 6 (by decide) slices_S8x16x128_o0_6_0_S8x1x128 _ _ h5
  have h7 := st 7 (by decide) slices_S8x16x128_o0_7_0_S8x1x128 _ _ h6
  have h8 := st 8 (by decide) slices_S8x16x128_o0_8_0_S8x1x128 _ _ h7
  have h9 := st 9 (by decide) slices_S8x16x128_o0_9_0_S8x1x128 _ _ h8
  have h10 := st 10 (by decide) slices_S8x16x128_o0_10_0_S8x1x128 _ _ h9
  have h11 := st 11 (by decide) slices_S8x16x128_o0_11_0_S8x1x128 _ _ h10
  have h12 := st 12 (by decide) slices_S8x16x128_o0_12_0_S8x1x128 _ _ h11
  have h13 := st 13 (by decide) slices_S8x16x128_o0_13_0_S8x1x128 _ _ h12
  have h14 := st 14 (by decide) slices_S8x16x128_o0_14_0_S8x1x128 _ _ h13
  have h15 := st 15 (by decide) slices_S8x16x128_o0_15_0_S8x1x128 _ _ h14
  refine (h15 a r d).trans (congrArg _ ?_)
  simp only [Fin.sum_univ_succ, Fin.sum_univ_zero]
  simp only [zero_add, add_zero, add_assoc]
  rfl

end Diag

section Level
variable (b q k : Fin 128 → Fin 128 → ℝ) (D : Fin 128 → Prop) (B Q K : FVec 𝕀 S128x128 .f32)
  (hB : ∀ r d, ¬D d → B (ix2 r d) = (b r d : EReal)) (h0 : ∀ r d, D d → B (ix2 r d) = ⊥) (hq : ∀ r d, D d → q r d = 0)
  (hQ : ∀ r d, ¬D d → Q (ix2 r d) = (q r d : EReal)) (hK : ∀ r d, ¬D d → K (ix2 r d) = (k r d : EReal))

/-- The last row of the first half of a row's block of `2 * h`. -/
abbrev mid (h : ℕ) (hh : 0 < h) (hd : 2 * h ∣ 128) (r : Fin 128) : Fin 128 := ⟨r.val / (2 * h) * (2 * h) + (h - 1), by
  obtain ⟨c, hc⟩ := hd
  have h1 : r.val / (2 * h) < c := Nat.div_lt_of_lt_mul (by omega)
  have h2 : (r.val / (2 * h) + 1) * (2 * h) ≤ c * (2 * h) := Nat.mul_le_mul_right _ h1
  rw [Nat.add_mul] at h2
  have h3 : c * (2 * h) = 128 := by rw [Nat.mul_comm]; omega
  omega⟩

/-- A level's query: a second half's row, decayed from the middle. -/
noncomputable def lvlQ (h : ℕ) (hh : 0 < h) (hd : 2 * h ∣ 128) (r e : Fin 128) : ℝ :=
  if h ≤ r.val % (2 * h) then q r e * Real.exp (b r e - b (mid h hh hd r) e) else 0

/-- A level's key: a first half's row, decayed to the middle. -/
noncomputable def lvlK (h : ℕ) (hh : 0 < h) (hd : 2 * h ∣ 128) (r e : Fin 128) : ℝ :=
  if h ≤ r.val % (2 * h) then 0 else k r e * Real.exp (b (mid h hh hd r) e - b r e)

theorem query_fin (p : Prop) (h : ℕ) (hh : 0 < h) (hd : 2 * h ∣ 128) (r e : Fin 128) (x : ℕ) (X Y Z : EReal)
    (hx : x = r.val % (2 * h)) (hX : ¬p → X = (b r e : EReal)) (hY : ¬p → Y = (b (mid h hh hd r) e : EReal))
    (hZ : ¬p → Z = (q r e : EReal)) (h0 : p → X = ⊥) (hq : p → q r e = 0) :
    Scalar.select (if h ≤ x then 1#1 else 0#1) (Z * Ideal.exp (Scalar.select (if h ≤ x then 1#1 else 0#1) (X - Y) (0 - (X - Y)))) 0
      = (lvlQ b q h hh hd r e : EReal) := by
  subst hx
  simp only [sel, lvlQ]
  by_cases c : h ≤ r.val % (2 * h)
  · by_cases cp : p
    · simp only [c, if_true, h0 cp, hq cp, bot_sub, exp_bot, mul_zero, zero_mul]
      rfl
    · simp only [c, if_true, hX cp, hY cp, hZ cp, ← EReal.coe_sub, Ideal.exp_coe, ← EReal.coe_mul]
  · simp only [c, if_false]
    rfl

theorem key_fin (h : ℕ) (hh : 0 < h) (hd : 2 * h ∣ 128) (r e : Fin 128) (x : ℕ) (X Y Z : EReal)
    (hx : x = r.val % (2 * h)) (hX : X = (b r e : EReal)) (hY : Y = (b (mid h hh hd r) e : EReal)) (hZ : Z = (k r e : EReal)) :
    Scalar.select (if h ≤ x then 1#1 else 0#1) 0 (Z * Ideal.exp (Scalar.select (if h ≤ x then 1#1 else 0#1) (X - Y) (0 - (X - Y))))
      = (lvlK b k h hh hd r e : EReal) := by
  subst hx hX hY hZ
  simp only [sel, lvlK]
  by_cases c : h ≤ r.val % (2 * h)
  · simp only [c, if_true]
    rfl
  · simp only [c, if_false, ← EReal.coe_sub, zero_sub, ← EReal.coe_neg, Ideal.exp_coe, ← EReal.coe_mul, neg_sub]

include hB h0 hq hQ in
/-- The queries of the level of blocks of 128. -/
theorem query64 (r e : Fin 128) :
    lvlQuery S1x128x128 shapeCasts_S128x128_S1x128x128 shapeCasts_S1x128x128_S128x128 sec64 (dec64 B) Q (ix2 r e)
      = (lvlQ b q 64 (by decide) (by decide) r e : EReal) := by
  pointwise [lvlQuery, dec64, lvlDecay, sec64, second]
  rw [sge_ofNat _ _ (by omega) (by omega)]
  exact query_fin b q (D e) 64 _ _ r e _ _ _ _ (by omega) (hB r e) (fun c => (hB _ e c).trans (by congr 3; apply Fin.ext; show 63 = r.val / 128 * 128 + 63; omega)) (hQ r e) (h0 r e) (hq r e)

include hB hK in
/-- The keys of the level of blocks of 128. -/
theorem key64 (r e : Fin 128) (he : ¬D e) :
    lvlKey S1x128x128 shapeCasts_S128x128_S1x128x128 shapeCasts_S1x128x128_S128x128 sec64 (dec64 B) K (ix2 r e)
      = (lvlK b k 64 (by decide) (by decide) r e : EReal) := by
  pointwise [lvlKey, dec64, lvlDecay, sec64, second]
  rw [sge_ofNat _ _ (by omega) (by omega)]
  exact key_fin b k 64 _ _ r e _ _ _ _ (by omega) (hB r e he) ((hB _ e he).trans (by congr 3; apply Fin.ext; show 63 = r.val / 128 * 128 + 63; omega)) (hK r e he)

include hB h0 hq hQ in
/-- The queries of the level of blocks of 64. -/
theorem query32 (r e : Fin 128) :
    lvlQuery S2x64x128 shapeCasts_S128x128_S2x64x128 shapeCasts_S2x64x128_S128x128 sec32 (dec32 B) Q (ix2 r e)
      = (lvlQ b q 32 (by decide) (by decide) r e : EReal) := by
  pointwise [lvlQuery, dec32, lvlDecay, sec32, second]
  rw [sge_ofNat _ _ (by omega) (by omega)]
  exact query_fin b q (D e) 32 _ _ r e _ _ _ _ (rfl) (hB r e) (fun c => (hB _ e c).trans (by rfl)) (hQ r e) (h0 r e) (hq r e)

include hB hK in
/-- The keys of the level of blocks of 64. -/
theorem key32 (r e : Fin 128) (he : ¬D e) :
    lvlKey S2x64x128 shapeCasts_S128x128_S2x64x128 shapeCasts_S2x64x128_S128x128 sec32 (dec32 B) K (ix2 r e)
      = (lvlK b k 32 (by decide) (by decide) r e : EReal) := by
  pointwise [lvlKey, dec32, lvlDecay, sec32, second]
  rw [sge_ofNat _ _ (by omega) (by omega)]
  exact key_fin b k 32 _ _ r e _ _ _ _ (rfl) (hB r e he) ((hB _ e he).trans (by rfl)) (hK r e he)

include hB h0 hq hQ in
/-- The queries of the level of blocks of 32. -/
theorem query16 (r e : Fin 128) :
    lvlQuery S4x32x128 shapeCasts_S128x128_S4x32x128 shapeCasts_S4x32x128_S128x128 sec16 (dec16 B) Q (ix2 r e)
      = (lvlQ b q 16 (by decide) (by decide) r e : EReal) := by
  pointwise [lvlQuery, dec16, lvlDecay, sec16, second]
  rw [sge_ofNat _ _ (by omega) (by omega)]
  exact query_fin b q (D e) 16 _ _ r e _ _ _ _ (rfl) (hB r e) (fun c => (hB _ e c).trans (by rfl)) (hQ r e) (h0 r e) (hq r e)

include hB hK in
/-- The keys of the level of blocks of 32. -/
theorem key16 (r e : Fin 128) (he : ¬D e) :
    lvlKey S4x32x128 shapeCasts_S128x128_S4x32x128 shapeCasts_S4x32x128_S128x128 sec16 (dec16 B) K (ix2 r e)
      = (lvlK b k 16 (by decide) (by decide) r e : EReal) := by
  pointwise [lvlKey, dec16, lvlDecay, sec16, second]
  rw [sge_ofNat _ _ (by omega) (by omega)]
  exact key_fin b k 16 _ _ r e _ _ _ _ (rfl) (hB r e he) ((hB _ e he).trans (by rfl)) (hK r e he)

/-- A shift right of a small counter. -/
theorem shr_ofNat (a s : ℕ) (ha : a < 128) (hs : s < 32) :
    IntOp.shrsi ArithUnit.vector (BitVec.ofNat 32 a) (BitVec.ofNat 32 s) = BitVec.ofNat 32 (a / 2 ^ s) := by
  have h2 : (BitVec.ofNat 32 s).toNat = s := by rw [BitVec.toNat_ofNat, Nat.mod_eq_of_lt (by omega)]
  rw [IntOp.shrsi, if_pos (by rw [h2]; exact hs)]
  apply BitVec.eq_of_toInt_eq
  rw [BitVec.toInt_sshiftRight', toInt_ofNat_small a (by omega),
    toInt_ofNat_small _ (lt_of_le_of_lt (Nat.div_le_self _ _) (by omega)), h2, Int.shiftRight_eq_div_pow]
  norm_cast

theorem eq_ofNat (a b : ℕ) (ha : a < 2 ^ 32) (hb : b < 2 ^ 32) :
    IntOp.cmpi .eq (BitVec.ofNat 32 a) (BitVec.ofNat 32 b) = if a = b then 1#1 else 0#1 := by
  simp only [IntOp.cmpi]
  by_cases h : a = b
  · simp [h]
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [beq_eq_false_iff_ne.2 this, if_neg h]; rfl

include hq in
/-- A level's attention: a second half's row against a first half's, in one block. -/
theorem lvlAttn_apply (h s : ℕ) (hh : 0 < h) (hd : 2 * h ∣ 128) (hs : s < 32) (h2 : 2 ^ s = 2 * h)
    (qt kt : FVec 𝕀 S128x128 .bf16) (hqt : ∀ r e, qt (ix2 r e) = (lvlQ b q h hh hd r e : EReal))
    (hk : ∀ r e, ¬D e → kt (ix2 r e) = (lvlK b k h hh hd r e : EReal)) (i j : Fin 128) :
    lvlAttn (BitVec.ofNat 32 s) qt kt (ix2 i j)
      = ((if i.val / (2 * h) = j.val / (2 * h) ∧ h ≤ i.val % (2 * h) ∧ ¬ h ≤ j.val % (2 * h) then wt b q k i j else 0 : ℝ) : EReal) := by
  pointwise [lvlAttn]
  rw [shr_ofNat _ _ i.isLt hs, shr_ofNat _ _ j.isLt hs, h2,
    eq_ofNat _ _ (lt_of_le_of_lt (Nat.div_le_self _ _) (by omega)) (lt_of_le_of_lt (Nat.div_le_self _ _) (by omega))]
  have hs : ∀ e : Fin 128, (lvlQ b q h hh hd i e : EReal) * kt (ix2 j e) = ((lvlQ b q h hh hd i e * lvlK b k h hh hd j e : ℝ) : EReal) := by
    intro e
    by_cases c : D e
    · rw [show lvlQ b q h hh hd i e = 0 by unfold lvlQ; rw [hq i e c, zero_mul, ite_self]]; simp
    · rw [hk j e c, EReal.coe_mul]
  simp only [sel, hqt, hs, ← coe_sum]
  simp only [lvlQ, lvlK]
  by_cases c1 : i.val / (2 * h) = j.val / (2 * h)
  · by_cases c2 : h ≤ i.val % (2 * h)
    · by_cases c3 : h ≤ j.val % (2 * h)
      · simp [c1, c2, c3]
      · have hm : mid h hh hd i = mid h hh hd j := Fin.ext (by show _ / _ * _ + _ = _ / _ * _ + _; rw [c1])
        simp only [c1, c2, c3, if_true, if_false, true_and, not_false_eq_true, wt, hm]
        refine congrArg _ (Finset.sum_congr rfl fun d _ => ?_)
        rw [show b i d - b j d = (b i d - b (mid h hh hd j) d) + (b (mid h hh hd j) d - b j d) by ring, Real.exp_add]
        ring
    · simp [c2]
  · simp [c1]

/-- The keys of a row's own block of sixteen, summed over all the rows. -/
theorem sum_block (i : Fin 128) (f : Fin 128 → ℝ) :
    (∑ j : Fin 16, if j.val ≤ i.val % 16 then f (row16 ⟨i.val / 16, by omega⟩ j) else 0)
      = ∑ j : Fin 128, if j.val / 16 = i.val / 16 ∧ j.val ≤ i.val then f j else 0 := by
  rw [← Finset.sum_filter, ← Finset.sum_filter]
  refine Finset.sum_bij (fun j _ => row16 ⟨i.val / 16, by omega⟩ j) ?_ ?_ ?_ ?_
  · intro j hj
    have := (Finset.mem_filter.1 hj).2
    refine Finset.mem_filter.2 ⟨Finset.mem_univ _, ?_⟩
    show (16 * (i.val / 16) + j.val) / 16 = i.val / 16 ∧ 16 * (i.val / 16) + j.val ≤ i.val
    omega
  · intro j _ j' _ e
    have : 16 * (i.val / 16) + j.val = 16 * (i.val / 16) + j'.val := congrArg Fin.val e
    exact Fin.ext (by omega)
  · intro j hj
    obtain ⟨h1, h2⟩ := (Finset.mem_filter.1 hj).2
    refine ⟨⟨j.val % 16, by omega⟩, Finset.mem_filter.2 ⟨Finset.mem_univ _, ?_⟩, Fin.ext ?_⟩
    · show j.val % 16 ≤ i.val % 16
      omega
    · show 16 * (i.val / 16) + j.val % 16 = j.val
      omega
  · intro _ _; rfl

variable (v : Fin 128 → Fin 128 → ℝ) (V : FVec 𝕀 S128x128 .f32) (hV : ∀ r d, V (ix2 r d) = (v r d : EReal))

include hB h0 hq hQ hK hV in
/-- What a row reads of its chunk's own keys: every key up to it, by its weight. -/
theorem inner_apply (i e : Fin 128) :
    Head.inner B Q K V (ix2 i e) = ((∑ j : Fin 128, if j.val ≤ i.val then wt b q k i j * v j e else 0 : ℝ) : EReal) := by
  have rd : ∀ (X : FVec 𝕀 S128x128 .f32) (a : Fin 8) (r : Fin 16) (d : Fin 128),
      shapeCast S8x16x128 X shapeCasts_S128x128_S8x16x128 (ix3 a r d) = X (ix2 (row16 a r) d) := by
    intro X a r d
    pointwise
    exact congrArg X (by congr 1; apply Fin.ext; show _ = 16 * a.val + r.val; simp only []; omega)
  pointwise [Head.inner, diag, attn]
  rw [diagAll_apply b q k v D _ _ _ _ (fun a r d c => (rd B a r d).trans (hB _ d c)) (fun a r d c => (rd B a r d).trans (h0 _ d c)) hq
    (fun a r d c => (rd Q a r d).trans (hQ _ d c)) (fun a r d c => (rd K a r d).trans (hK _ d c)) (fun a r d => (rd V a r d).trans (hV _ d))]
  have e64 := lvlAttn_apply b q k D hq 64 7 (by decide) (by decide) (by decide) (by decide) _ _ (query64 b q D B Q hB h0 hq hQ) (key64 b k D B K hB hK)
  have e32 := lvlAttn_apply b q k D hq 32 6 (by decide) (by decide) (by decide) (by decide) _ _ (query32 b q D B Q hB h0 hq hQ) (key32 b k D B K hB hK)
  have e16 := lvlAttn_apply b q k D hq 16 5 (by decide) (by decide) (by decide) (by decide) _ _ (query16 b q D B Q hB h0 hq hQ) (key16 b k D B K hB hK)
  simp only [e64, e32, e16, hV, zero_add, ← EReal.coe_add, ← EReal.coe_mul, ← coe_sum]
  refine congrArg _ ?_
  have hrow : row16 ⟨i.val / 16, by omega⟩ ⟨i.val % 16, by omega⟩ = i := Fin.ext (by
    show 16 * (i.val / 16) + i.val % 16 = i.val
    omega)
  rw [hrow]
  have sb := sum_block i (fun j => wt b q k i j * v j e)
  refine (congrArg (· + _) sb).trans ?_
  rw [← Finset.sum_add_distrib]
  refine Finset.sum_congr rfl fun j _ => ?_
  have hi := i.isLt
  have hj := j.isLt
  split_ifs <;> first | (exfalso; omega) | ring

end Level

section Chunk
variable (g k q vv : ℕ → Fin 128 → ℝ) (s0 : Fin 128 → Fin 128 → EReal) (n : ℕ)
  (lg qb kb v : FVec 𝕀 S128x128 .f32) (st : FVec 𝕀 S1x128x128 .f32)

section Dead
variable (D : Fin 128 → Prop) (hg : ∀ i d : Fin 128, ¬D d → lg (ix2 i d) = (g (n + i) d : EReal))
  (hg0 : ∀ i d : Fin 128, D d → lg (ix2 i d) = ⊥) (hq0 : ∀ (i : ℕ) (d : Fin 128), D d → q i d = 0)
  (hk : ∀ i d : Fin 128, ¬D d → kb (ix2 i d) = (k (n + i) d : EReal))
  (hq : ∀ i d : Fin 128, ¬D d → qb (ix2 i d) = (q (n + i) d : EReal))
  (hv : ∀ i d : Fin 128, v (ix2 i d) = (vv (n + i) d : EReal))
  (hst : ∀ w d : Fin 128, ¬D d → st (ix3 0 w d) = stateAt g k vv s0 n d w)

include hg hg0 hq0 hk hq hv hst in
/-- What a chunk's row reads is the recurrence's reading; a channel with log decays of minus infinity gives nothing. -/
theorem out_dead (i w : Fin 128) :
    out (running lg) qb kb v (unpackState st) (ix2 i w)
      = outAt g k q vv s0 (n + i) w := by
  have hr := fun r d (c : ¬D d) => running_apply g n lg d (fun i => hg i d c) r
  have hi := inner_apply (fun i d => C g (n + i + 1) d - C g n d) (fun i d => q (n + i) d) (fun i d => k (n + i) d) D
    (running lg) qb kb hr (fun r d c => running_dead lg d (fun i => hg0 i d c) r) (fun r d c => hq0 _ d c) hq hk
    (fun i d => vv (n + i) d) v hv i w
  pointwise [out, outer, unpackState]
  rw [hi, add_comm, ← out_block]
  congr 1
  · refine Finset.sum_congr rfl fun d _ => ?_
    by_cases c : D d
    · rw [running_dead lg d (fun i => hg0 i d c) i, hq0 _ d c, exp_bot]; simp
    · rw [hq i d c, hr i d c, Ideal.exp_coe, ← EReal.coe_mul, hst w d c]
  · refine congrArg _ ?_
    rw [← sum_mask i.val i.isLt]
    refine Finset.sum_congr rfl fun j _ => ?_
    by_cases h : j.val ≤ i.val
    · simp only [h, if_true, one_mul, wt]
      congr 1
      refine Finset.sum_congr rfl fun d _ => ?_
      rw [sub_sub_sub_cancel_right]; ring
    · simp only [h, if_false, zero_mul]

include hg0 in
/-- The state after a chunk, in a channel with log decays of minus infinity. -/
theorem state_dead (w d : Fin 128) (c : D d) : packState (next (running lg) kb v (unpackState st)) (ix3 0 w d) = 0 := by
  have hr := running_dead lg d (fun i => hg0 i d c)
  pointwise [packState, next, unpackState]
  simp only [hr, bot_sub, exp_bot, mul_zero, Finset.sum_const_zero, add_zero]

end Dead

section Alive
variable (w d : Fin 128) (hg : ∀ i : Fin 128, lg (ix2 i d) = (g (n + i) d : EReal))
  (hk : ∀ i : Fin 128, kb (ix2 i d) = (k (n + i) d : EReal))
  (hv : ∀ i d : Fin 128, v (ix2 i d) = (vv (n + i) d : EReal))
  (hst : ∀ w : Fin 128, st (ix3 0 w d) = stateAt g k vv s0 n d w)

include hg hk hv hst in
/-- The state after a chunk is the recurrence's state after its 128 tokens. -/
theorem state_alive :
    packState (next (running lg) kb v (unpackState st)) (ix3 0 w d) = stateAt g k vv s0 (n + 128) d w := by
  have hr := running_apply g n lg d hg
  pointwise [packState, next, unpackState]
  rw [← state_block, hst, hr, Ideal.exp_coe, mul_comm]
  congr 1
  rw [← Fin.sum_univ_eq_sum_range (fun j => (k (n + j) d * Real.exp (C g (n + 128) d - C g (n + j + 1) d)) * vv (n + j) w), coe_sum]
  refine Finset.sum_congr rfl fun j _ => ?_
  rw [hv, hk, hr, ← EReal.coe_sub, Ideal.exp_coe, ← EReal.coe_mul, ← EReal.coe_mul]
  refine congrArg _ ?_
  show vv (n + j) w * (k (n + j) d * Real.exp ((C g (n + 128) d - C g n d) - (C g (n + j + 1) d - C g n d))) = _
  rw [sub_sub_sub_cancel_right]; ring

end Alive

variable (hg : ∀ i d : Fin 128, lg (ix2 i d) = (g (n + i) d : EReal))
  (hk : ∀ i d : Fin 128, kb (ix2 i d) = (k (n + i) d : EReal))
  (hq : ∀ i d : Fin 128, qb (ix2 i d) = (q (n + i) d : EReal))
  (hv : ∀ i d : Fin 128, v (ix2 i d) = (vv (n + i) d : EReal))
  (hst : ∀ w d : Fin 128, st (ix3 0 w d) = stateAt g k vv s0 n d w)

include hg hk hq hv hst in
/-- The reading where every log decay is real. -/
theorem out_apply (i w : Fin 128) : out (running lg) qb kb v (unpackState st) (ix2 i w) = outAt g k q vv s0 (n + i) w :=
  out_dead g k q vv s0 n lg qb kb v st (fun _ => False) (fun i d _ => hg i d) (fun _ _ => False.elim) (fun _ _ => False.elim)
    (fun i d _ => hk i d) (fun i d _ => hq i d) hv (fun w d _ => hst w d) i w

include hg hk hv hst in
/-- The state where every log decay is real. -/
theorem state_apply (w d : Fin 128) :
    packState (next (running lg) kb v (unpackState st)) (ix3 0 w d) = stateAt g k vv s0 (n + 128) d w :=
  state_alive g k vv s0 n lg kb v st w d (fun i => hg i d) (fun i => hk i d) hv (fun w => hst w d)

end Chunk

end Cert.Proof.HeadValue
-- ==== Proof.RefValue.lean ====
/-
  The reference at an index: one trip of its loop is `Recur`'s block of sixteen tokens, so the carried state after `k` trips
  is the recurrence's state at token `16 k`, and the stacked readings are the recurrence's.
-/
module

public import proofs.«01_k».proof.Proof.RefLoop
public import proofs.«01_k».proof.Proof.Gates
public import proofs.«01_k».proof.Proof.HeadValue
public import Idealize.ShloMosaic.Lib.Pointwise
import Idealize.ShloMosaic.Lib.DynamicIndex

public section

set_option maxRecDepth 16384

namespace Cert.Proof.RefValue

open Cert.ReferenceIdeal Cert.ReferenceIdeal.Gen Cert.ReferenceIdeal.Step Idealize.ShloMosaic Idealize.ShloMosaic.TcCoe
open Idealize.ShloMosaic.Pointwise Cert.Proof.Recur Cert.Proof.Gates Cert.Proof.RefLoop

local notation "𝕀" => Idealize.ShloMosaic.Ideal

/-- The elements of a padded window up to a place. -/
theorem sum_window16 (t : ℕ) (ht : t < 16) (f : ℕ → EReal) :
    (∑ w : Fin 16, if 15 ≤ t + w.val then f (t + w.val - 15) else 0) = ∑ j ∈ Finset.range (t + 1), f j := by
  rw [← Finset.sum_filter]
  refine Finset.sum_bij (fun w _ => t + w.val - 15) ?_ ?_ ?_ ?_
  · intro w hw
    have := w.isLt
    exact Finset.mem_range.2 (by omega)
  · intro a ha b hb e
    have h1 := (Finset.mem_filter.1 ha).2
    have h2 := (Finset.mem_filter.1 hb).2
    change t + a.val - 15 = t + b.val - 15 at e
    exact Fin.ext (by omega)
  · intro j hj
    have := Finset.mem_range.1 hj
    exact ⟨⟨j + 15 - t, by omega⟩, Finset.mem_filter.2 ⟨Finset.mem_univ _, by show 15 ≤ t + (j + 15 - t); omega⟩, by
      show t + (j + 15 - t) - 15 = j; omega⟩
  · intro _ _; rfl

/-- A block's running sum at an index. -/
theorem cumsum_apply (x : FVec 𝕀 S2x16x4x128 .f32) (init : FVec 𝕀 S_ .f32) (hi : ∀ i, init i = 0) (f : ℕ → EReal)
    (b : Fin 2) (t : Fin 16) (h : Fin 4) (d : Fin 128) (hf : ∀ r : Fin 16, x (ix4 b r h d) = f r.val)
    :
    Host.reduceWindowAdd ![1, 16, 1, 1] ![1, 1, 1, 1] ![0, 15, 0, 0] ![0, 0, 0, 0] x init reduceWindows_S2x16x4x128_S2x16x4x128_w1s1p0_0_w16s1p15_0_w1s1p0_0_w1s1p0_0 h_S_ (ix4 b t h d)
     = ∑ j ∈ Finset.range (t.val + 1), f j := by
  show Host.reduceWindow (· + ·) ![1, 16, 1, 1] ![1, 1, 1, 1] ![0, 15, 0, 0] ![0, 0, 0, 0] x (fun _ : (⟨0, ![]⟩ : Shape).Idx => init (Shape.Idx.first h_S_)) reduceWindows_S2x16x4x128_S2x16x4x128_w1s1p0_0_w16s1p15_0_w1s1p0_0_w1s1p0_0 (by decide) (ix4 b t h d) = _
  unfold Host.reduceWindow
  rw [hi]
  dsimp only
  refine Eq.trans (congrArg (fun F => List.foldl F 0 _) (funext fun r => funext fun n => ?_))
    ((sum_idx_eq_foldl (⟨4, ![1, 16, 1, 1]⟩ : Shape)
      (fun w => if 15 ≤ t.val + (w 1).val then f (t.val + (w 1).val - 15) else 0)).symm.trans ?_)
  · let w := (⟨4, ![1, 16, 1, 1]⟩ : Shape).rowMajor.symm n
    refine congrArg (r + ·) ?_
    have hw0 : (w 0).val < 1 := (w 0).isLt
    have hw1 : (w 1).val < 16 := (w 1).isLt
    have hw2 : (w 2).val < 1 := (w 2).isLt
    have hw3 : (w 3).val < 1 := (w 3).isLt
    have ht := t.isLt
    by_cases c : 15 ≤ t.val + (w 1).val
    · rw [if_pos c, dif_pos]
      · rw [← hf ⟨t.val + (w 1).val - 15, by omega⟩]
        refine congrArg x (funext fun a => Fin.ext ?_)
        fin_cases a
        · show b.val * 1 + (w 0).val - 0 = b.val; omega
        · show t.val * 1 + (w 1).val - 15 = t.val + (w 1).val - 15; omega
        · show h.val * 1 + (w 2).val - 0 = h.val; omega
        · show d.val * 1 + (w 3).val - 0 = d.val; omega
      · intro a
        fin_cases a
        · show 0 ≤ b.val * 1 + (w 0).val ∧ b.val * 1 + (w 0).val - 0 < 2; omega
        · show 15 ≤ t.val * 1 + (w 1).val ∧ t.val * 1 + (w 1).val - 15 < 16; omega
        · show 0 ≤ h.val * 1 + (w 2).val ∧ h.val * 1 + (w 2).val - 0 < 4; omega
        · show 0 ≤ d.val * 1 + (w 3).val ∧ d.val * 1 + (w 3).val - 0 < 128; omega
    · rw [if_neg c, dif_neg]
      intro hin
      have : 15 ≤ t.val * 1 + (w 1).val := (hin 1).1
      omega
  · rw [sum_idx4, ← sum_window16 t.val t.isLt f, Fin.sum_univ_one]
    refine Finset.sum_congr rfl fun w _ => ?_
    rw [Fin.sum_univ_one, Fin.sum_univ_one]
    rfl

/-- A trip's start in the stacked blocks. -/
theorem start_eq (j : ℕ) (hj : j < 512) (a : Fin 5) :
    ((![constantI S_ 32 (BitVec.ofNat 32 j), constantI S_ 32 0#32, constantI S_ 32 0#32, constantI S_ 32 0#32,
      constantI S_ 32 0#32] : Fin 5 → (⟨S_, .i32⟩ : BufTy).Contents (Elt 𝕀)) a (Shape.Idx.first h_S_)).toInt
      = (((![j, 0, 0, 0, 0] : Fin 5 → ℕ) a : ℕ) : ℤ) := by
  fin_cases a
  · exact HeadValue.toInt_ofNat_small j (by omega)
  all_goals rfl

theorem slices_block (j : ℕ) (hj : j < 512) : S512x2x16x4x128.Slices ![j, 0, 0, 0, 0] S1x2x16x4x128 :=
  ⟨rfl, fun a => by
    fin_cases a
    · show j + 1 ≤ 512; omega
    · show 0 + 2 ≤ 2; omega
    · show 0 + 16 ≤ 16; omega
    · show 0 + 4 ≤ 4; omega
    · show 0 + 128 ≤ 128; omega⟩

/-- A trip's block of a stacked operand. -/
theorem block_apply (x : FVec 𝕀 S512x2x16x4x128 .f32) (j : ℕ) (hj : j < 512) (b : Fin 2) (t : Fin 16) (h : Fin 4) (d : Fin 128) :
    shapeCast S2x16x4x128 (extractStridedSlice S1x2x16x4x128 ![j, 0, 0, 0, 0] x (slices_block j hj))
      shapeCasts_S1x2x16x4x128_S2x16x4x128 (ix4 b t h d) = x (ix5 ⟨j, hj⟩ b t h d) := by
  pointwise

/-- A stack with one block put in, at an index. -/
theorem updateSlice_block {α : Type} (x : S512x2x16x4x128.Idx → α) (u : S1x2x16x4x128.Idx → α) (j : ℕ)
    (hs : S512x2x16x4x128.Slices ![j, 0, 0, 0, 0] S1x2x16x4x128) (n : Fin 512) (b : Fin 2) (t : Fin 16) (h : Fin 4) (v : Fin 128) :
    updateSlice x u ![j, 0, 0, 0, 0] hs (ix5 n b t h v)
      = if n.val = j then u (ix5 (0 : Fin 1) b t h v) else x (ix5 n b t h v) := by
  unfold updateSlice
  by_cases e : n.val = j
  · rw [if_pos e]
    refine (dif_pos ?_).trans (congrArg u (funext fun a => Fin.ext ?_))
    · intro a
      fin_cases a
      · show j ≤ n.val ∧ n.val < j + 1; omega
      · show 0 ≤ b.val ∧ b.val < 0 + 2; omega
      · show 0 ≤ t.val ∧ t.val < 0 + 16; omega
      · show 0 ≤ h.val ∧ h.val < 0 + 4; omega
      · show 0 ≤ v.val ∧ v.val < 0 + 128; omega
    · fin_cases a
      · show n.val - j = 0; omega
      all_goals rfl
  · rw [if_neg e]
    refine dif_neg fun hin => ?_
    have : j ≤ n.val ∧ n.val < j + 1 := hin 0
    omega

section Trip
variable (j : ℕ) (hj : j < 512) (s : State 𝕀) (b : Fin 2) (t : Fin 16) (h : Fin 4) (d v : Fin 128)
include hj

theorem b5_apply : b5 j s (ix4 b t h d) = s.main_v49_0 (ix5 ⟨j, hj⟩ b t h d) := by
  unfold b5 b4
  rw [Host.dynamicSlice_eq_extractStridedSlice _ _ _ ![j, 0, 0, 0, 0] _ (slices_block j hj) (start_eq j hj)]
  exact block_apply _ j hj b t h d

theorem b11_apply : b11 j s (ix4 b t h d) = s.main_v49_1 (ix5 ⟨j, hj⟩ b t h d) := by
  unfold b11 b10
  rw [Host.dynamicSlice_eq_extractStridedSlice _ _ _ ![j, 0, 0, 0, 0] _ (slices_block j hj) (start_eq j hj)]
  exact block_apply _ j hj b t h d

theorem b17_apply : b17 j s (ix4 b t h d) = s.main_v49_2 (ix5 ⟨j, hj⟩ b t h d) := by
  unfold b17 b16
  rw [Host.dynamicSlice_eq_extractStridedSlice _ _ _ ![j, 0, 0, 0, 0] _ (slices_block j hj) (start_eq j hj)]
  exact block_apply _ j hj b t h d

theorem b23_apply : b23 j s (ix4 b t h d) = s.main_v49_3 (ix5 ⟨j, hj⟩ b t h d) := by
  unfold b23 b22
  rw [Host.dynamicSlice_eq_extractStridedSlice _ _ _ ![j, 0, 0, 0, 0] _ (slices_block j hj) (start_eq j hj)]
  exact block_apply _ j hj b t h d

/-- The stack after a trip: the trip's block, the earlier ones elsewhere. -/
theorem b88_apply (n : Fin 512) :
    b88 j s (ix5 n b t h v) = if n.val = j then b82 j s (ix4 b t h v) else s.main_v49_6 (ix5 n b t h v) := by
  unfold b88 b83
  rw [Host.dynamicUpdateSlice_eq_updateSlice _ _ _ _ ![j, 0, 0, 0, 0] (fun a => by
    refine (congrArg (fun x : ℤ => (min (max x 0) _).toNat) (start_eq j hj a)).trans ?_
    fin_cases a
    · show (min (max (j : ℤ) 0) 511).toNat = j; omega
    all_goals rfl) (slices_block j hj)]
  rw [updateSlice_block, show broadcastInDim S1x2x16x4x128 ![1, 2, 3, 4] bcast_S2x16x4x128_S1x2x16x4x128_1_2_3_4 (b82 j s)
    (ix5 (0 : Fin 1) b t h v) = b82 j s (ix4 b t h v) by pointwise]

end Trip

section Block
variable (g k q vv : ℕ → Fin 128 → ℝ) (s0 : Fin 128 → Fin 128 → EReal)
  (j : ℕ) (hj : j < 512) (s : State 𝕀) (b : Fin 2) (h : Fin 4)

section Channel
variable (d : Fin 128)

/-- A block's running sum in a channel. -/
theorem b26_sum (f : ℕ → EReal) (hf : ∀ t : Fin 16, s.main_v49_3 (ix5 ⟨j, hj⟩ b t h d) = f t.val) (t : Fin 16) :
    b26 j s (ix4 b t h d) = ∑ r ∈ Finset.range (t.val + 1), f r := by
  unfold b26
  exact cumsum_apply (b23 j s) (b25 j s) (fun i => by unfold b25 b24; pointwise) f b t h d
    (fun r => (b23_apply j hj s b r h d).trans (hf r))

/-- A block's running log decays, in a channel with real ones. -/
theorem b26_apply (hg : ∀ t : Fin 16, s.main_v49_3 (ix5 ⟨j, hj⟩ b t h d) = (g (16 * j + t) d : EReal)) (t : Fin 16) :
    b26 j s (ix4 b t h d) = ((C g (16 * j + t + 1) d - C g (16 * j) d : ℝ) : EReal) := by
  rw [b26_sum j hj s b h d (fun r => ((g (16 * j + r) d : ℝ) : EReal)) hg, ← coe_sum, add_assoc, C_add, add_sub_cancel_left]

/-- A block's running log decays, in a channel where they are minus infinity. -/
theorem b26_dead (hg : ∀ t : Fin 16, s.main_v49_3 (ix5 ⟨j, hj⟩ b t h d) = ⊥) (t : Fin 16) : b26 j s (ix4 b t h d) = ⊥ := by
  rw [b26_sum j hj s b h d (fun _ => ⊥) hg]
  exact HeadValue.sum_bot _ _ 0 (Finset.mem_range.2 (by omega)) rfl

/-- A trip's next state, in a channel with log decays of minus infinity. -/
theorem b81_dead (hg : ∀ t : Fin 16, s.main_v49_3 (ix5 ⟨j, hj⟩ b t h d) = ⊥) (v : Fin 128) : b81 j s (ix4 b h d v) = 0 := by
  have hc := b26_dead j hj s b h d hg
  pointwise [b81, b80, b79, b78, b77, b76, b66, b65, b73, b72, b71, b70, b69]
  simp only [hc, HeadValue.bot_sub, HeadValue.exp_bot, mul_zero, zero_mul, Finset.sum_const_zero, add_zero]

/-- A trip's next state, in a channel with real log decays. -/
theorem b81_alive (hk : ∀ t : Fin 16, s.main_v49_1 (ix5 ⟨j, hj⟩ b t h d) = (k (16 * j + t) d : EReal))
    (hv : ∀ (t : Fin 16) d, s.main_v49_2 (ix5 ⟨j, hj⟩ b t h d) = (vv (16 * j + t) d : EReal))
    (hg : ∀ t : Fin 16, s.main_v49_3 (ix5 ⟨j, hj⟩ b t h d) = (g (16 * j + t) d : EReal))
    (hS : ∀ v, s.main_v49_5 (ix4 b h d v) = stateAt g k vv s0 (16 * j) d v) (v : Fin 128) :
    b81 j s (ix4 b h d v) = stateAt g k vv s0 (16 * (j + 1)) d v := by
  have hc := b26_apply g j hj s b h d hg
  pointwise [b81, b80, b79, b78, b77, b76, b66, b65, b73, b72, b71, b70, b69]
  simp only [hc, b11_apply j hj, b17_apply j hj, hk, hv, hS]
  rw [show 16 * (j + 1) = 16 * j + 16 by ring, ← state_block, Ideal.exp_coe]
  congr 1
  rw [← Fin.sum_univ_eq_sum_range (fun i => (k (16 * j + i) d * Real.exp (C g (16 * j + 16) d - C g (16 * j + i + 1) d)) * vv (16 * j + i) v) 16, coe_sum]
  refine Finset.sum_congr rfl fun x _ => ?_
  rw [← EReal.coe_sub, Ideal.exp_coe, ← EReal.coe_mul, ← EReal.coe_mul, sub_sub_sub_cancel_right]
  rfl

end Channel

section Dead
variable (D : Fin 128 → Prop) (hq0 : ∀ (i : ℕ) (d : Fin 128), D d → q i d = 0)
  (hq : ∀ (t : Fin 16) d, ¬D d → s.main_v49_0 (ix5 ⟨j, hj⟩ b t h d) = (q (16 * j + t) d : EReal))
  (hk : ∀ (t : Fin 16) d, ¬D d → s.main_v49_1 (ix5 ⟨j, hj⟩ b t h d) = (k (16 * j + t) d : EReal))
  (hv : ∀ (t : Fin 16) d, s.main_v49_2 (ix5 ⟨j, hj⟩ b t h d) = (vv (16 * j + t) d : EReal))
  (hg : ∀ (t : Fin 16) d, ¬D d → s.main_v49_3 (ix5 ⟨j, hj⟩ b t h d) = (g (16 * j + t) d : EReal))
  (hg0 : ∀ (t : Fin 16) d, D d → s.main_v49_3 (ix5 ⟨j, hj⟩ b t h d) = ⊥)
  (hS : ∀ d v, ¬D d → s.main_v49_5 (ix4 b h d v) = stateAt g k vv s0 (16 * j) d v)

include hq0 hq hk hv hg hg0 hS in
/-- A trip's readings; a channel with log decays of minus infinity gives nothing. -/
theorem b82_dead (t : Fin 16) (v : Fin 128) :
    b82 j s (ix4 b t h v) = outAt g k q vv s0 (16 * j + t) v := by
  have hc := fun d (c : ¬D d) => b26_apply g j hj s b h d (fun t => hg t d c)
  have hd := fun d (c : D d) => b26_dead j hj s b h d (fun t => hg0 t d c)
  pointwise [b82, b75, b64, b74, b63, b62, b60, b54, b49, b48, b52, b46, b38, b37, b34, b32, b33, b29, b31, b30, b28, b27,
    b36, b35, b43, b42, b41, b40, b39, b59, b58, b57, b56, b55, b47, b45, b44, b53, b51, b50, b68, b67, b61]
  have hm : ∀ x : Fin 16, Scalar.select (IntOp.cmpi CmpIPredicate.sge (IntOp.addi (BitVec.ofNat 32 t.val) 0#32) (BitVec.ofNat 32 x.val))
      1#1 0#1 = if x.val ≤ t.val then 1#1 else 0#1 := by
    intro x
    rw [show IntOp.addi (BitVec.ofNat 32 t.val) 0#32 = BitVec.ofNat 32 t.val from BitVec.add_zero _,
      HeadValue.sge_ofNat _ _ (by omega) (by omega), HeadValue.sel]
  simp only [hm, HeadValue.sel, b5_apply j hj, b11_apply j hj, b17_apply j hj, hv]
  rw [add_comm, ← out_block]
  congr 1
  · refine Finset.sum_congr rfl fun d _ => ?_
    by_cases c : D d
    · rw [hd d c, hq0 _ d c, HeadValue.exp_bot]; simp
    · rw [hc d c, hq t d c, hS d v c, Ideal.exp_coe, ← EReal.coe_mul, mul_comm]
  · rw [← HeadValue.sum_mask (N := 16) t.val t.isLt, coe_sum]
    refine Finset.sum_congr rfl fun x _ => ?_
    by_cases c : x.val ≤ t.val
    · have hs : ∀ d : Fin 128, s.main_v49_0 (ix5 ⟨j, hj⟩ b t h d) * s.main_v49_1 (ix5 ⟨j, hj⟩ b x h d)
          * Ideal.exp (b26 j s (ix4 b t h d) - b26 j s (ix4 b x h d)) = _ := fun d =>
        HeadValue.term_fin (D d) _ _ _ _ _ _ _ _ (hc d · t) (hc d · x) (hq t d) (hk x d) (hd d · t) (hq0 _ d)
      simp only [c, if_true, one_mul, hs, ← EReal.coe_mul, ← coe_sum]
      refine congrArg _ ?_
      rw [mul_comm]
      refine congrArg (· * _) (Finset.sum_congr rfl fun d _ => ?_)
      rw [sub_sub_sub_cancel_right]; ring
    · simp only [c, if_false, zero_mul, mul_zero, Finset.sum_const_zero]
      rfl

end Dead

variable (hq : ∀ (t : Fin 16) d, s.main_v49_0 (ix5 ⟨j, hj⟩ b t h d) = (q (16 * j + t) d : EReal))
  (hk : ∀ (t : Fin 16) d, s.main_v49_1 (ix5 ⟨j, hj⟩ b t h d) = (k (16 * j + t) d : EReal))
  (hv : ∀ (t : Fin 16) d, s.main_v49_2 (ix5 ⟨j, hj⟩ b t h d) = (vv (16 * j + t) d : EReal))
  (hg : ∀ (t : Fin 16) d, s.main_v49_3 (ix5 ⟨j, hj⟩ b t h d) = (g (16 * j + t) d : EReal))
  (hS : ∀ d v, s.main_v49_5 (ix4 b h d v) = stateAt g k vv s0 (16 * j) d v)

include hq hk hv hg hS in
/-- A trip's readings, where every log decay is real. -/
theorem b82_apply (t : Fin 16) (v : Fin 128) : b82 j s (ix4 b t h v) = outAt g k q vv s0 (16 * j + t) v :=
  b82_dead g k q vv s0 j hj s b h (fun _ => False) (fun _ _ => False.elim) (fun t d _ => hq t d) (fun t d _ => hk t d) hv
    (fun t d _ => hg t d) (fun _ _ => False.elim) (fun d v _ => hS d v) t v

include hk hv hg hS in
/-- A trip's next state, where every log decay is real. -/
theorem b81_apply (d v : Fin 128) : b81 j s (ix4 b h d v) = stateAt g k vv s0 (16 * (j + 1)) d v :=
  b81_alive g k vv s0 j hj s b h d (fun t => hk t d) hv (fun t => hg t d) (hS d) v

end Block

end Cert.Proof.RefValue
-- ==== Proof.RefRun.lean ====
/-
  The reference's results at an index: its blocked operands are the gates of the projected tokens, so after `k` trips the
  carried state is the recurrence's at token `16 k` and the stacked readings of the first `k` blocks are the recurrence's.
-/
module

public import proofs.«01_k».proof.Proof.RefValue

public section

set_option maxRecDepth 16384

namespace Cert.Proof.RefRun

open Cert.ReferenceIdeal Cert.ReferenceIdeal.Gen Cert.ReferenceIdeal.Step Idealize.ShloMosaic Idealize.ShloMosaic.TcCoe
open Idealize.ShloMosaic.Pointwise Cert.Proof.Recur Cert.Proof.Gates Cert.Proof.RefLoop Cert.Proof.RefValue

local notation "𝕀" => Idealize.ShloMosaic.Ideal

variable (z : FVec 𝕀 S16896x8704 .f32) (lb : FVec 𝕀 S1x512 .f32) (s0 : FVec 𝕀 S2x4x128x128 .f32)

section Operands
variable (j : ℕ) (hj : j < 512) (b : Fin 2) (t : Fin 16) (h : Fin 4) (d : Fin 128)

/-- A read of the projected tokens, by its row's and column's numbers. -/
theorem read_z (o : ℕ) (ho : o + 512 ≤ 8704) (n : ℕ) (hn : n < 8192) (r : Fin 16896) (c : Fin 8704) (hr : r.val = b.val * 8192 + n)
    (hc : c.val = o + (h.val * 128 + d.val)) : z (ix2 r c) = z (ix2 (tok b n) (col h o ho d)) := by
  have e1 : r = tok b n := Fin.ext (by
    have := b.isLt
    show r.val = (b.val * 8192 + n) % 16896
    rw [hr, Nat.mod_eq_of_lt (by omega)])
  have e2 : c = col h o ho d := Fin.ext hc
  rw [e1, e2]

/-- A read of the lower bounds, by its column's number. -/
theorem read_lb (c : Fin 512) (hc : c.val = h.val * 128 + d.val) : lb (ix2 0 c) = lb (ix2 0 (ch h d)) := by
  have e : c = ch h d := Fin.ext hc
  rw [e]

/-- The blocked queries. -/
theorem query_apply : A_main_v41 (F := 𝕀) z lb (ix5 ⟨j, hj⟩ b t h d) = query1 (z (ix2 (tok b (16 * j + t)) (col h 3072 (by decide) d))) := by
  pointwise [A_main_v41, A_main_v40, A_main_v38, A_main_v36, A_main_v35, A_main_call0_v5, A_main_call0_v3, A_main_call0_v1,
    A_main_call0_v0, A_main_v1, A_main_v0, K_main_call0_v2, K_main_call0_v4, K_main_call0_cst, K_main_call0_cst_0, K_main_v37, K_main_cst_6]
  rw [read_z z b h d 3072 (by decide) (16 * j + t) (by omega) _ _ ?_ ?_]
  · rfl
  · simp; omega
  · simp

/-- The blocked keys. -/
theorem key_apply : A_main_v43 (F := 𝕀) z lb (ix5 ⟨j, hj⟩ b t h d)
    = key1 (lb (ix2 0 (ch h d))) (z (ix2 (tok b (16 * j + t)) (col h 3584 (by decide) d))) := by
  pointwise [A_main_v43, A_main_v42, A_main_v34, A_main_v33, A_main_v32, A_main_v31, A_main_v29, A_main_v27, A_main_v26, A_main_v25,
    A_main_v24, A_main_v5, A_main_v4, A_main_v2, A_main_v0, K_main_v23, K_main_cst_3, K_main_v28, K_main_cst_4, K_main_v30, K_main_cst_5]
  rw [read_z z b h d 3584 (by decide) (16 * j + t) (by omega) _ _ ?_ ?_, read_lb lb h d _ ?_]
  · rfl
  · simp
  · simp; omega
  · simp

/-- The blocked values. -/
theorem value_apply : A_main_v45 (F := 𝕀) z lb (ix5 ⟨j, hj⟩ b t h d) = z (ix2 (tok b (16 * j + t)) (col h 4096 (by decide) d)) := by
  pointwise [A_main_v45, A_main_v44, A_main_v39, A_main_v3, A_main_v0]
  rw [read_z z b h d 4096 (by decide) (16 * j + t) (by omega) _ _ ?_ ?_]
  · simp; omega
  · simp

/-- The blocked log decays. -/
theorem gate_apply : A_main_v47 (F := 𝕀) z lb (ix5 ⟨j, hj⟩ b t h d)
    = gate1 (lb (ix2 0 (ch h d))) (z (ix2 (tok b (16 * j + t)) (col h 3584 (by decide) d))) := by
  pointwise [A_main_v47, A_main_v46, A_main_v22, A_main_v21, A_main_v19, A_main_v18, A_main_v17, A_main_v16, A_main_v15, A_main_v14,
    A_main_v13, A_main_v11, A_main_v9, A_main_v8, A_main_v7, A_main_v5, A_main_v4, A_main_v2, A_main_v0, K_main_v6, K_main_cst,
    K_main_v10, K_main_cst_0, K_main_v12, K_main_cst_1, K_main_v20, K_main_cst_2]
  rw [read_z z b h d 3584 (by decide) (16 * j + t) (by omega) _ _ ?_ ?_, read_lb lb h d _ ?_]
  · rfl
  · simp
  · simp; omega
  · simp

end Operands

/-- The recurrence's state of a sequence's head after `n` tokens. -/
noncomputable abbrev St (b : Fin 2) (h : Fin 4) (n : ℕ) (d v : Fin 128) : EReal :=
  stateAt (G z lb b h) (K z lb b h) (V z b h) (S0 s0 b h) n d v

/-- The recurrence's reading at a token of a sequence's head. -/
noncomputable abbrev Out (b : Fin 2) (h : Fin 4) (n : ℕ) (v : Fin 128) : EReal :=
  outAt (G z lb b h) (K z lb b h) (Q z b h) (V z b h) (S0 s0 b h) n v

/-- What the loop holds after `k` trips. -/
structure Holds (k : ℕ) (s : State 𝕀) : Prop where
  hq : s.main_v49_0 = A_main_v41 (F := 𝕀) z lb
  hk : s.main_v49_1 = A_main_v43 (F := 𝕀) z lb
  hv : s.main_v49_2 = A_main_v45 (F := 𝕀) z lb
  hg : s.main_v49_3 = A_main_v47 (F := 𝕀) z lb
  state : ∀ b h d v, s.main_v49_5 (ix4 b h d v) = St z lb s0 b h (16 * k) d v
  out : ∀ (n : Fin 512) b (t : Fin 16) h v, n.val < k → s.main_v49_6 (ix5 n b t h v) = Out z lb s0 b h (16 * n + t) v

variable (hf : Finite z lb)
include hf

/-- One more trip. -/
theorem holds_step (k : ℕ) (hk : k < 512) (s : State 𝕀) (H : Holds z lb s0 k s) : Holds z lb s0 (k + 1) (step k s) where
  hq := H.hq
  hk := H.hk
  hv := H.hv
  hg := H.hg
  state b h d v := by
    rw [step_main_v49_5]
    exact b81_apply _ _ _ _ k hk s b h
      (fun t d => by rw [H.hk, key_apply]; exact key_eq z lb b h hf _ _)
      (fun t d => by rw [H.hv, value_apply]; exact value_eq z lb b h hf _ (by omega) _)
      (fun t d => by rw [H.hg, gate_apply]; exact gate_eq z lb b h hf _ _)
      (H.state b h) d v
  out n b t h v hn := by
    rw [step_main_v49_6, b88_apply k hk]
    by_cases e : n.val = k
    · rw [if_pos e, e]
      exact b82_apply _ _ _ _ _ k hk s b h
        (fun t d => by rw [H.hq, query_apply]; exact query_eq z lb b h hf _ (by omega) _)
        (fun t d => by rw [H.hk, key_apply]; exact key_eq z lb b h hf _ _)
        (fun t d => by rw [H.hv, value_apply]; exact value_eq z lb b h hf _ (by omega) _)
        (fun t d => by rw [H.hg, gate_apply]; exact gate_eq z lb b h hf _ _)
        (H.state b h) t v
    · rw [if_neg e]
      exact H.out n b t h v (by omega)

/-- After every number of trips. -/
theorem holds : ∀ k ≤ 512, Holds z lb s0 k (refIter z lb s0 k)
  | 0, _ =>
    { hq := rfl
      hk := rfl
      hv := rfl
      hg := rfl
      state := fun b h d v => by rw [Nat.mul_zero, St, stateAt_zero]; rfl
      out := fun n b t h v hn => absurd hn (by omega) }
  | k + 1, hk => holds_step z lb s0 hf k (by omega) _ (holds k (by omega))

/-- The reference's last state. -/
theorem state_ref (k : ℕ) (hk : k = 512) (b : Fin 2) (h : Fin 4) (d v : Fin 128) :
    (refIter (F := 𝕀) z lb s0 k).main_v49_5 (ix4 b h d v) = St z lb s0 b h 8192 d v := by
  rw [(holds z lb s0 hf k hk.le).state b h d v, hk]

omit hf in
/-- The output tokens, of a loop's last state. -/
theorem finish_apply (nw : FVec 𝕀 S1x128 .f32) (s : State 𝕀)
    (ho : ∀ (n : Fin 512) b (t : Fin 16) h v, s.main_v49_6 (ix5 n b t h v) = Out z lb s0 b h (16 * n + t) v)
    (r : Fin 16384) (c : Fin 512) :
    R_main_v70 (F := 𝕀) s z nw (ix2 r c)
      = finish1 (Out z lb s0 ⟨r.val / 8192, by omega⟩ ⟨c.val / 128, by omega⟩ (r.val % 8192)) (nw (ix2 0 ⟨c.val % 128, by omega⟩))
        (z (ix2 ⟨r.val, by omega⟩ ⟨4608 + c.val, by omega⟩)) ⟨c.val % 128, by omega⟩ := by
  pointwise [R_main_v70]
  simp only [ho, Nat.div_add_mod]
  unfold finish1 Ideal.logistic
  rfl

/-- The reference's output tokens. -/
theorem out_ref (k : ℕ) (hk : k = 512) (nw : FVec 𝕀 S1x128 .f32) (r : Fin 16384) (c : Fin 512) :
    R_main_v70 (F := 𝕀) (refIter (F := 𝕀) z lb s0 k) z nw (ix2 r c)
      = finish1 (Out z lb s0 ⟨r.val / 8192, by omega⟩ ⟨c.val / 128, by omega⟩ (r.val % 8192)) (nw (ix2 0 ⟨c.val % 128, by omega⟩))
        (z (ix2 ⟨r.val, by omega⟩ ⟨4608 + c.val, by omega⟩)) ⟨c.val % 128, by omega⟩ :=
  finish_apply z lb s0 nw _ (fun n b t h v => (holds z lb s0 hf k hk.le).out n b t h v (by rw [hk]; exact n.isLt)) r c

end Cert.Proof.RefRun
-- ==== Proof.ChunkValue.lean ====
/-
  A chunk of the kernel at an index: with blocks cut from the projected tokens, and a head's scratch slice at the
  recurrence's state before the chunk, the head's stores are the recurrence's readings, finished, and its state after it.
-/
module

public import proofs.«01_k».proof.Proof.Pieces
public import proofs.«01_k».proof.Proof.RefRun

public section

set_option maxRecDepth 16384

namespace Cert.Proof.ChunkValue

open Cert.KernelIdeal Cert.KernelIdeal.Gen Idealize.ShloMosaic Idealize.ShloMosaic.TcCoe
open Idealize.ShloMosaic.Pointwise Cert.Proof.Gates Cert.Proof.Head Cert.Proof.Pieces
open Cert.Proof.RefRun (St Out)

local notation "𝕀" => Idealize.ShloMosaic.Ideal

/-- A head's columns of a block. -/
theorem ld_col (x : FVec 𝕀 S128x512 .f32) (h : Fin 4) (o : ℕ) (ho : o = h.val * 128)
    (inb : ∀ a, (![0, o] : Fin 2 → ℕ) a + S128x128.size a ≤ S128x512.size a) (r d : Fin 128) :
    View.ld (Val := Elt 𝕀) (e' := .f32) x (colRect o inb) (ix2 r d) = x (ix2 r (ch h d)) := by
  subst ho
  refine congrArg x (funext fun a => Fin.ext ?_)
  match a with
  | ⟨0, _⟩ => show 0 + 1 * r.val = r.val; omega
  | ⟨1, _⟩ => show h.val * 128 + 1 * d.val = h.val * 128 + d.val; omega

/-- A head's lower bounds. -/
theorem ld_lb (x : FVec 𝕀 S1x512 .f32) (h : Fin 4) (o : ℕ) (ho : o = h.val * 128)
    (inb : ∀ a, (![0, o] : Fin 2 → ℕ) a + S1x128.size a ≤ S1x512.size a) (d : Fin 128) :
    View.ld (Val := Elt 𝕀) (e' := .f32) x (lbRect o inb) (ix2 0 d) = x (ix2 0 (ch h d)) := by
  subst ho
  refine congrArg x (funext fun a => Fin.ext ?_)
  match a with
  | ⟨0, _⟩ => rfl
  | ⟨1, _⟩ => show h.val * 128 + 1 * d.val = h.val * 128 + d.val; omega

/-- The norm's weights. -/
theorem ld_nw (x : FVec 𝕀 S1x128 .f32) (d : Fin 128) :
    View.ld (Val := Elt 𝕀) (e' := .f32) x (Rect.unit ![0, 0] S1x128.size inb_S1x128_S1x128_0_0) (ix2 0 d) = x (ix2 0 d) := by
  refine congrArg x (funext fun a => Fin.ext ?_)
  match a with
  | ⟨0, _⟩ => rfl
  | ⟨1, _⟩ => show 0 + 1 * d.val = d.val; omega

theorem gateLog_apply (zf : FVec 𝕀 S128x128 .f32) (lb : FVec 𝕀 S1x128 .f32) (r d : Fin 128) :
    gateLog zf lb (ix2 r d) = gate1 (lb (ix2 0 d)) (zf (ix2 r d)) := by
  pointwise [gateLog]
  rfl

theorem gateKey_apply (zf : FVec 𝕀 S128x128 .f32) (lb : FVec 𝕀 S1x128 .f32) (r d : Fin 128) :
    gateKey zf lb (ix2 r d) = key1 (lb (ix2 0 d)) (zf (ix2 r d)) := by
  pointwise [gateKey]
  rw [zero_sub]
  rfl

theorem gateQuery_apply (zq : FVec 𝕀 S128x128 .f32) (r d : Fin 128) : gateQuery zq (ix2 r d) = query1 (zq (ix2 r d)) := by
  pointwise [gateQuery]
  rfl

theorem finish_apply (o gate : FVec 𝕀 S128x128 .f32) (nw : FVec 𝕀 S1x128 .f32) (r d : Fin 128) :
    finish o nw gate (ix2 r d) = finish1 (fun w => o (ix2 r w)) (nw (ix2 0 d)) (gate (ix2 r d)) d := by
  pointwise [finish]
  rfl

variable (z : FVec 𝕀 S16896x8704 .f32) (lb : FVec 𝕀 S1x512 .f32) (nw : FVec 𝕀 S1x128 .f32) (s0 : FVec 𝕀 S2x4x128x128 .f32)
  (b : Fin 2) (n : ℕ) (x0 x1 x2 x3 : FVec 𝕀 S128x512 .f32) (x4 : FVec 𝕀 S1x512 .f32) (x5 : FVec 𝕀 S1x128 .f32)

/-- The blocks of the chunk at token `n` of a sequence. -/
structure Blocks : Prop where
  hq : ∀ (r : Fin 128) (h : Fin 4) (d : Fin 128), x0 (ix2 r (ch h d)) = z (ix2 (tok b (n + r)) (col h 3072 (by decide) d))
  hf : ∀ (r : Fin 128) (h : Fin 4) (d : Fin 128), x1 (ix2 r (ch h d)) = z (ix2 (tok b (n + r)) (col h 3584 (by decide) d))
  hv : ∀ (r : Fin 128) (h : Fin 4) (d : Fin 128), x2 (ix2 r (ch h d)) = z (ix2 (tok b (n + r)) (col h 4096 (by decide) d))
  hg : ∀ (r : Fin 128) (h : Fin 4) (d : Fin 128), x3 (ix2 r (ch h d)) = z (ix2 (tok b (n + r)) (col h 4608 (by decide) d))
  hlb : ∀ (h : Fin 4) (d : Fin 128), x4 (ix2 0 (ch h d)) = lb (ix2 0 (ch h d))
  hnw : ∀ d : Fin 128, x5 (ix2 0 d) = nw (ix2 0 d)

variable (hfin : Finite z lb) (hn : n + 128 ≤ 8192) (B : Blocks z lb nw b n x0 x1 x2 x3 x4 x5)
  (h : Fin 4) (o : ℕ) (ho : o = h.val * 128)
  (inb : ∀ a, (![0, o] : Fin 2 → ℕ) a + S128x128.size a ≤ S128x512.size a)
  (inl : ∀ a, (![0, o] : Fin 2 → ℕ) a + S1x128.size a ≤ S1x512.size a) (st : FVec 𝕀 S1x128x128 .f32)
  (hst : ∀ w d, st (ix3 0 w d) = St z lb s0 b h n d w)
include hfin hn B ho hst

/-- A head's state after the chunk. -/
theorem next_apply (w d : Fin 128) : nextAt x1 x2 x4 o inb inl st (ix3 0 w d) = St z lb s0 b h (n + 128) d w :=
  HeadValue.state_apply (G z lb b h) (K z lb b h) (V z b h) (S0 s0 b h) n _ _ _ _
    (fun i d => by rw [gateLog_apply, ld_lb x4 h o ho, ld_col x1 h o ho, B.hf, B.hlb]; exact gate_eq z lb b h hfin _ _)
    (fun i d => by rw [gateKey_apply, ld_lb x4 h o ho, ld_col x1 h o ho, B.hf, B.hlb]; exact key_eq z lb b h hfin _ _)
    (fun i d => by rw [ld_col x2 h o ho, B.hv]; exact value_eq z lb b h hfin _ (by omega) _)
    hst w d

/-- A head's output. -/
theorem out_apply (r w : Fin 128) : outAt x0 x1 x2 x3 x4 x5 o inb inl st (ix2 r w)
    = finish1 (Out z lb s0 b h (n + r)) (nw (ix2 0 w)) (z (ix2 (tok b (n + r)) (col h 4608 (by decide) w))) w := by
  unfold outAt headOut
  rw [finish_apply, ld_nw, ld_col x3 h o ho, B.hg, B.hnw]
  congr 1
  funext w
  exact HeadValue.out_apply (G z lb b h) (K z lb b h) (Q z b h) (V z b h) (S0 s0 b h) n _ _ _ _ _
    (fun i d => by rw [gateLog_apply, ld_lb x4 h o ho, ld_col x1 h o ho, B.hf, B.hlb]; exact gate_eq z lb b h hfin _ _)
    (fun i d => by rw [gateKey_apply, ld_lb x4 h o ho, ld_col x1 h o ho, B.hf, B.hlb]; exact key_eq z lb b h hfin _ _)
    (fun i d => by rw [gateQuery_apply, ld_col x0 h o ho, B.hq]; exact query_eq z lb b h hfin _ (by omega) _)
    (fun i d => by rw [ld_col x2 h o ho, B.hv]; exact value_eq z lb b h hfin _ (by omega) _)
    hst r w

end Cert.Proof.ChunkValue
-- ==== Proof.KernelValue.lean ====
/-
  The kernel's results at an index. Point `64 b + i` of the grid is chunk `i` of sequence `b`: by induction over the points,
  the scratch after it holds the recurrence's states after `128 (i + 1)` tokens, its output block the recurrence's readings,
  and at a sequence's last chunk the state block the last states.
-/
module

public import proofs.«01_k».proof.Proof.ChunkValue

public section

set_option maxRecDepth 16384

namespace Cert.Proof.KernelValue

open Cert.KernelIdeal Cert.KernelIdeal.Gen Cert.KernelIdeal.Value Idealize.ShloMosaic Idealize.ShloMosaic.TcCoe Idealize.SL.Sem
open Idealize.ShloMosaic.Pointwise Cert.Proof.Gates Cert.Proof.Head Cert.Proof.Pieces Cert.Proof.ChunkValue
open Cert.Proof.RefRun (St Out)

local notation "𝕀" => Idealize.ShloMosaic.Ideal

/-! ## The stores read back -/

/-- A scratch filled slice by slice, at an index. -/
theorem canon_slots (t : Fin 4 → FVec 𝕀 S1x128x128 .f32) (L : List (View.Piece (Elt 𝕀) S4x128x128 .f32)) (h : Fin 4) (w d : Fin 128) :
    View.canon (slotList (t 0) (t 1) (t 2) (t 3) L) (ix3 h w d) = t h (ix3 0 w d) := by
  have hit : ∀ (k : ℕ) (inb) (v : FVec 𝕀 S1x128x128 .f32) (L' : List (View.Piece (Elt 𝕀) S4x128x128 .f32)), h.val = k →
      View.canon (⟨slotRect k inb, v⟩ :: L') (ix3 h w d) = v (ix3 0 w d) := by
    intro k inb v L' hk
    have e : (slotRect k inb).emb (ix3 0 w d : S1x128x128.Idx) = ix3 h w d := funext fun a => Fin.ext (by
      subst hk
      match a with
      | ⟨0, _⟩ => rfl
      | ⟨1, _⟩ => show 0 + 1 * w.val = w.val; omega
      | ⟨2, _⟩ => show 0 + 1 * d.val = d.val; omega)
    rw [← e]
    exact View.canon_cons_emb _ _ _ _
  have miss : ∀ (k : ℕ) (inb) (v : FVec 𝕀 S1x128x128 .f32) (L' : List (View.Piece (Elt 𝕀) S4x128x128 .f32)), h.val ≠ k →
      View.canon (⟨slotRect k inb, v⟩ :: L') (ix3 h w d) = View.canon L' (ix3 h w d) := by
    intro k inb v L' hk
    refine View.canon_cons_of_not_mem _ _ fun hm => hk ?_
    have : k ≤ h.val ∧ h.val < k + 1 := (Rect.mem_set_unit (inb := inb)).1 hm 0
    omega
  unfold slotList
  fin_cases h
  · exact (miss 3 _ _ _ (by decide)).trans ((miss 2 _ _ _ (by decide)).trans ((miss 1 _ _ _ (by decide)).trans (hit 0 _ _ _ rfl)))
  · exact (miss 3 _ _ _ (by decide)).trans ((miss 2 _ _ _ (by decide)).trans (hit 1 _ _ _ rfl))
  · exact (miss 3 _ _ _ (by decide)).trans (hit 2 _ _ _ rfl)
  · exact hit 3 _ _ _ rfl

/-- A state window filled head by head, at an index. -/
theorem canon_wins (t : Fin 4 → FVec 𝕀 S1x128x128 .f32) (h : Fin 4) (d w : Fin 128) :
    View.canon (winList (t 0) (t 1) (t 2) (t 3)) (ix4 0 h d w) = t h (ix3 0 w d) := by
  have hit : ∀ (k : ℕ) (inb) (v : FVec 𝕀 S1x128x128 .f32) (L' : List (View.Piece (Elt 𝕀) S1x4x128x128 .f32)), h.val = k →
      View.canon (⟨winRect k inb, stateOut v⟩ :: L') (ix4 0 h d w) = v (ix3 0 w d) := by
    intro k inb v L' hk
    have e : (winRect k inb).emb (ix4 0 0 d w : S1x1x128x128.Idx) = ix4 0 h d w := funext fun a => Fin.ext (by
      subst hk
      match a with
      | ⟨0, _⟩ => rfl
      | ⟨1, _⟩ => rfl
      | ⟨2, _⟩ => show 0 + 1 * d.val = d.val; omega
      | ⟨3, _⟩ => show 0 + 1 * w.val = w.val; omega)
    rw [← e]
    refine (View.canon_cons_emb _ _ _ _).trans ?_
    pointwise [stateOut]
  have miss : ∀ (k : ℕ) (inb) (v : FVec 𝕀 S1x1x128x128 .f32) (L' : List (View.Piece (Elt 𝕀) S1x4x128x128 .f32)), h.val ≠ k →
      View.canon (⟨winRect k inb, v⟩ :: L') (ix4 0 h d w) = View.canon L' (ix4 0 h d w) := by
    intro k inb v L' hk
    refine View.canon_cons_of_not_mem _ _ fun hm => hk ?_
    have : k ≤ h.val ∧ h.val < k + 1 := (Rect.mem_set_unit (inb := inb)).1 hm 1
    omega
  unfold winList
  fin_cases h
  · exact (miss 3 _ _ _ (by decide)).trans ((miss 2 _ _ _ (by decide)).trans ((miss 1 _ _ _ (by decide)).trans (hit 0 _ _ _ rfl)))
  · exact (miss 3 _ _ _ (by decide)).trans ((miss 2 _ _ _ (by decide)).trans (hit 1 _ _ _ rfl))
  · exact (miss 3 _ _ _ (by decide)).trans (hit 2 _ _ _ rfl)
  · exact hit 3 _ _ _ rfl

section Chunk
variable (z : FVec 𝕀 S16896x8704 .f32) (lb : FVec 𝕀 S1x512 .f32) (nw : FVec 𝕀 S1x128 .f32) (s0 : FVec 𝕀 S2x4x128x128 .f32)
  (b : Fin 2) (n : ℕ) (x0 x1 x2 x3 : FVec 𝕀 S128x512 .f32) (x4 : FVec 𝕀 S1x512 .f32) (x5 : FVec 𝕀 S1x128 .f32)
  (hfin : Finite z lb) (hn : n + 128 ≤ 8192) (B : Blocks z lb nw b n x0 x1 x2 x3 x4 x5)
  (t : Fin 4 → FVec 𝕀 S1x128x128 .f32) (ht : ∀ h w d, t h (ix3 0 w d) = St z lb s0 b h n d w)
include hfin hn B ht

/-- The heads' stores into the scratch. -/
theorem canon_states (L : List (View.Piece (Elt 𝕀) S4x128x128 .f32)) (h : Fin 4) (w d : Fin 128) :
    View.canon (stateList x1 x2 x4 (t 0) (t 1) (t 2) (t 3) L) (ix3 h w d) = St z lb s0 b h (n + 128) d w := by
  unfold stateList
  refine (canon_slots (![_, _, _, _] : Fin 4 → FVec 𝕀 S1x128x128 .f32) L h w d).trans ?_
  fin_cases h
  · exact next_apply z lb nw s0 b n x0 x1 x2 x3 x4 x5 hfin hn B 0 0 rfl _ _ (t 0) (ht 0) w d
  · exact next_apply z lb nw s0 b n x0 x1 x2 x3 x4 x5 hfin hn B 1 128 rfl _ _ (t 1) (ht 1) w d
  · exact next_apply z lb nw s0 b n x0 x1 x2 x3 x4 x5 hfin hn B 2 256 rfl _ _ (t 2) (ht 2) w d
  · exact next_apply z lb nw s0 b n x0 x1 x2 x3 x4 x5 hfin hn B 3 384 rfl _ _ (t 3) (ht 3) w d

/-- The stores into the state window. -/
theorem canon_last (h : Fin 4) (d w : Fin 128) :
    View.canon (winList
      (nextAt x1 x2 x4 0 inb_S128x512_S128x128_0_0 inb_S1x512_S1x128_0_0 (t 0))
      (nextAt x1 x2 x4 128 inb_S128x512_S128x128_0_128 inb_S1x512_S1x128_0_128 (t 1))
      (nextAt x1 x2 x4 256 inb_S128x512_S128x128_0_256 inb_S1x512_S1x128_0_256 (t 2))
      (nextAt x1 x2 x4 384 inb_S128x512_S128x128_0_384 inb_S1x512_S1x128_0_384 (t 3))) (ix4 0 h d w) = St z lb s0 b h (n + 128) d w := by
  refine (canon_wins (![_, _, _, _] : Fin 4 → FVec 𝕀 S1x128x128 .f32) h d w).trans ?_
  fin_cases h
  · exact next_apply z lb nw s0 b n x0 x1 x2 x3 x4 x5 hfin hn B 0 0 rfl _ _ (t 0) (ht 0) w d
  · exact next_apply z lb nw s0 b n x0 x1 x2 x3 x4 x5 hfin hn B 1 128 rfl _ _ (t 1) (ht 1) w d
  · exact next_apply z lb nw s0 b n x0 x1 x2 x3 x4 x5 hfin hn B 2 256 rfl _ _ (t 2) (ht 2) w d
  · exact next_apply z lb nw s0 b n x0 x1 x2 x3 x4 x5 hfin hn B 3 384 rfl _ _ (t 3) (ht 3) w d

/-- The stores into the output block. -/
theorem canon_out (r : Fin 128) (h : Fin 4) (w : Fin 128) :
    View.canon (outList x0 x1 x2 x3 x4 x5 (t 0) (t 1) (t 2) (t 3)) (ix2 r (ch h w))
      = finish1 (Out z lb s0 b h (n + r)) (nw (ix2 0 w)) (z (ix2 (tok b (n + r)) (col h 4608 (by decide) w))) w := by
  have hit : ∀ (o : ℕ) (inb) (v : FVec 𝕀 S128x128 .f32) (L' : List (View.Piece (Elt 𝕀) S128x512 .f32)), o = h.val * 128 →
      View.canon (⟨colRect o inb, v⟩ :: L') (ix2 r (ch h w)) = v (ix2 r w) := by
    intro k inb v L' hk
    have e : (colRect k inb).emb (ix2 r w : S128x128.Idx) = ix2 r (ch h w) := funext fun a => Fin.ext (by
      subst hk
      match a with
      | ⟨0, _⟩ => show 0 + 1 * r.val = r.val; omega
      | ⟨1, _⟩ => show h.val * 128 + 1 * w.val = h.val * 128 + w.val; omega)
    rw [← e]
    exact View.canon_cons_emb _ _ _ _
  have miss : ∀ (k : ℕ) (inb) (v : FVec 𝕀 S128x128 .f32) (L' : List (View.Piece (Elt 𝕀) S128x512 .f32)), h.val ≠ k →
      View.canon (⟨colRect (k * 128) inb, v⟩ :: L') (ix2 r (ch h w)) = View.canon L' (ix2 r (ch h w)) := by
    intro k inb v L' hk
    refine View.canon_cons_of_not_mem _ _ fun hm => hk ?_
    have : k * 128 ≤ h.val * 128 + w.val ∧ h.val * 128 + w.val < k * 128 + 128 := (Rect.mem_set_unit (inb := inb)).1 hm 1
    omega
  unfold outList
  fin_cases h
  · exact (miss 3 _ _ _ (by decide)).trans ((miss 2 _ _ _ (by decide)).trans ((miss 1 _ _ _ (by decide)).trans ((hit 0 _ _ _ rfl).trans
      (out_apply z lb nw s0 b n x0 x1 x2 x3 x4 x5 hfin hn B 0 0 rfl _ _ (t 0) (ht 0) r w))))
  · exact (miss 3 _ _ _ (by decide)).trans ((miss 2 _ _ _ (by decide)).trans ((hit 128 _ _ _ rfl).trans
      (out_apply z lb nw s0 b n x0 x1 x2 x3 x4 x5 hfin hn B 1 128 rfl _ _ (t 1) (ht 1) r w)))
  · exact (miss 3 _ _ _ (by decide)).trans ((hit 256 _ _ _ rfl).trans
      (out_apply z lb nw s0 b n x0 x1 x2 x3 x4 x5 hfin hn B 2 256 rfl _ _ (t 2) (ht 2) r w))
  · exact (hit 384 _ _ _ rfl).trans
      (out_apply z lb nw s0 b n x0 x1 x2 x3 x4 x5 hfin hn B 3 384 rfl _ _ (t 3) (ht 3) r w)

end Chunk

/-! ## The blocks of a point -/

section Point
variable (m : (ℓ : Loc nD τ sig) → Buf (Elt 𝕀) ℓ) (c : Dev nD)

/-- The projected tokens, lower bounds, norm weights and entry states of a memory. -/
abbrev Z : FVec 𝕀 S16896x8704 .f32 := m ((c : Thread nD τ).loc main_arg0)
abbrev LB : FVec 𝕀 S1x512 .f32 := m ((c : Thread nD τ).loc main_arg1)
abbrev NW : FVec 𝕀 S1x128 .f32 := m ((c : Thread nD τ).loc main_arg2)
abbrev S00 : FVec 𝕀 S2x4x128x128 .f32 := m ((c : Thread nD τ).loc main_arg3)

theorem idx0 : ∀ t : Fin cfg0.N, win0_0.index t (0 : Fin 2) = t.val ∧ win0_0.index t (1 : Fin 2) = 6 :=
  (by decide +kernel : ∀ t : Fin grid0.N, _)
theorem idx1 : ∀ t : Fin cfg0.N, win0_1.index t (0 : Fin 2) = t.val ∧ win0_1.index t (1 : Fin 2) = 7 :=
  (by decide +kernel : ∀ t : Fin grid0.N, _)
theorem idx2 : ∀ t : Fin cfg0.N, win0_2.index t (0 : Fin 2) = t.val ∧ win0_2.index t (1 : Fin 2) = 8 :=
  (by decide +kernel : ∀ t : Fin grid0.N, _)
theorem idx3 : ∀ t : Fin cfg0.N, win0_3.index t (0 : Fin 2) = t.val ∧ win0_3.index t (1 : Fin 2) = 9 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 4) = t.val / 64 ∧ win0_6.index t (1 : Fin 4) = 0
    ∧ win0_6.index t (2 : Fin 4) = 0 ∧ win0_6.index t (3 : Fin 4) = 0 :=
  (by decide +kernel : ∀ t : Fin grid0.N, _)

/-- The blocks of point `64 b + i` are those of the chunk at token `128 i`. -/
theorem blocks (t : Fin cfg0.N) (b : Fin 2) (i : ℕ) (hi : i < 64) (ht : t.val = 64 * b.val + i) :
    Blocks (Z m c) (LB m c) (NW m c) b (128 * i) (iblk m c 0 t) (iblk m c 1 t) (iblk m c 2 t) (iblk m c 3 t)
      (iblk m c 4 t) (iblk m c 5 t) := by
  have row : ∀ r : Fin 128, t.val * 128 + 1 * r.val = (b.val * 8192 + (128 * i + r.val)) % 16896 := by
    intro r
    have := b.isLt
    rw [Nat.mod_eq_of_lt (by omega), ht]
    ring
  constructor
  · intro r h d
    unfold iblk
    rw [View.read_apply]
    refine congrArg (V m c main_arg0) (funext fun a => Fin.ext ?_)
    match a with
    | ⟨0, _⟩ => show win0_0.index t 0 * 128 + 1 * r.val = (b.val * 8192 + (128 * i + r.val)) % 16896; rw [(idx0 t).1, row]
    | ⟨1, _⟩ => show win0_0.index t 1 * 512 + 1 * (h.val * 128 + d.val) = 3072 + (h.val * 128 + d.val); rw [(idx0 t).2]; omega
  · intro r h d
    unfold iblk
    rw [View.read_apply]
    refine congrArg (V m c main_arg0) (funext fun a => Fin.ext ?_)
    match a with
    | ⟨0, _⟩ => show win0_1.index t 0 * 128 + 1 * r.val = (b.val * 8192 + (128 * i + r.val)) % 16896; rw [(idx1 t).1, row]
    | ⟨1, _⟩ => show win0_1.index t 1 * 512 + 1 * (h.val * 128 + d.val) = 3584 + (h.val * 128 + d.val); rw [(idx1 t).2]; omega
  · intro r h d
    unfold iblk
    rw [View.read_apply]
    refine congrArg (V m c main_arg0) (funext fun a => Fin.ext ?_)
    match a with
    | ⟨0, _⟩ => show win0_2.index t 0 * 128 + 1 * r.val = (b.val * 8192 + (128 * i + r.val)) % 16896; rw [(idx2 t).1, row]
    | ⟨1, _⟩ => show win0_2.index t 1 * 512 + 1 * (h.val * 128 + d.val) = 4096 + (h.val * 128 + d.val); rw [(idx2 t).2]; omega
  · intro r h d
    unfold iblk
    rw [View.read_apply]
    refine congrArg (V m c main_arg0) (funext fun a => Fin.ext ?_)
    match a with
    | ⟨0, _⟩ => show win0_3.index t 0 * 128 + 1 * r.val = (b.val * 8192 + (128 * i + r.val)) % 16896; rw [(idx3 t).1, row]
    | ⟨1, _⟩ => show win0_3.index t 1 * 512 + 1 * (h.val * 128 + d.val) = 4608 + (h.val * 128 + d.val); rw [(idx3 t).2]; omega
  · intro h d
    unfold iblk
    rw [View.read_apply]
    refine congrArg (V m c main_arg1) (funext fun a => Fin.ext ?_)
    match a with
    | ⟨0, _⟩ => show win0_4.index t 0 * 1 + 1 * 0 = 0; rw [(idx4 t).1]
    | ⟨1, _⟩ => show win0_4.index t 1 * 512 + 1 * (h.val * 128 + d.val) = h.val * 128 + d.val; rw [(idx4 t).2]; omega
  · intro d
    unfold iblk
    rw [View.read_apply]
    refine congrArg (V m c main_arg2) (funext fun a => Fin.ext ?_)
    match a with
    | ⟨0, _⟩ => show win0_5.index t 0 * 1 + 1 * 0 = 0; rw [(idx5 t).1]
    | ⟨1, _⟩ => show win0_5.index t 1 * 128 + 1 * d.val = d.val; rw [(idx5 t).2]; omega

/-- The entry states, as the scratch takes them. -/
theorem entry (t : Fin cfg0.N) (b : Fin 2) (i : ℕ) (hi : i < 64) (ht : t.val = 64 * b.val + i) (h : Fin 4) (w d : Fin 128) :
    (![in0 (iblk m c 6 t), in1 (iblk m c 6 t), in2 (iblk m c 6 t), in3 (iblk m c 6 t)] : Fin 4 → FVec 𝕀 S1x128x128 .f32) h (ix3 0 w d)
      = S00 m c (ix4 b h d w) := by
  have rd : ∀ (k : ℕ) (inb), h.val = k →
      stateIn (View.ld (Val := Elt 𝕀) (e' := .f32) (iblk m c 6 t) (winRect k inb)) (ix3 0 w d) = S00 m c (ix4 b h d w) := by
    intro k inb hk
    pointwise [stateIn]
    unfold iblk
    refine Eq.trans (View.read_apply _ _) ?_
    refine congrArg (V m c main_arg3) (funext fun a => Fin.ext ?_)
    obtain ⟨e0, e1, e2, e3⟩ := idx6 t
    subst hk
    match a with
    | ⟨0, _⟩ => show win0_6.index t 0 * 1 + 1 * (0 + 1 * 0) = b.val; rw [e0]; omega
    | ⟨1, _⟩ => show win0_6.index t 1 * 4 + 1 * (h.val + 1 * 0) = h.val; rw [e1]; omega
    | ⟨2, _⟩ => show win0_6.index t 2 * 128 + 1 * d.val = d.val; rw [e2]; omega
    | ⟨3, _⟩ => show win0_6.index t 3 * 128 + 1 * w.val = w.val; rw [e3]; omega
  fin_cases h
  · exact rd 0 _ rfl
  · exact rd 1 _ rfl
  · exact rd 2 _ rfl
  · exact rd 3 _ rfl

/-! ## The induction over the points -/

/-- What the point of chunk `i` of sequence `b` leaves. -/
structure After (b : Fin 2) (i : ℕ) (o : Vec 𝕀 S128x512 .f32 × Vec 𝕀 S1x4x128x128 .f32 × Vec 𝕀 S4x128x128 .f32) : Prop where
  out : ∀ (r : Fin 128) (h : Fin 4) (w : Fin 128), o.1 (ix2 r (ch h w))
    = finish1 (Out (Z m c) (LB m c) (S00 m c) b h (128 * i + r)) (NW m c (ix2 0 w))
      (Z m c (ix2 (tok b (128 * i + r)) (col h 4608 (by decide) w))) w
  state : ∀ (h : Fin 4) (w d : Fin 128), o.2.2 (ix3 h w d) = St (Z m c) (LB m c) (S00 m c) b h (128 * i + 128) d w
  last : i = 63 → ∀ (h : Fin 4) (d w : Fin 128), o.2.1 (ix4 0 h d w) = St (Z m c) (LB m c) (S00 m c) b h 8192 d w

variable (hfin : Finite (Z m c) (LB m c))
include hfin

/-- The first chunk of a sequence. -/
theorem after_first (t : Fin cfg0.N) (b : Fin 2) (ht : t.val = 64 * b.val) : After m c b 0 (outsAt0 m c t.val t.isLt) := by
  have B := blocks m c t b 0 (by omega) (by omega)
  have hS : ∀ h w d, (![in0 (iblk m c 6 t), in1 (iblk m c 6 t), in2 (iblk m c 6 t), in3 (iblk m c 6 t)] :
      Fin 4 → FVec 𝕀 S1x128x128 .f32) h (ix3 0 w d) = St (Z m c) (LB m c) (S00 m c) b h (128 * 0) d w := by
    intro h w d
    rw [entry m c t b 0 (by omega) (by omega), Nat.mul_zero, St, Recur.stateAt_zero]
    rfl
  rw [outsAt0_A m c t (by omega) (by omega)]
  refine ⟨fun r h w => ?_, fun h w d => ?_, fun e => absurd e (by decide)⟩
  · dsimp only
    rw [out_A]
    exact canon_out _ _ _ _ b (128 * 0) _ _ _ _ _ _ hfin (by omega) B _ hS r h w
  · dsimp only
    rw [scratch_A]
    exact canon_states _ _ _ _ b (128 * 0) _ _ _ _ _ _ hfin (by omega) B _ hS _ h w d

omit hfin in
/-- The scratch's slices at an index. -/
theorem slots_apply (xs : Vec 𝕀 S4x128x128 .f32) (h : Fin 4) (w d : Fin 128) :
    (![slot0 xs, slot1 xs, slot2 xs, slot3 xs] : Fin 4 → FVec 𝕀 S1x128x128 .f32) h (ix3 0 w d) = xs (ix3 h w d) := by
  have rd : ∀ (k : ℕ) (inb), h.val = k →
      View.ld (Val := Elt 𝕀) (e' := .f32) xs (slotRect k inb) (ix3 0 w d) = xs (ix3 h w d) := by
    intro k inb hk
    subst hk
    refine congrArg xs (funext fun a => Fin.ext ?_)
    match a with
    | ⟨0, _⟩ => rfl
    | ⟨1, _⟩ => show 0 + 1 * w.val = w.val; omega
    | ⟨2, _⟩ => show 0 + 1 * d.val = d.val; omega
  fin_cases h
  · exact rd 0 _ rfl
  · exact rd 1 _ rfl
  · exact rd 2 _ rfl
  · exact rd 3 _ rfl

/-- A later chunk, from what the one before left. -/
theorem after_next (t : Fin cfg0.N) (b : Fin 2) (i : ℕ) (hi : i + 1 < 64) (ht : t.val = 64 * b.val + (i + 1))
    (H : After m c b i (outsAt0 m c (t.val - 1) (Nat.lt_of_le_of_lt (Nat.sub_le _ _) t.isLt))) :
    After m c b (i + 1) (outsAt0 m c t.val t.isLt) := by
  have B := blocks m c t b (i + 1) hi ht
  have hS : ∀ h w d, (![slot0 _, slot1 _, slot2 _, slot3 _] : Fin 4 → FVec 𝕀 S1x128x128 .f32) h (ix3 0 w d)
      = St (Z m c) (LB m c) (S00 m c) b h (128 * (i + 1)) d w := fun h w d => (slots_apply _ h w d).trans (H.state h w d)
  by_cases h63 : t.val % 64 = 63
  · rw [outsAt0_C m c t (by omega) h63]
    refine ⟨fun r h w => ?_, fun h w d => ?_, fun e h d w => ?_⟩
    · dsimp only
      rw [out_C]
      exact canon_out _ _ _ _ b (128 * (i + 1)) _ _ _ _ _ _ hfin (by omega) B _ hS r h w
    · dsimp only
      rw [scratch_C]
      exact canon_states _ _ _ _ b (128 * (i + 1)) _ _ _ _ _ _ hfin (by omega) B _ hS _ h w d
    · dsimp only
      rw [last_C, show 8192 = 128 * (i + 1) + 128 by omega]
      exact canon_last _ _ _ _ b (128 * (i + 1)) _ _ _ _ _ _ hfin (by omega) B _ hS h d w
  · rw [outsAt0_B m c t (by omega) h63]
    refine ⟨fun r h w => ?_, fun h w d => ?_, fun e => absurd e (by omega)⟩
    · dsimp only
      rw [out_B]
      exact canon_out _ _ _ _ b (128 * (i + 1)) _ _ _ _ _ _ hfin (by omega) B _ hS r h w
    · dsimp only
      rw [scratch_B]
      exact canon_states _ _ _ _ b (128 * (i + 1)) _ _ _ _ _ _ hfin (by omega) B _ hS _ h w d

/-- Every chunk of a sequence. -/
theorem after (b : Fin 2) : ∀ (i : ℕ) (_ : i < 64) (hn : 64 * b.val + i < cfg0.N), After m c b i (outsAt0 m c (64 * b.val + i) hn)
  | 0, _, hn => after_first m c hfin ⟨64 * b.val, hn⟩ b rfl
  | i + 1, hi, hn => after_next m c hfin ⟨64 * b.val + (i + 1), hn⟩ b i hi rfl (after b i (by omega) (Nat.lt_of_succ_lt hn))

/-- The kernel's output tokens. -/
theorem out_kernel (r : Fin 16384) (k : Fin 512) : G7 m c (ix2 r k)
    = finish1 (Out (Z m c) (LB m c) (S00 m c) ⟨r.val / 8192, by omega⟩ ⟨k.val / 128, by omega⟩ (r.val % 8192))
      (NW m c (ix2 0 ⟨k.val % 128, by omega⟩)) (Z m c (ix2 ⟨r.val, by omega⟩ ⟨4608 + k.val, by omega⟩)) ⟨k.val % 128, by omega⟩ := by
  have hp : pt7Of (ix2 r k) = 64 * (r.val / 8192) + r.val % 8192 / 128 := by
    show 1 * (r.val / 128 - 0) + 1 * (k.val / 512 - 0) = _
    omega
  have hN : 64 * (r.val / 8192) + r.val % 8192 / 128 < cfg0.N := lt_of_lt_of_eq (by omega) (show 128 = cfg0.N from N_0.symm)
  have H := (after m c hfin ⟨r.val / 8192, by omega⟩ (r.val % 8192 / 128) (by omega) hN).out ⟨r.val % 128, by omega⟩
    ⟨k.val / 128, by omega⟩ ⟨k.val % 128, by omega⟩
  unfold G7
  rw [dif_pos (by rw [hp]; exact hN), fold0_congr m c _ _ _ (by rw [Nat.zero_add]; exact hN) hp, ← outsAt0_sweep]
  have el : loc7Of (ix2 r k) = ix2 ⟨r.val % 128, by omega⟩ (ch ⟨k.val / 128, by omega⟩ ⟨k.val % 128, by omega⟩) :=
    funext fun a => Fin.ext (by
      match a with
      | ⟨0, _⟩ => rfl
      | ⟨1, _⟩ => show k.val % 512 = k.val / 128 * 128 + k.val % 128; omega)
  rw [el, H]
  have e1 : 128 * (r.val % 8192 / 128) + r.val % 128 = r.val % 8192 := by omega
  have e2 : (ix2 (tok ⟨r.val / 8192, by omega⟩ (128 * (r.val % 8192 / 128) + r.val % 128))
      (col ⟨k.val / 128, by omega⟩ 4608 (by decide) ⟨k.val % 128, by omega⟩) : S16896x8704.Idx)
      = ix2 ⟨r.val, by omega⟩ ⟨4608 + k.val, by omega⟩ := funext fun a => Fin.ext (by
    match a with
    | ⟨0, _⟩ =>
      show (r.val / 8192 * 8192 + (128 * (r.val % 8192 / 128) + r.val % 128)) % 16896 = r.val
      omega
    | ⟨1, _⟩ => show 4608 + (k.val / 128 * 128 + k.val % 128) = 4608 + k.val; omega)
  show finish1 (Out (Z m c) (LB m c) (S00 m c) _ _ (128 * (r.val % 8192 / 128) + r.val % 128)) _ (Z m c (ix2 (tok _ (128 * (r.val % 8192 / 128) + r.val % 128)) _)) _ = _
  rw [e2, e1]
  exact hN

/-- The kernel's last states. -/
theorem state_kernel (b : Fin 2) (h : Fin 4) (d v : Fin 128) :
    G8 m c (ix4 b h d v) = St (Z m c) (LB m c) (S00 m c) b h 8192 d v := by
  have hb := b.isLt
  have hh := h.isLt
  have hp : pt8Of (ix4 b h d v) = 64 * b.val + 63 := by
    show 64 * (1 * (b.val / 1 - 0) + 1 * (h.val / 4 - 0) + 1 * (d.val / 128 - 0) + 1 * (v.val / 128 - 0)) + 63 = _
    omega
  have hN : 64 * b.val + 63 < cfg0.N := lt_of_lt_of_eq (by omega) (show 128 = cfg0.N from N_0.symm)
  have H := (after m c hfin b 63 (by omega) hN).last rfl h d v
  unfold G8
  rw [dif_pos (by rw [hp]; exact hN), fold0_congr m c _ _ _ (by rw [Nat.zero_add]; exact hN) hp, ← outsAt0_sweep]
  have el : loc8Of (ix4 b h d v) = ix4 0 h d v := funext fun a => Fin.ext (by
    match a with
    | ⟨0, _⟩ => show b.val % 1 = 0; omega
    | ⟨1, _⟩ => show h.val % 4 = h.val; omega
    | ⟨2, _⟩ => show d.val % 128 = d.val; omega
    | ⟨3, _⟩ => show v.val % 128 = v.val; omega)
  rw [el, H]
  exact hN

end Point

end Cert.Proof.KernelValue
-- ==== Proof.Mixer.lean ====
/-
  The recurrent mixer's claim: under finite forget and input columns, the call's two results are the plain recurrence's.
-/
module

public import proofs.«01_k».proof.Defs
public import proofs.«01_k».proof.Proof.Gen.Pre_finite_inputs
public import proofs.«01_k».proof.Proof.KernelValue

@[expose] public section

set_option maxRecDepth 16384

noncomputable section

namespace Cert.Proof.Mixer

open Idealize.ShloMosaic Idealize.ShloMosaic.TcCoe Idealize.SL.Sem Idealize.ShloMosaic.Pointwise
open Cert.Proof.Gates
open Cert.Proof.RefRun (St Out out_ref state_ref)

local notation "𝕀" => Idealize.ShloMosaic.Ideal

/-- A conjunction of two condition bits is one exactly when both are. -/
theorem and_one (a b : BitVec 1) : IntOp.andi a b = 1#1 → a = 1#1 ∧ b = 1#1 := by
  revert a b; decide

/-- A value of magnitude below plus infinity is neither infinity. -/
theorem ne_of_abs_lt (x : EReal) (h : Ideal.cmp .olt (max x (-x)) (Ideal.ofBits .f32 0x7F800000#32) = 1#1) : x ≠ ⊤ ∧ x ≠ ⊥ := by
  have hi : Ideal.ofBits .f32 0x7F800000#32 = ⊤ := by simp [Ideal.ofBits, Ideal.ieee]
  rw [hi] at h
  constructor
  · rintro rfl
    simp [Ideal.cmp] at h
  · rintro rfl
    simp [Ideal.cmp] at h

/-- A value below plus infinity is not plus infinity. -/
theorem ne_of_lt (x : EReal) (h : Ideal.cmp .olt x (Ideal.ofBits .f32 0x7F800000#32) = 1#1) : x ≠ ⊤ := by
  have hi : Ideal.ofBits .f32 0x7F800000#32 = ⊤ := by simp [Ideal.ofBits, Ideal.ieee]
  rw [hi] at h
  rintro rfl
  simp [Ideal.cmp] at h

/-- The precondition, read at an index, says which columns are real. -/
theorem finite_of_pre (z : FVec 𝕀 Cert.Pre_finite_inputs.S16896x8704 .f32) (lb : FVec 𝕀 Cert.Pre_finite_inputs.S1x512 .f32)
    (nw : FVec 𝕀 Cert.Pre_finite_inputs.S1x128 .f32) (s0 : FVec 𝕀 Cert.Pre_finite_inputs.S2x4x128x128 .f32)
    (h : Cert.Pre_finite_inputs.fn (F := 𝕀) z lb nw s0 = fun _ => 1#1) : Finite z lb := by
  have key : ∀ (r : Fin 16384) (k : Fin 512),
      (Ideal.cmp .olt (z (ix2 ⟨r.val, by omega⟩ ⟨3072 + k.val, by omega⟩)) (Ideal.ofBits .f32 0x7F800000#32) = 1#1
        ∧ Ideal.cmp .olt (max (z (ix2 ⟨r.val, by omega⟩ ⟨4096 + k.val, by omega⟩)) (-z (ix2 ⟨r.val, by omega⟩ ⟨4096 + k.val, by omega⟩))) (Ideal.ofBits .f32 0x7F800000#32) = 1#1)
      ∧ Ideal.cmp .olt (max (lb (ix2 0 k)) (-lb (ix2 0 k))) (Ideal.ofBits .f32 0x7F800000#32) = 1#1 := by
    intro r k
    have e := congrFun h (ix2 r k)
    pointwise [Cert.Pre_finite_inputs.fn] at e
    exact ⟨and_one _ _ (and_one _ _ e).1, (and_one _ _ e).2⟩
  exact ⟨fun r k => ne_of_lt _ (key r k).1.1, fun r k => ne_of_abs_lt _ (key r k).1.2, fun k => ne_of_abs_lt _ (key 0 k).2⟩

section Run

open Cert.ReferenceIdeal Cert.ReferenceIdeal.Value Cert.Proof.RefLoop Cert.ReferenceIdeal.Step

/-- What the operations after the loop make of a valuation, of its carried buffers and two arguments. -/
theorem out_of_state (V : Valuation Cert.ReferenceIdeal.τ Cert.ReferenceIdeal.sig (Elt 𝕀)) :
    out_main_v70 V = R_main_v70 (F := 𝕀) (stateOf V) (V (Proc.devRef .tc main_arg0)) (V (Proc.devRef .tc main_arg2)) := rfl

end Run

open Cert.Proof.RefLoop Cert.ReferenceIdeal.Value Idealize.ShloMosaic.StableHlo in
/-- The two programs' results agree wherever the queries' inputs are below plus infinity and the values and lower bounds are real. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨fun c => Cert.KernelIdeal.Value.G7 m c, fun c => Cert.KernelIdeal.Value.G8 m c, Cert.KernelIdeal.Value.run m g, ?_⟩
  refine (θ_run Cert.ReferenceIdeal.defs _ _).mono (fun r h c => ?_) (Cert.ReferenceIdeal.Value.run (F := 𝕀) m' g')
  obtain ⟨a0, a1, a2, a3⟩ := hargs c
  have hf := finite_of_pre _ _ _ _ (hpre c)
  obtain ⟨h70, h5, hkeep⟩ := h c
  refine ⟨h70.trans ?_, h5.trans ?_, hkeep⟩
  · rw [out_of_state, (iter_state m' c 512).2, iter_main_arg0, iter_main_arg2, a0, a1, a2, a3]
    refine funext fun i => ?_
    obtain ⟨r, k, rfl⟩ : ∃ r k, i = ix2 r k := ⟨i 0, i 1, eq_ix2 i⟩
    exact (out_ref _ _ _ hf 512 rfl _ r k).trans (KernelValue.out_kernel m c hf r k).symm
  · rw [show (STEP^[512] (entryContents preI m' c)) (Proc.devRef .tc Cert.ReferenceIdeal.main_v49_5)
      = (stateOf (STEP^[512] (entryContents preI m' c))).main_v49_5 from rfl, (iter_state m' c 512).2, a0, a1, a3]
    refine funext fun i => ?_
    obtain ⟨b, h, d, v, rfl⟩ : ∃ b h d v, i = ix4 b h d v := ⟨i 0, i 1, i 2, i 3, eq_ix4 i⟩
    exact (state_ref _ _ _ hf 512 rfl b h d v).trans (KernelValue.state_kernel m c hf b h d v).symm

end Cert.Proof.Mixer

end
-- ==== Proof.Rows.lean ====
/-
  What the calls over rows of tokens share: the norm of a row, a feed-forward unit, and a whole staged block read back.
-/
module

public import Idealize.ShloMosaic.Lib.Pointwise
public import Idealize.ShloMosaic.Lib.VecWindow
public import Idealize.ShloMosaic.Lib.Pipeline.Value

public section

namespace Cert.Proof.Rows

open Idealize.ShloMosaic Idealize.ShloMosaic.TcCoe

/-- The root-mean-square norm of a row, at a column with weight `g`. -/
@[expose] noncomputable def normed (x : Fin 1024 → EReal) (g : EReal) (k : Fin 1024) : EReal :=
  x k * Ideal.rsqrt (Ideal.div (∑ j, x j * x j) (Ideal.ofBits .f32 0x44800000#32) + Ideal.ofBits .f32 0x358637BD#32) * g

/-- A hidden unit: its gated product. -/
@[expose] noncomputable def hidden (u a b : Fin 1024 → EReal) : EReal :=
  (∑ j, u j * a j) * Ideal.logistic (∑ j, u j * a j) * ∑ j, u j * b j

/-- A row and half of its feed-forward product. -/
@[expose] noncomputable def half (x s : EReal) : EReal := x + Ideal.ofBits .f32 0x3F000000#32 * s

/-- The hidden columns summed in two halves. -/
theorem sum_halves (f : Fin 2816 → EReal) :
    (0 + ∑ n : Fin 1408, f ⟨n.val, by omega⟩) + ∑ n : Fin 1408, f ⟨1408 + n.val, by omega⟩ = ∑ n, f n := by
  rw [zero_add]
  exact (Fin.sum_univ_add (M := EReal) (a := 1408) (b := 1408) f).symm

/-- A load of a whole staged block reads it. -/
theorem read_whole {F : FTy → Type} [FloatOps F] {sig : RefSig} {κ : Kind} {sp : Space} {s : Shape} {e : EltTy} {M : Memref sig κ sp s e}
    (h : M.IsWhole) (x : Vec F s e) {off : Fin s.rank → ℕ} (inb : ∀ a, off a + s.size a ≤ s.size a) :
    View.readAt (Elt F) M.view (Rect.unit off s.size inb).toLoadRect (h.unread x) = x :=
  (View.readAt_full _ _ _).trans (h.read_unread _)

end Cert.Proof.Rows
-- ==== Proof.FfnBody.lean ====
/-
  What the feed-forward kernel's body stores in its two cases: at the first half of the hidden columns the normed tokens
  and the first partial product, at the second half the finished rows.
-/
module

public import proofs.«01_k».proof.Proof.Gen.Kernel2Ideal.Value
public import proofs.«01_k».proof.Proof.Rows

@[expose] public section

set_option maxRecDepth 16384

noncomputable section

namespace Cert.Proof.FfnBody

open Cert.Proof.Rows (read_whole)
open Cert.Kernel2Ideal Cert.Kernel2Ideal.Gen Idealize.ShloMosaic Idealize.ShloMosaic.TcCoe Idealize.SL.Sem

variable {F : FTy → Type} [FloatOps F]

variable (c : Dev nD) (i : grid0.Coords) (arg2 : Memref sig .tc .vmem S512x1024 .f32) (harg2 : arg2.IsWhole)
  (arg3 : Memref sig .tc .vmem S1x1024 .f32) (harg3 : arg3.IsWhole) (arg4 : Memref sig .tc .vmem S1024x1408 .bf16) (harg4 : arg4.IsWhole)
  (arg5 : Memref sig .tc .vmem S1024x1408 .bf16) (harg5 : arg5.IsWhole) (arg6 : Memref sig .tc .vmem S1408x1024 .bf16) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S512x1024 .f32) (harg10 : arg10.IsWhole)
  (x0 : Vec F S512x1024 .f32) (x1 : Vec F S1x1024 .f32) (x2 : Vec F S1024x1408 .bf16) (x3 : Vec F S1024x1408 .bf16)
  (x4 : Vec F S1408x1024 .bf16) (x5 : Vec F S1x1024 .f32) (xs0 : Vec F S512x1024 .bf16) (xs1 : Vec F S512x1024 .f32)

/-- The first half leaves the normed tokens in the first scratch. -/
theorem normed_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1
      x0 x1 x2 x3 x4 x5 = k0_pay1 x0 x1 := by
  unfold sout0_A_0 kernelRun0_A
  dsimp only
  sl_unfold_words
  refine (View.read_writes_full _ _ _ _ _).trans ?_
  rw [read_whole harg2, read_whole harg3]

/-- The first half leaves its partial product in the second scratch. -/
theorem part_A (hc0 : cond0_0 i) (hc1 : ¬cond0_1 i) :
    sout0_A_1 c i arg2 harg2 arg3 harg3 arg4 harg4 arg5 harg5 arg6 harg6 arg7 harg7 arg8 harg8 arg9 harg9 arg10 harg10 hc0 hc1
      x0 x1 x2 x3 x4 x5 = k0_pay3 (k0_pay1 x0 x1) x2 x3 k0_pay2 x4 := by
  unfold sout0_A_1 kernelRun0_A
  dsimp only
  sl_unfold_words
  refine (View.read_writes_full _ _ _ _ _).trans ?_
  rw [read_whole harg2, read_whole harg3, read_whole harg4, read_whole harg5, read_whole harg6, View.readCov_full, View.readCov_full]

/-- The second half's rows. -/
theorem out_B (hc0 : ¬cond0_0 i) (hc1 : cond0_1 i) :
    out0_B_6 c i arg2 harg2 arg3 harg3 arg4 harg4 arg5 harg5 arg6 harg6 arg7 harg7 arg8 harg8 arg9 harg9 arg10 harg10 hc0 hc1
      x0 x1 x2 x3 x4 x5 xs0 xs1 = k0_pay4 x0 (k0_pay3 xs0 x2 x3 xs1 x4) x5 := by
  unfold out0_B_6 kernelRun0_B
  dsimp only
  sl_unfold_words
  refine (View.read_writes_full _ _ _ _ _).trans ?_
  rw [read_whole harg2, read_whole harg4, read_whole harg5, read_whole harg6, read_whole harg7, read_whole harg9, read_whole harg10,
    View.readCov_full]

end Cert.Proof.FfnBody

end
-- ==== Proof.FfnValue.lean ====
/-
  The feed-forward kernel's result at an index: points `2 i` and `2 i + 1` of the grid sum the two halves of the hidden
  columns for the tokens of block `i`, and the result is the normed sum of the tokens and half of the whole product.
-/
module

public import proofs.«01_k».proof.Proof.FfnBody
public import Idealize.ShloMosaic.Lib.Pointwise
public import Idealize.ShloMosaic.Lib.StableHlo.RunRead

public section

set_option maxRecDepth 16384

namespace Cert.Proof.FfnValue

open Cert.Kernel2Ideal Cert.Kernel2Ideal.Gen Cert.Kernel2Ideal.Value Idealize.ShloMosaic Idealize.ShloMosaic.TcCoe Idealize.SL.Sem
open Idealize.ShloMosaic.Pointwise Cert.Proof.Rows

local notation "𝕀" => Idealize.ShloMosaic.Ideal

/-! ## The mathematics of a row -/

/-- The payloads of the kernel's stores at an index. -/
theorem pay1_apply (x : FVec 𝕀 S512x1024 .f32) (g : FVec 𝕀 S1x1024 .f32) (r : Fin 512) (k : Fin 1024) :
    k0_pay1 (F := 𝕀) x g (ix2 r k) = normed (fun j => x (ix2 r j)) (g (ix2 0 k)) k := by
  pointwise [k0_pay1]
  rfl

theorem pay2_apply (r : Fin 512) (k : Fin 1024) : k0_pay2 (F := 𝕀) (ix2 r k) = 0 := by
  pointwise [k0_pay2]

theorem pay3_apply (u : FVec 𝕀 S512x1024 .bf16) (w1 w3 : FVec 𝕀 S1024x1408 .bf16) (a : FVec 𝕀 S512x1024 .f32)
    (w2 : FVec 𝕀 S1408x1024 .bf16) (r : Fin 512) (k : Fin 1024) :
    k0_pay3 (F := 𝕀) u w1 w3 a w2 (ix2 r k) = a (ix2 r k)
      + ∑ n, hidden (fun j => u (ix2 r j)) (fun j => w1 (ix2 j n)) (fun j => w3 (ix2 j n)) * w2 (ix2 n k) := by
  pointwise [k0_pay3]
  rfl

theorem pay4_apply (x a : FVec 𝕀 S512x1024 .f32) (g : FVec 𝕀 S1x1024 .f32) (r : Fin 512) (k : Fin 1024) :
    k0_pay4 (F := 𝕀) x a g (ix2 r k) = normed (fun j => half (x (ix2 r j)) (a (ix2 r j))) (g (ix2 0 k)) k := by
  pointwise [k0_pay4]
  rfl

/-! ## The call's result -/

section Result
variable (x : FVec 𝕀 S16896x1024 .f32) (g : FVec 𝕀 S1024 .f32) (w1 w3 : FVec 𝕀 S1024x2816 .f32) (w2 : FVec 𝕀 S2816x1024 .f32)
  (gf : FVec 𝕀 S1024 .f32)

/-- A token's normed row. -/
@[expose] noncomputable def U (t : Fin 16896) (j : Fin 1024) : EReal := normed (fun j => x (ix2 t j)) (g (ix1 j)) j

/-- A token's feed-forward term at a hidden unit and a column. -/
@[expose] noncomputable def Term (t : Fin 16896) (k : Fin 1024) (n : Fin 2816) : EReal :=
  hidden (U x g t) (fun j => w1 (ix2 j n)) (fun j => w3 (ix2 j n)) * w2 (ix2 n k)

/-- The call's result at a token and a column. -/
@[expose] noncomputable def Res (t : Fin 16896) (k : Fin 1024) : EReal :=
  normed (fun j => half (x (ix2 t j)) (∑ n, Term x g w1 w3 w2 t j n)) (gf (ix1 k)) k

end Result

/-! ## The blocks -/

variable (m : (ℓ : Loc nD τ sig) → Buf (Elt 𝕀) ℓ) (c : Dev nD)

/-- The arguments' contents. -/
abbrev X : FVec 𝕀 S16896x1024 .f32 := m ((c : Thread nD τ).loc main_arg0)
abbrev G1 : FVec 𝕀 S1024 .f32 := m ((c : Thread nD τ).loc main_arg1)
abbrev W1 : FVec 𝕀 S1024x2816 .f32 := m ((c : Thread nD τ).loc main_arg2)
abbrev W3 : FVec 𝕀 S1024x2816 .f32 := m ((c : Thread nD τ).loc main_arg3)
abbrev W2 : FVec 𝕀 S2816x1024 .f32 := m ((c : Thread nD τ).loc main_arg4)
abbrev GF : FVec 𝕀 S1024 .f32 := m ((c : Thread nD τ).loc main_arg5)

theorem V0 (k : Fin 1024) : (V m c main_v0 : FVec 𝕀 S1x1024 .f32) (ix2 0 k) = G1 m c (ix1 k) := by
  have e : V m c main_v0 = shapeCast S1x1024 (G1 m c) shapeCasts_S1024_S1x1024 := by
    simp only [V]
    after_reads_simp
    rfl
  rw [e]
  pointwise []
theorem V4 (k : Fin 1024) : (V m c main_v4 : FVec 𝕀 S1x1024 .f32) (ix2 0 k) = GF m c (ix1 k) := by
  have e : V m c main_v4 = shapeCast S1x1024 (GF m c) shapeCasts_S1024_S1x1024 := by
    simp only [V]
    after_reads_simp
    rfl
  rw [e]
  pointwise []
theorem V1 : V m c main_v1 = W1 m c := by
  simp only [V]
  after_reads_simp
  rfl
theorem V2 : V m c main_v2 = W3 m c := by
  simp only [V]
  after_reads_simp
  rfl
theorem V3 : V m c main_v3 = W2 m c := by
  simp only [V]
  after_reads_simp
  rfl

theorem idx0 : ∀ t : Fin cfg0.N, win0_0.index t 0 = t.val / 2 ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = t.val % 2 := (by decide +kernel : ∀ t : Fin grid0.N, _)
theorem idx3 : ∀ t : Fin cfg0.N, win0_3.index t 0 = 0 ∧ win0_3.index t 1 = t.val % 2 := (by decide +kernel : ∀ t : Fin grid0.N, _)
theorem idx4 : ∀ t : Fin cfg0.N, win0_4.index t 0 = t.val % 2 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)

/-- A token's row in the block of points `2 i` and `2 i + 1`. -/
theorem blk_x (t : Fin cfg0.N) (r : Fin 512) (j : Fin 1024) (h : t.val / 2 * 512 + r.val < 16896) :
    (iblk m c 0 t : FVec 𝕀 S512x1024 .f32) (ix2 r j) = X m c (ix2 ⟨t.val / 2 * 512 + r.val, h⟩ j) := by
  unfold iblk
  refine Eq.trans (View.read_apply _ _) ?_
  refine (congrArg (V m c main_arg0) (funext fun a => Fin.ext ?_)).trans (congrFun (V_main_arg0 m c) _)
  match a with
  | ⟨0, _⟩ => show win0_0.index t 0 * 512 + 1 * r.val = t.val / 2 * 512 + r.val; rw [(idx0 t).1]; omega
  | ⟨1, _⟩ => show win0_0.index t 1 * 1024 + 1 * j.val = j.val; rw [(idx0 t).2]; omega

theorem blk_g (t : Fin cfg0.N) (j : Fin 1024) : (iblk m c 1 t : FVec 𝕀 S1x1024 .f32) (ix2 0 j) = G1 m c (ix1 j) := by
  unfold iblk
  refine Eq.trans (View.read_apply _ _) ?_
  refine (congrArg (V m c main_v0) (funext fun a => Fin.ext ?_)).trans (V0 m c j)
  match a with
  | ⟨0, _⟩ => show win0_1.index t 0 * 1 + 1 * 0 = 0; rw [(idx1 t).1]
  | ⟨1, _⟩ => show win0_1.index t 1 * 1024 + 1 * j.val = j.val; rw [(idx1 t).2]; omega

theorem blk_gf (t : Fin cfg0.N) (j : Fin 1024) : (iblk m c 5 t : FVec 𝕀 S1x1024 .f32) (ix2 0 j) = GF m c (ix1 j) := by
  unfold iblk
  refine Eq.trans (View.read_apply _ _) ?_
  refine (congrArg (V m c main_v4) (funext fun a => Fin.ext ?_)).trans (V4 m c j)
  match a with
  | ⟨0, _⟩ => show win0_5.index t 0 * 1 + 1 * 0 = 0; rw [(idx5 t).1]
  | ⟨1, _⟩ => show win0_5.index t 1 * 1024 + 1 * j.val = j.val; rw [(idx5 t).2]; omega

theorem blk_w1 (t : Fin cfg0.N) (j : Fin 1024) (n : Fin 1408) (h : t.val % 2 * 1408 + n.val < 2816) :
    (iblk m c 2 t : FVec 𝕀 S1024x1408 .bf16) (ix2 j n) = W1 m c (ix2 j ⟨t.val % 2 * 1408 + n.val, h⟩) := by
  unfold iblk
  refine Eq.trans (View.read_apply _ _) ?_
  refine (congrArg (V m c main_v1) (funext fun a => Fin.ext ?_)).trans (congrFun (V1 m c) _)
  match a with
  | ⟨0, _⟩ => show win0_2.index t 0 * 1024 + 1 * j.val = j.val; rw [(idx2 t).1]; omega
  | ⟨1, _⟩ => show win0_2.index t 1 * 1408 + 1 * n.val = t.val % 2 * 1408 + n.val; rw [(idx2 t).2]; omega

theorem blk_w3 (t : Fin cfg0.N) (j : Fin 1024) (n : Fin 1408) (h : t.val % 2 * 1408 + n.val < 2816) :
    (iblk m c 3 t : FVec 𝕀 S1024x1408 .bf16) (ix2 j n) = W3 m c (ix2 j ⟨t.val % 2 * 1408 + n.val, h⟩) := by
  unfold iblk
  refine Eq.trans (View.read_apply _ _) ?_
  refine (congrArg (V m c main_v2) (funext fun a => Fin.ext ?_)).trans (congrFun (V2 m c) _)
  match a with
  | ⟨0, _⟩ => show win0_3.index t 0 * 1024 + 1 * j.val = j.val; rw [(idx3 t).1]; omega
  | ⟨1, _⟩ => show win0_3.index t 1 * 1408 + 1 * n.val = t.val % 2 * 1408 + n.val; rw [(idx3 t).2]; omega

theorem blk_w2 (t : Fin cfg0.N) (n : Fin 1408) (k : Fin 1024) (h : t.val % 2 * 1408 + n.val < 2816) :
    (iblk m c 4 t : FVec 𝕀 S1408x1024 .bf16) (ix2 n k) = W2 m c (ix2 ⟨t.val % 2 * 1408 + n.val, h⟩ k) := by
  unfold iblk
  refine Eq.trans (View.read_apply _ _) ?_
  refine (congrArg (V m c main_v3) (funext fun a => Fin.ext ?_)).trans (congrFun (V3 m c) _)
  match a with
  | ⟨0, _⟩ => show win0_4.index t 0 * 1408 + 1 * n.val = t.val % 2 * 1408 + n.val; rw [(idx4 t).1]; omega
  | ⟨1, _⟩ => show win0_4.index t 1 * 1024 + 1 * k.val = k.val; rw [(idx4 t).2]; omega

/-! ## The two halves -/

/-- A block's partial product over normed tokens is the sum of its half of the hidden columns. -/
theorem part (t : Fin cfg0.N) (r : Fin 512) (k : Fin 1024) (u : FVec 𝕀 S512x1024 .bf16) (a : FVec 𝕀 S512x1024 .f32)
    (h : t.val / 2 * 512 + r.val < 16896)
    (hu : ∀ j, u (ix2 r j) = U (X m c) (G1 m c) ⟨t.val / 2 * 512 + r.val, h⟩ j) :
    k0_pay3 (F := 𝕀) u (iblk m c 2 t) (iblk m c 3 t) a (iblk m c 4 t) (ix2 r k) = a (ix2 r k)
      + ∑ n : Fin 1408, Term (X m c) (G1 m c) (W1 m c) (W3 m c) (W2 m c) ⟨t.val / 2 * 512 + r.val, h⟩ k
          ⟨t.val % 2 * 1408 + n.val, by omega⟩ := by
  rw [pay3_apply]
  congr 1
  refine Finset.sum_congr rfl fun n _ => ?_
  unfold Term
  rw [blk_w2 m c t n k (by omega), show (fun j => u (ix2 r j)) = U (X m c) (G1 m c) ⟨t.val / 2 * 512 + r.val, h⟩ from funext hu]
  congr 2
  · exact funext fun j => blk_w1 m c t j n (by omega)
  · exact funext fun j => blk_w3 m c t j n (by omega)

/-- After a block's first half: the normed tokens and the first partial product. -/
theorem first (n : ℕ) (hn : n < cfg0.N) (he : n % 2 = 0) (r : Fin 512) (h : n / 2 * 512 + r.val < 16896) :
    (∀ j, (outsAt0 m c n hn).2.1 (ix2 r j) = U (X m c) (G1 m c) ⟨n / 2 * 512 + r.val, h⟩ j)
    ∧ ∀ k, (outsAt0 m c n hn).2.2 (ix2 r k) = 0 + ∑ i : Fin 1408,
      Term (X m c) (G1 m c) (W1 m c) (W3 m c) (W2 m c) ⟨n / 2 * 512 + r.val, h⟩ k ⟨i.val, by omega⟩ := by
  have hu : ∀ j, k0_pay1 (F := 𝕀) (iblk m c 0 ⟨n, hn⟩) (iblk m c 1 ⟨n, hn⟩) (ix2 r j)
      = U (X m c) (G1 m c) ⟨n / 2 * 512 + r.val, h⟩ j := by
    intro j
    rw [pay1_apply, blk_g]
    unfold U
    congr 1
    exact funext fun j => blk_x m c ⟨n, hn⟩ r j h
  have e := outsAt0_A m c ⟨n, hn⟩ he (by show ¬ n % 2 = 1; omega)
  constructor
  · intro j
    refine (congrFun (congrArg (fun o => o.2.1) e) _).trans ?_
    dsimp only
    rw [FfnBody.normed_A]
    exact hu j
  · intro k
    refine (congrFun (congrArg (fun o => o.2.2) e) _).trans ?_
    dsimp only
    rw [FfnBody.part_A, part m c ⟨n, hn⟩ r k _ _ h hu, pay2_apply]
    congr 1
    refine Finset.sum_congr rfl fun i _ => congrArg _ (Fin.ext ?_)
    show n % 2 * 1408 + i.val = i.val
    omega

/-- After its second half: the result's rows. -/
theorem second (n : ℕ) (hn : n < cfg0.N) (ho : n % 2 = 1) (r : Fin 512) (k : Fin 1024) (h : n / 2 * 512 + r.val < 16896) :
    (outsAt0 m c n hn).1 (ix2 r k)
      = Res (X m c) (G1 m c) (W1 m c) (W3 m c) (W2 m c) (GF m c) ⟨n / 2 * 512 + r.val, h⟩ k := by
  have e := outsAt0_B m c ⟨n, hn⟩ (by show ¬ n % 2 = 0; omega) ho
  have hq : (n - 1) / 2 * 512 + r.val = n / 2 * 512 + r.val := by omega
  obtain ⟨f1, f2⟩ := first m c (n - 1) (by omega) (by omega) r (by omega)
  simp only [hq] at f1 f2
  refine (congrFun (congrArg (fun o => o.1) e) _).trans ?_
  dsimp only
  rw [FfnBody.out_B, pay4_apply, blk_gf]
  unfold Res
  congr 1
  funext j
  rw [blk_x m c ⟨n, hn⟩ r j h, part m c ⟨n, hn⟩ r j _ _ h f1, f2, ← sum_halves]
  congr 2
  refine Finset.sum_congr rfl fun i _ => congrArg _ (Fin.ext ?_)
  show n % 2 * 1408 + i.val = 1408 + i.val
  omega

/-- The result at an index. -/
theorem out_kernel (r : Fin 16896) (k : Fin 1024) :
    G6 m c (ix2 r k) = Res (X m c) (G1 m c) (W1 m c) (W3 m c) (W2 m c) (GF m c) r k := by
  have hp : pt6Of (ix2 r k) = 2 * (r.val / 512) + 1 := by
    show 2 * (1 * (r.val / 512 - 0) + 1 * (k.val / 1024 - 0)) + 1 = _
    omega
  have hN : 2 * (r.val / 512) + 1 < cfg0.N := lt_of_lt_of_eq (by omega) (show 66 = cfg0.N from N_0.symm)
  have H := second m c (2 * (r.val / 512) + 1) hN (by omega) ⟨r.val % 512, by omega⟩ k (by dsimp only; omega)
  unfold G6
  rw [dif_pos (by rw [hp]; exact hN), fold0_congr m c _ _ _ (by rw [Nat.zero_add]; exact hN) hp, ← outsAt0_sweep]
  have el : loc6Of (ix2 r k) = ix2 ⟨r.val % 512, by omega⟩ k := funext fun a => Fin.ext (by
    match a with
    | ⟨0, _⟩ => rfl
    | ⟨1, _⟩ => show k.val % 1024 = k.val; omega)
  rw [el, H]
  · congr 1
    exact Fin.ext (by show (2 * (r.val / 512) + 1) / 2 * 512 + r.val % 512 = r.val; omega)
  · exact hN

end Cert.Proof.FfnValue
-- ==== Proof.Ffn.lean ====
/-
  The feed-forward call's value claim: the kernel's result and the reference's are the same expression at every index.
-/
module

public import proofs.«01_k».proof.Defs
public import proofs.«01_k».proof.Proof.FfnValue
public import proofs.«01_k».proof.Proof.Gen.Reference2Ideal
public import proofs.«01_k».proof.Proof.Gen.Reference2Ideal.Run

public section

set_option maxRecDepth 16384

namespace Cert.Proof.Ffn

open Idealize.ShloMosaic Idealize.ShloMosaic.TcCoe Idealize.SL.Sem Idealize.ShloMosaic.Pointwise
open Cert.Proof.FfnValue (Res)

local notation "𝕀" => Idealize.ShloMosaic.Ideal

section Reference
open Cert.Reference2Ideal Cert.Reference2Ideal.Value

/-- The reference's result at an index. -/
theorem out_reference (m : (ℓ : Loc nD τ sig) → Buf (Elt 𝕀) ℓ) (c : Dev nD) (r : Fin 16896) (k : Fin 1024) :
    res_main_v33 (F := 𝕀) m c (ix2 r k) = Res (m (c.tc.loc main_arg0)) (m (c.tc.loc main_arg1)) (m (c.tc.loc main_arg2))
      (m (c.tc.loc main_arg3)) (m (c.tc.loc main_arg4)) (m (c.tc.loc main_arg5)) r k := by
  pointwise [res_main_v33]
  rfl

end Reference

/-- The value claim. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Value.G6 m c, Cert.Kernel2Ideal.Value.run m g, ?_⟩
  refine (θ_run Cert.Reference2Ideal.defs _ _).mono (fun r h c => ⟨(h c).1.trans ?_, (h c).2⟩)
    (Cert.Reference2Ideal.Value.run (F := 𝕀) m' g')
  obtain ⟨a0, a1, a2, a3, a4, a5⟩ := hargs c
  refine funext fun i => ?_
  obtain ⟨r, k, rfl⟩ : ∃ r k, i = ix2 r k := ⟨i 0, i 1, eq_ix2 i⟩
  rw [out_reference, a0, a1, a2, a3, a4, a5]
  exact (FfnValue.out_kernel m c r k).symm

end Cert.Proof.Ffn
-- ==== Proof.ProjBody.lean ====
/-
  What the in-projection kernel's body stores in its two cases: at a block's first column tile the normed tokens and their
  product, at its others the product of the tokens normed before.
-/
module

public import proofs.«01_k».proof.Proof.Gen.Kernel3Ideal.Value
public import proofs.«01_k».proof.Proof.Rows

@[expose] public section

set_option maxRecDepth 16384

noncomputable section

namespace Cert.Proof.ProjBody

open Cert.Kernel3Ideal Cert.Kernel3Ideal.Gen Idealize.ShloMosaic Idealize.ShloMosaic.TcCoe Idealize.SL.Sem
open Cert.Proof.Rows (read_whole)

variable {F : FTy → Type} [FloatOps F]

variable (c : Dev nD) (i : grid0.Coords) (arg2 : Memref sig .tc .vmem S512x1024 .f32) (harg2 : arg2.IsWhole)
  (arg3 : Memref sig .tc .vmem S1x1024 .f32) (harg3 : arg3.IsWhole) (arg4 : Memref sig .tc .vmem S1024x512 .bf16) (harg4 : arg4.IsWhole)
  (arg5 : Memref sig .tc .vmem S512x512 .f32) (harg5 : arg5.IsWhole) (arg6 : Memref sig .tc .vmem S512x1024 .bf16) (harg6 : arg6.IsWhole)
  (x0 : Vec F S512x1024 .f32) (x1 : Vec F S1x1024 .f32) (x2 : Vec F S1024x512 .bf16) (xs0 : Vec F S512x1024 .bf16)

/-- The first tile leaves the normed tokens in the scratch. -/
theorem normed_A (hc0 : cond0_0 i) :
    sout0_A_0 c i arg2 harg2 arg3 harg3 arg4 harg4 arg5 harg5 arg6 harg6 hc0 x0 x1 x2 = k0_pay1 x0 x1 := by
  unfold sout0_A_0 kernelRun0_A
  dsimp only
  sl_unfold_words
  refine (View.read_writes_full _ _ _ _ _).trans ?_
  rw [read_whole harg2, read_whole harg3]

/-- The first tile's product. -/
theorem out_A (hc0 : cond0_0 i) :
    out0_A_3 c i arg2 harg2 arg3 harg3 arg4 harg4 arg5 harg5 arg6 harg6 hc0 x0 x1 x2 = k0_pay2 (k0_pay1 x0 x1) x2 := by
  unfold out0_A_3 kernelRun0_A
  dsimp only
  sl_unfold_words
  refine (View.read_writes_full _ _ _ _ _).trans ?_
  rw [read_whole harg2, read_whole harg3, read_whole harg4, View.readCov_full]

/-- A later tile's product. -/
theorem out_B (hc0 : ¬cond0_0 i) :
    out0_B_3 c i arg2 harg2 arg3 harg3 arg4 harg4 arg5 harg5 arg6 harg6 hc0 x0 x1 x2 xs0 = k0_pay2 xs0 x2 := by
  unfold out0_B_3 kernelRun0_B
  dsimp only
  sl_unfold_words
  refine (View.read_writes_full _ _ _ _ _).trans ?_
  rw [read_whole harg4, read_whole harg6]

end Cert.Proof.ProjBody

end
-- ==== Proof.ProjValue.lean ====
/-
  The in-projection kernel's result at an index: the points of a block of tokens norm it once and multiply it by the column
  tiles in turn, the normed tokens carried from tile to tile.
-/
module

public import proofs.«01_k».proof.Proof.ProjBody
public import Idealize.ShloMosaic.Lib.StableHlo.RunRead

public section

set_option maxRecDepth 16384

namespace Cert.Proof.ProjValue

open Cert.Kernel3Ideal Cert.Kernel3Ideal.Gen Cert.Kernel3Ideal.Value Idealize.ShloMosaic Idealize.ShloMosaic.TcCoe Idealize.SL.Sem
open Idealize.ShloMosaic.Pointwise Cert.Proof.Rows

local notation "𝕀" => Idealize.ShloMosaic.Ideal

/-- The payloads of the kernel's stores at an index. -/
theorem pay1_apply (x : FVec 𝕀 S512x1024 .f32) (g : FVec 𝕀 S1x1024 .f32) (r : Fin 512) (k : Fin 1024) :
    k0_pay1 (F := 𝕀) x g (ix2 r k) = normed (fun j => x (ix2 r j)) (g (ix2 0 k)) k := by
  pointwise [k0_pay1]
  rfl

theorem pay2_apply (u : FVec 𝕀 S512x1024 .bf16) (w : FVec 𝕀 S1024x512 .bf16) (r k : Fin 512) :
    k0_pay2 (F := 𝕀) u w (ix2 r k) = ∑ j, u (ix2 r j) * w (ix2 j k) := by
  pointwise [k0_pay2]

/-! ## The call's result -/

section Result
variable (x : FVec 𝕀 S16896x1024 .f32) (g : FVec 𝕀 S1024 .f32) (w : FVec 𝕀 S1024x8704 .f32)

/-- A token's normed row. -/
@[expose] noncomputable def U (t : Fin 16896) (j : Fin 1024) : EReal := normed (fun j => x (ix2 t j)) (g (ix1 j)) j

/-- The call's result at a token and a column. -/
@[expose] noncomputable def Res (t : Fin 16896) (k : Fin 8704) : EReal := ∑ j, U x g t j * w (ix2 j k)

end Result

/-! ## The blocks -/

variable (m : (ℓ : Loc nD τ sig) → Buf (Elt 𝕀) ℓ) (c : Dev nD)

/-- The arguments' contents. -/
abbrev X : FVec 𝕀 S16896x1024 .f32 := m ((c : Thread nD τ).loc main_arg0)
abbrev G1 : FVec 𝕀 S1024 .f32 := m ((c : Thread nD τ).loc main_arg1)
abbrev W : FVec 𝕀 S1024x8704 .f32 := m ((c : Thread nD τ).loc main_arg2)

theorem V0 (k : Fin 1024) : (V m c main_v0 : FVec 𝕀 S1x1024 .f32) (ix2 0 k) = G1 m c (ix1 k) := by
  have e : V m c main_v0 = shapeCast S1x1024 (G1 m c) shapeCasts_S1024_S1x1024 := by
    simp only [V]
    after_reads_simp
    rfl
  rw [e]
  pointwise []

theorem V1 : V m c main_v1 = W m c := by
  simp only [V]
  after_reads_simp
  rfl

theorem idx0 : ∀ t : Fin cfg0.N, win0_0.index t 0 = t.val / 17 ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = t.val % 17 := (by decide +kernel : ∀ t : Fin grid0.N, _)

theorem blk_x (t : Fin cfg0.N) (r : Fin 512) (j : Fin 1024) (h : t.val / 17 * 512 + r.val < 16896) :
    (iblk m c 0 t : FVec 𝕀 S512x1024 .f32) (ix2 r j) = X m c (ix2 ⟨t.val / 17 * 512 + r.val, h⟩ j) := by
  unfold iblk
  refine Eq.trans (View.read_apply _ _) ?_
  refine (congrArg (V m c main_arg0) (funext fun a => Fin.ext ?_)).trans (congrFun (V_main_arg0 m c) _)
  match a with
  | ⟨0, _⟩ => show win0_0.index t 0 * 512 + 1 * r.val = t.val / 17 * 512 + r.val; rw [(idx0 t).1]; omega
  | ⟨1, _⟩ => show win0_0.index t 1 * 1024 + 1 * j.val = j.val; rw [(idx0 t).2]; omega

theorem blk_g (t : Fin cfg0.N) (j : Fin 1024) : (iblk m c 1 t : FVec 𝕀 S1x1024 .f32) (ix2 0 j) = G1 m c (ix1 j) := by
  unfold iblk
  refine Eq.trans (View.read_apply _ _) ?_
  refine (congrArg (V m c main_v0) (funext fun a => Fin.ext ?_)).trans (V0 m c j)
  match a with
  | ⟨0, _⟩ => show win0_1.index t 0 * 1 + 1 * 0 = 0; rw [(idx1 t).1]
  | ⟨1, _⟩ => show win0_1.index t 1 * 1024 + 1 * j.val = j.val; rw [(idx1 t).2]; omega

theorem blk_w (t : Fin cfg0.N) (j : Fin 1024) (k : Fin 512) (h : t.val % 17 * 512 + k.val < 8704) :
    (iblk m c 2 t : FVec 𝕀 S1024x512 .bf16) (ix2 j k) = W m c (ix2 j ⟨t.val % 17 * 512 + k.val, h⟩) := by
  unfold iblk
  refine Eq.trans (View.read_apply _ _) ?_
  refine (congrArg (V m c main_v1) (funext fun a => Fin.ext ?_)).trans (congrFun (V1 m c) _)
  match a with
  | ⟨0, _⟩ => show win0_2.index t 0 * 1024 + 1 * j.val = j.val; rw [(idx2 t).1]; omega
  | ⟨1, _⟩ => show win0_2.index t 1 * 512 + 1 * k.val = t.val % 17 * 512 + k.val; rw [(idx2 t).2]; omega

/-! ## The tiles -/

/-- A tile's product of normed tokens is the result's block. -/
theorem tile (t : Fin cfg0.N) (r k : Fin 512) (u : FVec 𝕀 S512x1024 .bf16) (h : t.val / 17 * 512 + r.val < 16896)
    (hk : t.val % 17 * 512 + k.val < 8704) (hu : ∀ j, u (ix2 r j) = U (X m c) (G1 m c) ⟨t.val / 17 * 512 + r.val, h⟩ j) :
    k0_pay2 (F := 𝕀) u (iblk m c 2 t) (ix2 r k)
      = Res (X m c) (G1 m c) (W m c) ⟨t.val / 17 * 512 + r.val, h⟩ ⟨t.val % 17 * 512 + k.val, hk⟩ := by
  rw [pay2_apply]
  unfold Res
  exact Finset.sum_congr rfl fun j _ => by rw [hu, blk_w m c t j k hk]

/-- A block's first point leaves the normed tokens in the scratch, and the first tile of the result. -/
theorem start (r : Fin 512) (n : ℕ) (hn : n < cfg0.N) (h : n / 17 * 512 + r.val < 16896) (h0 : n % 17 = 0) :
    (∀ j, (outsAt0 m c n hn).2 (ix2 r j) = U (X m c) (G1 m c) ⟨n / 17 * 512 + r.val, h⟩ j)
    ∧ ∀ (k : Fin 512) (hk : n % 17 * 512 + k.val < 8704), (outsAt0 m c n hn).1 (ix2 r k)
      = Res (X m c) (G1 m c) (W m c) ⟨n / 17 * 512 + r.val, h⟩ ⟨n % 17 * 512 + k.val, hk⟩ := by
  have hu : ∀ j, k0_pay1 (F := 𝕀) (iblk m c 0 ⟨n, hn⟩) (iblk m c 1 ⟨n, hn⟩) (ix2 r j)
      = U (X m c) (G1 m c) ⟨n / 17 * 512 + r.val, h⟩ j := by
    intro j
    rw [pay1_apply, blk_g]
    unfold U
    congr 1
    exact funext fun j => blk_x m c ⟨n, hn⟩ r j h
  have e := outsAt0_A m c ⟨n, hn⟩ h0
  constructor
  · intro j
    refine (congrFun (congrArg (fun o => o.2) e) _).trans ?_
    dsimp only
    rw [ProjBody.normed_A]
    exact hu j
  · intro k hk
    refine (congrFun (congrArg (fun o => o.1) e) _).trans ?_
    dsimp only
    rw [ProjBody.out_A]
    exact tile m c ⟨n, hn⟩ r k _ h hk hu

/-- Every point of a block leaves the normed tokens in the scratch, and its own tile of the result. -/
theorem after (n : ℕ) (hn : n < cfg0.N) (r : Fin 512) (h : n / 17 * 512 + r.val < 16896) :
    (∀ j, (outsAt0 m c n hn).2 (ix2 r j) = U (X m c) (G1 m c) ⟨n / 17 * 512 + r.val, h⟩ j)
    ∧ ∀ (k : Fin 512) (hk : n % 17 * 512 + k.val < 8704), (outsAt0 m c n hn).1 (ix2 r k)
      = Res (X m c) (G1 m c) (W m c) ⟨n / 17 * 512 + r.val, h⟩ ⟨n % 17 * 512 + k.val, hk⟩ := by
  induction n with
  | zero => exact start m c r 0 hn h rfl
  | succ n ih =>
    by_cases h0 : (n + 1) % 17 = 0
    · exact start m c r (n + 1) hn h h0
    · have hq : n / 17 = (n + 1) / 17 := by omega
      obtain ⟨hu, -⟩ := ih (by omega) (by rw [hq]; exact h)
      simp only [hq] at hu
      have e := outsAt0_B m c ⟨n + 1, hn⟩ h0
      constructor
      · intro j
        exact (congrFun (congrArg (fun o => o.2) e) _).trans (hu j)
      · intro k hk
        refine (congrFun (congrArg (fun o => o.1) e) _).trans ?_
        dsimp only
        rw [ProjBody.out_B]
        exact tile m c ⟨n + 1, hn⟩ r k _ h hk hu

/-- The result at an index. -/
theorem out_kernel (r : Fin 16896) (k : Fin 8704) : G3 m c (ix2 r k) = Res (X m c) (G1 m c) (W m c) r k := by
  have hp : pt3Of (ix2 r k) = 17 * (r.val / 512) + k.val / 512 := by
    show 17 * (r.val / 512 - 0) + 1 * (k.val / 512 - 0) = _
    omega
  have hN : 17 * (r.val / 512) + k.val / 512 < cfg0.N := lt_of_lt_of_eq (by omega) (show 561 = cfg0.N from N_0.symm)
  have H := (after m c (17 * (r.val / 512) + k.val / 512) hN ⟨r.val % 512, by omega⟩ (by dsimp only; omega)).2
    ⟨k.val % 512, by omega⟩ (by dsimp only; omega)
  unfold G3
  rw [dif_pos (by rw [hp]; exact hN), fold0_congr m c _ _ _ (by rw [Nat.zero_add]; exact hN) hp, ← outsAt0_sweep]
  have el : loc3Of (ix2 r k) = ix2 ⟨r.val % 512, by omega⟩ ⟨k.val % 512, by omega⟩ := funext fun a => Fin.ext (by
    match a with
    | ⟨0, _⟩ => rfl
    | ⟨1, _⟩ => rfl)
  rw [el, H]
  · congr 1
    · exact Fin.ext (by show (17 * (r.val / 512) + k.val / 512) / 17 * 512 + r.val % 512 = r.val; omega)
    · exact Fin.ext (by show (17 * (r.val / 512) + k.val / 512) % 17 * 512 + k.val % 512 = k.val; omega)
  · exact hN

end Cert.Proof.ProjValue
-- ==== Proof.Proj.lean ====
/-
  The in-projection call's value claim: the kernel's result and the reference's are the same sum at every index.
-/
module

public import proofs.«01_k».proof.Defs
public import proofs.«01_k».proof.Proof.ProjValue
public import proofs.«01_k».proof.Proof.Gen.Reference3Ideal
public import proofs.«01_k».proof.Proof.Gen.Reference3Ideal.Run

public section

set_option maxRecDepth 16384

namespace Cert.Proof.Proj

open Idealize.ShloMosaic Idealize.ShloMosaic.TcCoe Idealize.SL.Sem Idealize.ShloMosaic.Pointwise

local notation "𝕀" => Idealize.ShloMosaic.Ideal

/-- The value claim. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G3 m c, Cert.Kernel3Ideal.Value.run m g, ?_⟩
  refine (θ_run Cert.Reference3Ideal.defs _ _).mono (fun r h c => ⟨(h c).1.trans ?_, (h c).2⟩)
    (Cert.Reference3Ideal.Value.run (F := 𝕀) m' g')
  obtain ⟨a0, a1, a2⟩ := hargs c
  refine funext fun i => ?_
  obtain ⟨r, k, rfl⟩ : ∃ r k, i = ix2 r k := ⟨i 0, i 1, eq_ix2 i⟩
  rw [a0, a1, a2]
  refine Eq.trans ?_ (ProjValue.out_kernel m c r k).symm
  pointwise []
  rfl

end Cert.Proof.Proj
-- ==== Proof.MergeValue.lean ====
/-
  The gated merge kernel's result at an index: each point merges one block of tokens.
-/
module

public import proofs.«01_k».proof.Proof.Gen.Kernel4Ideal.Value
public import proofs.«01_k».proof.Proof.Rows
public import Idealize.ShloMosaic.Lib.StableHlo.RunRead
public import Idealize.ShloMosaic.Lib.Pipeline.ValueKit

public section

set_option maxRecDepth 16384

namespace Cert.Proof.MergeValue

open Cert.Kernel4Ideal Cert.Kernel4Ideal.Gen Cert.Kernel4Ideal.Value Idealize.ShloMosaic Idealize.ShloMosaic.TcCoe Idealize.SL.Sem
open Idealize.ShloMosaic.Pointwise Cert.Proof.Rows

local notation "𝕀" => Idealize.ShloMosaic.Ideal

/-- A gated branch: the gate's logistic times the branch's product with its weights. -/
@[expose] noncomputable def branch (z : EReal) (y w : Fin 512 → EReal) : EReal := Ideal.logistic z * ∑ p, y p * w p

/-- The body's store at an index. -/
theorem pay1_apply (h : FVec 𝕀 S512x1024 .f32) (ya yb oc : FVec 𝕀 S512x512 .f32) (ga gb gc : FVec 𝕀 S512x1024 .f32)
    (wa wb wc : FVec 𝕀 S512x1024 .bf16) (wo : FVec 𝕀 S1024x1024 .bf16) (r : Fin 512) (k : Fin 1024) :
    k0_pay1 (F := 𝕀) ga ya wa gb yb wb gc oc wc h wo (ix2 r k)
      = h (ix2 r k) + ∑ j : Fin 1024, (branch (ga (ix2 r j)) (fun p => ya (ix2 r p)) (fun p => wa (ix2 p j))
        + branch (gb (ix2 r j)) (fun p => yb (ix2 r p)) (fun p => wb (ix2 p j))
        + branch (gc (ix2 r j)) (fun p => oc (ix2 r p)) (fun p => wc (ix2 p j))) * wo (ix2 j k) := by
  pointwise [k0_pay1]
  rfl

/-- What the body stores is its payload over the staged blocks. -/
theorem out_A (c : Dev nD) (i : grid0.Coords) (arg1 : Memref sig .tc .vmem S512x1024 .f32) (harg1 : arg1.IsWhole)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x1024 .f32) (harg5 : arg5.IsWhole)
    (arg6 : Memref sig .tc .vmem S512x1024 .f32) (harg6 : arg6.IsWhole) (arg7 : Memref sig .tc .vmem S512x1024 .f32) (harg7 : arg7.IsWhole)
    (arg8 : Memref sig .tc .vmem S512x1024 .bf16) (harg8 : arg8.IsWhole) (arg9 : Memref sig .tc .vmem S512x1024 .bf16) (harg9 : arg9.IsWhole)
    (arg10 : Memref sig .tc .vmem S512x1024 .bf16) (harg10 : arg10.IsWhole) (arg11 : Memref sig .tc .vmem S1024x1024 .bf16)
    (harg11 : arg11.IsWhole) (arg12 : Memref sig .tc .vmem S512x1024 .f32) (harg12 : arg12.IsWhole)
    (x0 : FVec 𝕀 S512x1024 .f32) (x1 x2 x3 : FVec 𝕀 S512x512 .f32) (x4 x5 x6 : FVec 𝕀 S512x1024 .f32)
    (x7 x8 x9 : FVec 𝕀 S512x1024 .bf16) (x10 : FVec 𝕀 S1024x1024 .bf16) :
    out0_A_11 (F := 𝕀) c i arg1 harg1 arg2 harg2 arg3 harg3 arg4 harg4 arg5 harg5 arg6 harg6 arg7 harg7 arg8 harg8 arg9 harg9 arg10 harg10
      arg11 harg11 arg12 harg12 x0 x1 x2 x3 x4 x5 x6 x7 x8 x9 x10 = k0_pay1 (F := 𝕀) x4 x1 x7 x5 x2 x8 x6 x3 x9 x0 x10 := by
  unfold out0_A_11 kernelRun0_A
  dsimp only
  sl_unfold_words
  refine (View.read_writes_full _ _ _ _ _).trans ?_
  rw [read_whole harg1, read_whole harg2, read_whole harg3, read_whole harg4, read_whole harg5, read_whole harg6, read_whole harg7,
    read_whole harg8, read_whole harg9, read_whole harg10, read_whole harg11]

/-! ## The call's result -/

section Result
variable (h : FVec 𝕀 S16896x1024 .f32) (ya yb oc : FVec 𝕀 S16896x512 .f32) (z : FVec 𝕀 S16896x8704 .f32)
  (wa wb wc : FVec 𝕀 S512x1024 .f32) (wo : FVec 𝕀 S1024x1024 .f32)

/-- A token's merged branches at a column. -/
@[expose] noncomputable def Merged (t : Fin 16896) (j : Fin 1024) : EReal :=
  branch (z (ix2 t ⟨j.val, by omega⟩)) (fun p => ya (ix2 t p)) (fun p => wa (ix2 p j))
    + branch (z (ix2 t ⟨1024 + j.val, by omega⟩)) (fun p => yb (ix2 t p)) (fun p => wb (ix2 p j))
    + branch (z (ix2 t ⟨2048 + j.val, by omega⟩)) (fun p => oc (ix2 t p)) (fun p => wc (ix2 p j))

/-- The call's result at a token and a column. -/
@[expose] noncomputable def Res (t : Fin 16896) (k : Fin 1024) : EReal :=
  h (ix2 t k) + ∑ j, Merged ya yb oc z wa wb wc t j * wo (ix2 j k)

end Result

/-! ## The blocks -/

variable (m : (ℓ : Loc nD τ sig) → Buf (Elt 𝕀) ℓ) (c : Dev nD)

/-- The arguments' contents. -/
abbrev H : FVec 𝕀 S16896x1024 .f32 := m ((c : Thread nD τ).loc main_arg0)
abbrev YA : FVec 𝕀 S16896x512 .f32 := m ((c : Thread nD τ).loc main_arg1)
abbrev YB : FVec 𝕀 S16896x512 .f32 := m ((c : Thread nD τ).loc main_arg2)
abbrev OC : FVec 𝕀 S16896x512 .f32 := m ((c : Thread nD τ).loc main_arg3)
abbrev Z : FVec 𝕀 S16896x8704 .f32 := m ((c : Thread nD τ).loc main_arg4)
abbrev WA : FVec 𝕀 S512x1024 .f32 := m ((c : Thread nD τ).loc main_arg5)
abbrev WB : FVec 𝕀 S512x1024 .f32 := m ((c : Thread nD τ).loc main_arg6)
abbrev WC : FVec 𝕀 S512x1024 .f32 := m ((c : Thread nD τ).loc main_arg7)
abbrev WO : FVec 𝕀 S1024x1024 .f32 := m ((c : Thread nD τ).loc main_arg8)

theorem V0 : V m c main_v0 = WA m c := by
  simp only [V]
  after_reads_simp
  rfl

theorem V1 : V m c main_v1 = WB m c := by
  simp only [V]
  after_reads_simp
  rfl

theorem V2 : V m c main_v2 = WC m c := by
  simp only [V]
  after_reads_simp
  rfl

theorem V3 : V m c main_v3 = WO m c := by
  simp only [V]
  after_reads_simp
  rfl

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 1 := (by decide +kernel : ∀ t : Fin grid0.N, _)
theorem idx6 : ∀ t : Fin cfg0.N, win0_6.index t 0 = t.val ∧ win0_6.index t 1 = 2 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 0 ∧ win0_9.index t 1 = 0 := (by decide +kernel : ∀ t : Fin grid0.N, _)
theorem idx10 : ∀ t : Fin cfg0.N, win0_10.index t 0 = 0 ∧ win0_10.index t 1 = 0 := (by decide +kernel : ∀ t : Fin grid0.N, _)
theorem idx11 : ∀ t : Fin cfg0.N, win0_11.index t 0 = t.val ∧ win0_11.index t 1 = 0 := (by decide +kernel : ∀ t : Fin grid0.N, _)

section Rows
variable (t : Fin cfg0.N) (r : Fin 512) (hr : t.val * 512 + r.val < 16896)

theorem blk_h (k : Fin 1024) : (iblk m c 0 t : FVec 𝕀 S512x1024 .f32) (ix2 r k) = H m c (ix2 ⟨t.val * 512 + r.val, hr⟩ k) := by
  unfold iblk
  refine Eq.trans (View.read_apply _ _) ?_
  refine (congrArg (V m c main_arg0) (funext fun a => Fin.ext ?_)).trans (congrFun (V_main_arg0 m c) _)
  match a with
  | ⟨0, _⟩ => show win0_0.index t 0 * 512 + 1 * r.val = t.val * 512 + r.val; rw [(idx0 t).1]; omega
  | ⟨1, _⟩ => show win0_0.index t 1 * 1024 + 1 * k.val = k.val; rw [(idx0 t).2]; omega

theorem blk_ya (p : Fin 512) : (iblk m c 1 t : FVec 𝕀 S512x512 .f32) (ix2 r p) = YA m c (ix2 ⟨t.val * 512 + r.val, hr⟩ p) := by
  unfold iblk
  refine Eq.trans (View.read_apply _ _) ?_
  refine (congrArg (V m c main_arg1) (funext fun a => Fin.ext ?_)).trans (congrFun (V_main_arg1 m c) _)
  match a with
  | ⟨0, _⟩ => show win0_1.index t 0 * 512 + 1 * r.val = t.val * 512 + r.val; rw [(idx1 t).1]; omega
  | ⟨1, _⟩ => show win0_1.index t 1 * 512 + 1 * p.val = p.val; rw [(idx1 t).2]; omega

theorem blk_yb (p : Fin 512) : (iblk m c 2 t : FVec 𝕀 S512x512 .f32) (ix2 r p) = YB m c (ix2 ⟨t.val * 512 + r.val, hr⟩ p) := by
  unfold iblk
  refine Eq.trans (View.read_apply _ _) ?_
  refine (congrArg (V m c main_arg2) (funext fun a => Fin.ext ?_)).trans (congrFun (V_main_arg2 m c) _)
  match a with
  | ⟨0, _⟩ => show win0_2.index t 0 * 512 + 1 * r.val = t.val * 512 + r.val; rw [(idx2 t).1]; omega
  | ⟨1, _⟩ => show win0_2.index t 1 * 512 + 1 * p.val = p.val; rw [(idx2 t).2]; omega

theorem blk_oc (p : Fin 512) : (iblk m c 3 t : FVec 𝕀 S512x512 .f32) (ix2 r p) = OC m c (ix2 ⟨t.val * 512 + r.val, hr⟩ p) := by
  unfold iblk
  refine Eq.trans (View.read_apply _ _) ?_
  refine (congrArg (V m c main_arg3) (funext fun a => Fin.ext ?_)).trans (congrFun (V_main_arg3 m c) _)
  match a with
  | ⟨0, _⟩ => show win0_3.index t 0 * 512 + 1 * r.val = t.val * 512 + r.val; rw [(idx3 t).1]; omega
  | ⟨1, _⟩ => show win0_3.index t 1 * 512 + 1 * p.val = p.val; rw [(idx3 t).2]; omega

/-- The gates are three blocks of columns of the projected tokens. -/
theorem blk_ga (j : Fin 1024) : (X0_4 m c t : FVec 𝕀 S512x1024 .f32) (ix2 r j) = Z m c (ix2 ⟨t.val * 512 + r.val, hr⟩ ⟨j.val, by omega⟩) := by
  unfold X0_4 Pipeline.Window.fill
  rw [dif_pos (moved0_4 t (ix2 r j))]
  unfold iblk
  refine Eq.trans (View.read_apply _ _) ?_
  refine (congrArg (V m c main_arg4) (funext fun a => Fin.ext ?_)).trans (congrFun (V_main_arg4 m c) _)
  match a with
  | ⟨0, _⟩ => show win0_4.index t 0 * 512 + 1 * r.val = t.val * 512 + r.val; rw [(idx4 t).1]; omega
  | ⟨1, _⟩ => show win0_4.index t 1 * 1024 + 1 * j.val = j.val; rw [(idx4 t).2]; omega

theorem blk_gb (j : Fin 1024) : (X0_5 m c t : FVec 𝕀 S512x1024 .f32) (ix2 r j) = Z m c (ix2 ⟨t.val * 512 + r.val, hr⟩ ⟨1024 + j.val, by omega⟩) := by
  unfold X0_5 Pipeline.Window.fill
  rw [dif_pos (moved0_5 t (ix2 r j))]
  unfold iblk
  refine Eq.trans (View.read_apply _ _) ?_
  refine (congrArg (V m c main_arg4) (funext fun a => Fin.ext ?_)).trans (congrFun (V_main_arg4 m c) _)
  match a with
  | ⟨0, _⟩ => show win0_5.index t 0 * 512 + 1 * r.val = t.val * 512 + r.val; rw [(idx5 t).1]; omega
  | ⟨1, _⟩ => show win0_5.index t 1 * 1024 + 1 * j.val = 1024 + j.val; rw [(idx5 t).2]; omega

theorem blk_gc (j : Fin 1024) : (X0_6 m c t : FVec 𝕀 S512x1024 .f32) (ix2 r j) = Z m c (ix2 ⟨t.val * 512 + r.val, hr⟩ ⟨2048 + j.val, by omega⟩) := by
  unfold X0_6 Pipeline.Window.fill
  rw [dif_pos (moved0_6 t (ix2 r j))]
  unfold iblk
  refine Eq.trans (View.read_apply _ _) ?_
  refine (congrArg (V m c main_arg4) (funext fun a => Fin.ext ?_)).trans (congrFun (V_main_arg4 m c) _)
  match a with
  | ⟨0, _⟩ => show win0_6.index t 0 * 512 + 1 * r.val = t.val * 512 + r.val; rw [(idx6 t).1]; omega
  | ⟨1, _⟩ => show win0_6.index t 1 * 1024 + 1 * j.val = 2048 + j.val; rw [(idx6 t).2]; omega

end Rows

/-- The weights are staged whole. -/
theorem blk_wa (t : Fin cfg0.N) (p : Fin 512) (j : Fin 1024) : (iblk m c 7 t : FVec 𝕀 S512x1024 .bf16) (ix2 p j) = WA m c (ix2 p j) := by
  unfold iblk
  refine Eq.trans (View.read_apply _ _) ?_
  refine (congrArg (V m c main_v0) (funext fun a => Fin.ext ?_)).trans (congrFun (V0 m c) _)
  match a with
  | ⟨0, _⟩ => show win0_7.index t 0 * 512 + 1 * p.val = p.val; rw [(idx7 t).1]; omega
  | ⟨1, _⟩ => show win0_7.index t 1 * 1024 + 1 * j.val = j.val; rw [(idx7 t).2]; omega

theorem blk_wb (t : Fin cfg0.N) (p : Fin 512) (j : Fin 1024) : (iblk m c 8 t : FVec 𝕀 S512x1024 .bf16) (ix2 p j) = WB m c (ix2 p j) := by
  unfold iblk
  refine Eq.trans (View.read_apply _ _) ?_
  refine (congrArg (V m c main_v1) (funext fun a => Fin.ext ?_)).trans (congrFun (V1 m c) _)
  match a with
  | ⟨0, _⟩ => show win0_8.index t 0 * 512 + 1 * p.val = p.val; rw [(idx8 t).1]; omega
  | ⟨1, _⟩ => show win0_8.index t 1 * 1024 + 1 * j.val = j.val; rw [(idx8 t).2]; omega

theorem blk_wc (t : Fin cfg0.N) (p : Fin 512) (j : Fin 1024) : (iblk m c 9 t : FVec 𝕀 S512x1024 .bf16) (ix2 p j) = WC m c (ix2 p j) := by
  unfold iblk
  refine Eq.trans (View.read_apply _ _) ?_
  refine (congrArg (V m c main_v2) (funext fun a => Fin.ext ?_)).trans (congrFun (V2 m c) _)
  match a with
  | ⟨0, _⟩ => show win0_9.index t 0 * 512 + 1 * p.val = p.val; rw [(idx9 t).1]; omega
  | ⟨1, _⟩ => show win0_9.index t 1 * 1024 + 1 * j.val = j.val; rw [(idx9 t).2]; omega

theorem blk_wo (t : Fin cfg0.N) (j k : Fin 1024) : (iblk m c 10 t : FVec 𝕀 S1024x1024 .bf16) (ix2 j k) = WO m c (ix2 j k) := by
  unfold iblk
  refine Eq.trans (View.read_apply _ _) ?_
  refine (congrArg (V m c main_v3) (funext fun a => Fin.ext ?_)).trans (congrFun (V3 m c) _)
  match a with
  | ⟨0, _⟩ => show win0_10.index t 0 * 1024 + 1 * j.val = j.val; rw [(idx10 t).1]; omega
  | ⟨1, _⟩ => show win0_10.index t 1 * 1024 + 1 * k.val = k.val; rw [(idx10 t).2]; omega

/-! ## The result -/

/-- A point leaves its tokens' rows of the result. -/
theorem point (t : Fin cfg0.N) (r : Fin 512) (k : Fin 1024) (hr : t.val * 512 + r.val < 16896) :
    outsAt0 m c t (ix2 r k)
      = Res (H m c) (YA m c) (YB m c) (OC m c) (Z m c) (WA m c) (WB m c) (WC m c) (WO m c) ⟨t.val * 512 + r.val, hr⟩ k := by
  unfold outsAt0
  rw [out_A, pay1_apply]
  unfold Res Merged
  simp only [blk_h m c t r hr, blk_ya m c t r hr, blk_yb m c t r hr, blk_oc m c t r hr, blk_ga m c t r hr, blk_gb m c t r hr,
    blk_gc m c t r hr, blk_wa, blk_wb, blk_wc, blk_wo]

/-- The call's result as an array. -/
@[expose] noncomputable def Out : FVec 𝕀 S16896x1024 .f32 := fun i =>
  Res (H m c) (YA m c) (YB m c) (OC m c) (Z m c) (WA m c) (WB m c) (WC m c) (WO m c) (i 0) (i 1)

/-- What a point leaves, at an index of the array its block places there. -/
theorem point_out (t : Fin cfg0.N) (y : S512x1024.Idx) (i : S16896x1024.Idx) (h0 : (i 0).val = t.val * 512 + (y 0).val)
    (h1 : (i 1).val = (y 1).val) : outsAt0 m c t y = Out m c i := by
  have ht : t.val < 33 := lt_of_lt_of_eq t.isLt N_0
  have hy : (y 0).val < 512 := (y 0).isLt
  rw [eq_ix2 y]
  refine (point m c t (y 0) (y 1) (by omega)).trans ?_
  unfold Out
  congr 1
  · exact Fin.ext h0.symm
  · exact Fin.ext h1.symm

/-- The kernel leaves it. -/
theorem out_kernel : (dats m 0 c).arrAt 11 cfg0.N = Out m c := by
  refine (dats m 0 c).arrAt_eq_of_covers 11 _ (by decide +kernel) fun t _ y => ?_
  blk_simp
  rw [after0_11]
  refine point_out m c t y _ ?_ ?_
  · blk_simp [(idx11 t).1]
  · blk_simp [(idx11 t).2]

end Cert.Proof.MergeValue
-- ==== Proof.Merge.lean ====
/-
  The gated merge call's value claim: the kernel's result and the reference's are the same at every index.
-/
module

public import proofs.«01_k».proof.Defs
public import proofs.«01_k».proof.Proof.MergeValue
public import proofs.«01_k».proof.Proof.Gen.Reference4Ideal
public import proofs.«01_k».proof.Proof.Gen.Reference4Ideal.Run

public section

set_option maxRecDepth 16384

namespace Cert.Proof.Merge

open Idealize.ShloMosaic Idealize.ShloMosaic.TcCoe Idealize.SL.Sem Idealize.ShloMosaic.Pointwise

local notation "𝕀" => Idealize.ShloMosaic.Ideal

/-- The value claim. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => MergeValue.Out m c, (θ_run Cert.Kernel4Ideal.defs _ _).mono
    (fun r h c => ⟨(h c).1.trans (MergeValue.out_kernel m c), (h c).2⟩) (Cert.Kernel4Ideal.Value.run_blocks (F := 𝕀) m g), ?_⟩
  refine (θ_run Cert.Reference4Ideal.defs _ _).mono (fun r h c => ⟨(h c).1.trans ?_, (h c).2⟩)
    (Cert.Reference4Ideal.Value.run (F := 𝕀) m' g')
  obtain ⟨a0, a1, a2, a3, a4, a5, a6, a7, a8⟩ := hargs c
  refine funext fun i => ?_
  obtain ⟨r, k, rfl⟩ : ∃ r k, i = ix2 r k := ⟨i 0, i 1, eq_ix2 i⟩
  rw [a0, a1, a2, a3, a4, a5, a6, a7, a8]
  unfold MergeValue.Out
  pointwise []
  rfl

end Cert.Proof.Merge
-- ==== Proof.Turn.lean ====
/-
  The rotary turn of one head of 64 lanes, and the reference's turned arrays read at an index.
-/
module

public import proofs.«01_k».proof.Proof.Gen.Reference5Ideal.Run
public import Idealize.ShloMosaic.Lib.Pointwise

public section

set_option maxRecDepth 16384

namespace Cert.Proof.Turn

open Cert.Reference5Ideal Cert.Reference5Ideal.Gen Cert.Reference5Ideal.Value Idealize.ShloMosaic Idealize.ShloMosaic.TcCoe
open Idealize.SL.Sem Idealize.ShloMosaic.Pointwise

local notation "𝕀" => Idealize.ShloMosaic.Ideal

/-- A head turned by the angles whose cosines and sines are given: the first eight lanes against the next eight, the rest kept. -/
@[expose] noncomputable def Rot (x : Fin 64 → EReal) (C S : Fin 8 → EReal) (l : Fin 64) : EReal :=
  if h : l.val < 8 then x l * C ⟨l.val, h⟩ - x ⟨8 + l.val, by omega⟩ * S ⟨l.val, h⟩
  else if h' : l.val - 8 < 8 then x ⟨8 + (l.val - 8), by omega⟩ * C ⟨l.val - 8, h'⟩ + x ⟨l.val - 8, by omega⟩ * S ⟨l.val - 8, h'⟩
  else x ⟨16 + (l.val - 8 - 8), by omega⟩

/-- The lane table that multiplies a lane itself: cosine, cosine, one. -/
@[expose] noncomputable def tabC (C : Fin 8 → EReal) (l : Fin 64) : EReal :=
  if h : l.val < 8 then C ⟨l.val, h⟩ else if h' : l.val - 8 < 8 then C ⟨l.val - 8, h'⟩ else 1

/-- The lane table that multiplies the lane eight above: minus sine, zero, zero. -/
@[expose] noncomputable def tabLo (S : Fin 8 → EReal) (l : Fin 64) : EReal := if h : l.val < 8 then -S ⟨l.val, h⟩ else 0

/-- The lane table that multiplies the lane eight below: zero, sine, zero. -/
@[expose] noncomputable def tabHi (S : Fin 8 → EReal) (l : Fin 64) : EReal :=
  if l.val < 8 then 0 else if h' : l.val - 8 < 8 then S ⟨l.val - 8, h'⟩ else 0

/-- A lane against the three tables is the turned lane; only where a table is not zero does the shifted lane matter. -/
theorem lanes (x : Fin 64 → EReal) (C S : Fin 8 → EReal) (l : Fin 64) (a b : EReal)
    (ha : ∀ h : 8 ≤ l.val, a = x ⟨l.val - 8, by omega⟩) (hb : ∀ h : l.val < 8, b = x ⟨8 + l.val, by omega⟩) :
    x l * tabC C l + a * tabHi S l + b * tabLo S l = Rot x C S l := by
  unfold tabC tabLo tabHi Rot
  by_cases h : l.val < 8
  · simp only [h, ↓reduceDIte, ↓reduceIte, mul_zero, add_zero, hb h]
    rw [mul_neg, sub_eq_add_neg]
  · by_cases h' : l.val - 8 < 8
    · have e : (⟨8 + (l.val - 8), by omega⟩ : Fin 64) = l := Fin.ext (by show 8 + (l.val - 8) = l.val; omega)
      simp only [h, h', ↓reduceDIte, ↓reduceIte, mul_zero, add_zero, ha (by omega), e]
    · have e : (⟨16 + (l.val - 8 - 8), by omega⟩ : Fin 64) = l := Fin.ext (by show 16 + (l.val - 8 - 8) = l.val; omega)
      simp only [h, h', ↓reduceDIte, ↓reduceIte, mul_zero, add_zero, mul_one, e]

/-! ## The reference's turned arrays -/

/-- The reference's turn of eight heads. -/
@[expose] noncomputable def turn8 (x : FVec 𝕀 S16896x8x64 .f32) (C S : FVec 𝕀 S16896x8 .f32) : FVec 𝕀 S16896x8x64 .f32 :=
  concatenate S16896x8x64 2
    [⟨S16896x8x8, subf (mulf (extractStridedSlice S16896x8x8 ![0, 0, 0] x slices_S16896x8x64_S16896x8x8_0_0_0) (broadcastInDim S16896x8x8 ![0, 1, 2] bcast_S16896x1x8_S16896x8x8_0_1_2 (broadcastInDim S16896x1x8 ![0, 2] bcast_S16896x8_S16896x1x8_0_2 C)))
        (mulf (extractStridedSlice S16896x8x8 ![0, 0, 8] x slices_S16896x8x64_S16896x8x8_0_0_8) (broadcastInDim S16896x8x8 ![0, 1, 2] bcast_S16896x1x8_S16896x8x8_0_1_2 (broadcastInDim S16896x1x8 ![0, 2] bcast_S16896x8_S16896x1x8_0_2 S)))⟩,
     ⟨S16896x8x8, addf (mulf (extractStridedSlice S16896x8x8 ![0, 0, 8] x slices_S16896x8x64_S16896x8x8_0_0_8) (broadcastInDim S16896x8x8 ![0, 1, 2] bcast_S16896x1x8_S16896x8x8_0_1_2 (broadcastInDim S16896x1x8 ![0, 2] bcast_S16896x8_S16896x1x8_0_2 C)))
        (mulf (extractStridedSlice S16896x8x8 ![0, 0, 0] x slices_S16896x8x64_S16896x8x8_0_0_0) (broadcastInDim S16896x8x8 ![0, 1, 2] bcast_S16896x1x8_S16896x8x8_0_1_2 (broadcastInDim S16896x1x8 ![0, 2] bcast_S16896x8_S16896x1x8_0_2 S)))⟩,
     ⟨S16896x8x48, extractStridedSlice S16896x8x48 ![0, 0, 16] x slices_S16896x8x64_S16896x8x48_0_0_16⟩]
    concatenates_S16896x8x8_S16896x8x8_S16896x8x48_S16896x8x64_d2

theorem turn8_apply (x : FVec 𝕀 S16896x8x64 .f32) (C S : FVec 𝕀 S16896x8 .f32) (t : Fin 16896) (h : Fin 8) (l : Fin 64) :
    turn8 x C S (ix3 t h l) = Rot (fun p => x (ix3 t h p)) (fun j => C (ix2 t j)) (fun j => S (ix2 t j)) l := by
  unfold Rot
  pointwise [turn8]

/-- The reference's turn of two heads. -/
@[expose] noncomputable def turn2 (x : FVec 𝕀 S16896x2x64 .f32) (C S : FVec 𝕀 S16896x8 .f32) : FVec 𝕀 S16896x2x64 .f32 :=
  concatenate S16896x2x64 2
    [⟨S16896x2x8, subf (mulf (extractStridedSlice S16896x2x8 ![0, 0, 0] x slices_S16896x2x64_S16896x2x8_0_0_0) (broadcastInDim S16896x2x8 ![0, 1, 2] bcast_S16896x1x8_S16896x2x8_0_1_2 (broadcastInDim S16896x1x8 ![0, 2] bcast_S16896x8_S16896x1x8_0_2 C)))
        (mulf (extractStridedSlice S16896x2x8 ![0, 0, 8] x slices_S16896x2x64_S16896x2x8_0_0_8) (broadcastInDim S16896x2x8 ![0, 1, 2] bcast_S16896x1x8_S16896x2x8_0_1_2 (broadcastInDim S16896x1x8 ![0, 2] bcast_S16896x8_S16896x1x8_0_2 S)))⟩,
     ⟨S16896x2x8, addf (mulf (extractStridedSlice S16896x2x8 ![0, 0, 8] x slices_S16896x2x64_S16896x2x8_0_0_8) (broadcastInDim S16896x2x8 ![0, 1, 2] bcast_S16896x1x8_S16896x2x8_0_1_2 (broadcastInDim S16896x1x8 ![0, 2] bcast_S16896x8_S16896x1x8_0_2 C)))
        (mulf (extractStridedSlice S16896x2x8 ![0, 0, 0] x slices_S16896x2x64_S16896x2x8_0_0_0) (broadcastInDim S16896x2x8 ![0, 1, 2] bcast_S16896x1x8_S16896x2x8_0_1_2 (broadcastInDim S16896x1x8 ![0, 2] bcast_S16896x8_S16896x1x8_0_2 S)))⟩,
     ⟨S16896x2x48, extractStridedSlice S16896x2x48 ![0, 0, 16] x slices_S16896x2x64_S16896x2x48_0_0_16⟩]
    concatenates_S16896x2x8_S16896x2x8_S16896x2x48_S16896x2x64_d2

theorem turn2_apply (x : FVec 𝕀 S16896x2x64 .f32) (C S : FVec 𝕀 S16896x8 .f32) (t : Fin 16896) (h : Fin 2) (l : Fin 64) :
    turn2 x C S (ix3 t h l) = Rot (fun p => x (ix3 t h p)) (fun j => C (ix2 t j)) (fun j => S (ix2 t j)) l := by
  unfold Rot
  pointwise [turn2]

/-- The reference's turn of one head. -/
@[expose] noncomputable def turn1 (x : FVec 𝕀 S16896x1x64 .f32) (C S : FVec 𝕀 S16896x8 .f32) : FVec 𝕀 S16896x1x64 .f32 :=
  concatenate S16896x1x64 2
    [⟨S16896x1x8, subf (mulf (extractStridedSlice S16896x1x8 ![0, 0, 0] x slices_S16896x1x64_S16896x1x8_0_0_0) (broadcastInDim S16896x1x8 ![0, 2] bcast_S16896x8_S16896x1x8_0_2 C))
        (mulf (extractStridedSlice S16896x1x8 ![0, 0, 8] x slices_S16896x1x64_S16896x1x8_0_0_8) (broadcastInDim S16896x1x8 ![0, 2] bcast_S16896x8_S16896x1x8_0_2 S))⟩,
     ⟨S16896x1x8, addf (mulf (extractStridedSlice S16896x1x8 ![0, 0, 8] x slices_S16896x1x64_S16896x1x8_0_0_8) (broadcastInDim S16896x1x8 ![0, 2] bcast_S16896x8_S16896x1x8_0_2 C))
        (mulf (extractStridedSlice S16896x1x8 ![0, 0, 0] x slices_S16896x1x64_S16896x1x8_0_0_0) (broadcastInDim S16896x1x8 ![0, 2] bcast_S16896x8_S16896x1x8_0_2 S))⟩,
     ⟨S16896x1x48, extractStridedSlice S16896x1x48 ![0, 0, 16] x slices_S16896x1x64_S16896x1x48_0_0_16⟩]
    concatenates_S16896x1x8_S16896x1x8_S16896x1x48_S16896x1x64_d2

theorem turn1_apply (x : FVec 𝕀 S16896x1x64 .f32) (C S : FVec 𝕀 S16896x8 .f32) (t : Fin 16896) (l : Fin 64) :
    turn1 x C S (ix3 t 0 l) = Rot (fun p => x (ix3 t 0 p)) (fun j => C (ix2 t j)) (fun j => S (ix2 t j)) l := by
  unfold Rot
  pointwise [turn1]

/-- The angles: each token's position times the eight frequencies. -/
@[expose] noncomputable def Ang : FVec 𝕀 S16896x8 .f32 :=
  mulf (broadcastInDim S16896x8 ![0, 1] bcast_S16896x1_S16896x8_0_1 (broadcastInDim S16896x1 ![0] bcast_S16896_S16896x1_0 (sitofp .f32 (concatenate S16896 0 [⟨S16384, (shapeCast _ (broadcastInDim S2x8192 ![0, 1] bcast_S1x8192_S2x8192_0_1 (shapeCast _ (iotaInDim S8192 32 0) shapeCasts_S8192_S1x8192)) shapeCasts_S2x8192_S16384)⟩, ⟨S512, (shapeCast _ (broadcastInDim S16x32 ![0, 1] bcast_S1x32_S16x32_0_1 (shapeCast _ (addi (broadcastInDim S32 ![] bcast_S_S32 (constantI S_ 32 1024#32)) (iotaInDim S32 32 0)) shapeCasts_S32_S1x32)) shapeCasts_S16x32_S512)⟩] concatenates_S16384_S512_S16896_d0)))) (broadcastInDim S16896x8 ![0, 1] bcast_S1x8_S16896x8_0_1 (broadcastInDim S1x8 ![1] bcast_S8_S1x8_1 (Host.powf (broadcastInDim S8 ![] bcast_S_S8 (constant S_ .f32 0x48F42400#32)) (mulf (Host.negf (sitofp .f32 (iotaInDim S8 32 0))) (broadcastInDim S8 ![] bcast_S_S8 (constant S_ .f32 0x3E000000#32))))))

variable (m : (ℓ : Loc nD τ sig) → Buf (Elt 𝕀) ℓ) (c : Dev nD)

/-- The projected tokens. -/
abbrev Z : FVec 𝕀 S16896x8704 .f32 := m ((c.tc : Thread nD τ).loc main_arg0)

theorem v142_eq : res_main_v142 (F := 𝕀) m c = truncf .bf16 (mulf (shapeCast S16896x512 (turn8 (shapeCast _ (extractStridedSlice S16896x512 ![0, 7168] (Z m c) slices_S16896x8704_S16896x512_0_7168) shapeCasts_S16896x512_S16896x8x64) (Host.cos Ang) (Host.sin Ang)) shapeCasts_S16896x8x64_S16896x512) (broadcastInDim S16896x512 ![] bcast_S_S16896x512 (constant S_ .f32 0x3E000000#32))) bitsLt_bf16_f32 := rfl

theorem v142_apply (t : Fin 16896) (k : Fin 512) : res_main_v142 (F := 𝕀) m c (ix2 t k)
    = Rot (fun p => Z m c (ix2 t ⟨7168 + (k.val / 64 * 64 + p.val), by omega⟩)) (fun j => Host.cos Ang (ix2 t j)) (fun j => Host.sin Ang (ix2 t j)) ⟨k.val % 64, by omega⟩ * Ideal.ofBits .f32 0x3E000000#32 := by
  rw [v142_eq]
  generalize Host.cos (F := 𝕀) (φ := .f32) Ang = C
  generalize Host.sin (F := 𝕀) (φ := .f32) Ang = S
  pointwise [turn8_apply]

theorem v143_eq : res_main_v143 (F := 𝕀) m c = truncf .bf16 (shapeCast S16896x512 (turn8 (shapeCast _ (extractStridedSlice S16896x512 ![0, 7680] (Z m c) slices_S16896x8704_S16896x512_0_7680) shapeCasts_S16896x512_S16896x8x64) (Host.cos Ang) (Host.sin Ang)) shapeCasts_S16896x8x64_S16896x512) bitsLt_bf16_f32 := rfl

theorem v143_apply (t : Fin 16896) (k : Fin 512) : res_main_v143 (F := 𝕀) m c (ix2 t k)
    = Rot (fun p => Z m c (ix2 t ⟨7680 + (k.val / 64 * 64 + p.val), by omega⟩)) (fun j => Host.cos Ang (ix2 t j)) (fun j => Host.sin Ang (ix2 t j)) ⟨k.val % 64, by omega⟩ := by
  rw [v143_eq]
  generalize Host.cos (F := 𝕀) (φ := .f32) Ang = C
  generalize Host.sin (F := 𝕀) (φ := .f32) Ang = S
  pointwise [turn8_apply]

theorem v113_eq : res_main_v113 (F := 𝕀) m c = shapeCast S16896x128 (turn2 (shapeCast _ (extractStridedSlice S16896x128 ![0, 8192] (Z m c) slices_S16896x8704_S16896x128_0_8192) shapeCasts_S16896x128_S16896x2x64) (Host.cos Ang) (Host.sin Ang)) shapeCasts_S16896x2x64_S16896x128 := rfl

theorem v113_apply (t : Fin 16896) (k : Fin 128) : res_main_v113 (F := 𝕀) m c (ix2 t k)
    = Rot (fun p => Z m c (ix2 t ⟨8192 + (k.val / 64 * 64 + p.val), by omega⟩)) (fun j => Host.cos Ang (ix2 t j)) (fun j => Host.sin Ang (ix2 t j)) ⟨k.val % 64, by omega⟩ := by
  rw [v113_eq]
  generalize Host.cos (F := 𝕀) (φ := .f32) Ang = C
  generalize Host.sin (F := 𝕀) (φ := .f32) Ang = S
  pointwise [turn2_apply]

theorem v141_eq : res_main_v141 (F := 𝕀) m c = shapeCast S16896x64 (turn1 (broadcastInDim S16896x1x64 ![0, 2] bcast_S16896x64_S16896x1x64_0_2 (extractStridedSlice S16896x64 ![0, 8448] (Z m c) slices_S16896x8704_S16896x64_0_8448)) (Host.cos Ang) (Host.sin Ang)) shapeCasts_S16896x1x64_S16896x64 := rfl

theorem v141_apply (t : Fin 16896) (k : Fin 64) : res_main_v141 (F := 𝕀) m c (ix2 t k)
    = Rot (fun p => Z m c (ix2 t ⟨8448 + p.val, by omega⟩)) (fun j => Host.cos Ang (ix2 t j)) (fun j => Host.sin Ang (ix2 t j)) k := by
  rw [v141_eq]
  generalize Host.cos (F := 𝕀) (φ := .f32) Ang = C
  generalize Host.sin (F := 𝕀) (φ := .f32) Ang = S
  pointwise [turn1_apply]

theorem v144_eq : res_main_v144 (F := 𝕀) m c = truncf .bf16 (shapeCast S16896x128 (turn2 (shapeCast _ (extractStridedSlice S16896x128 ![0, 8192] (Z m c) slices_S16896x8704_S16896x128_0_8192) shapeCasts_S16896x128_S16896x2x64) (Host.cos Ang) (Host.sin Ang)) shapeCasts_S16896x2x64_S16896x128) bitsLt_bf16_f32 := rfl

theorem v144_apply (t : Fin 16896) (k : Fin 128) : res_main_v144 (F := 𝕀) m c (ix2 t k)
    = Rot (fun p => Z m c (ix2 t ⟨8192 + (k.val / 64 * 64 + p.val), by omega⟩)) (fun j => Host.cos Ang (ix2 t j)) (fun j => Host.sin Ang (ix2 t j)) ⟨k.val % 64, by omega⟩ := by
  rw [v144_eq]
  generalize Host.cos (F := 𝕀) (φ := .f32) Ang = C
  generalize Host.sin (F := 𝕀) (φ := .f32) Ang = S
  pointwise [turn2_apply]

theorem v146_eq : res_main_v146 (F := 𝕀) m c = truncf .bf16 (shapeCast S16896x64 (turn1 (broadcastInDim S16896x1x64 ![0, 2] bcast_S16896x64_S16896x1x64_0_2 (extractStridedSlice S16896x64 ![0, 8448] (Z m c) slices_S16896x8704_S16896x64_0_8448)) (Host.cos Ang) (Host.sin Ang)) shapeCasts_S16896x1x64_S16896x64) bitsLt_bf16_f32 := rfl

theorem v146_apply (t : Fin 16896) (k : Fin 64) : res_main_v146 (F := 𝕀) m c (ix2 t k)
    = Rot (fun p => Z m c (ix2 t ⟨8448 + p.val, by omega⟩)) (fun j => Host.cos Ang (ix2 t j)) (fun j => Host.sin Ang (ix2 t j)) k := by
  rw [v146_eq]
  generalize Host.cos (F := 𝕀) (φ := .f32) Ang = C
  generalize Host.sin (F := 𝕀) (φ := .f32) Ang = S
  pointwise [turn1_apply]

end Cert.Proof.Turn

end
-- ==== Proof.PrepValue.lean ====
/-
  The rotary call's results at an index: each point turns one block of tokens by the three lane tables.
-/
module

public import proofs.«01_k».proof.Proof.Gen.Kernel5Ideal.Value
public import proofs.«01_k».proof.Proof.Turn
public import Idealize.ShloMosaic.Lib.StableHlo.RunRead
public import Idealize.ShloMosaic.Lib.Pipeline.ValueKit

public section

set_option maxRecDepth 16384

namespace Cert.Proof.PrepValue

open Cert.Kernel5Ideal Cert.Kernel5Ideal.Gen Cert.Kernel5Ideal.Value Idealize.ShloMosaic Idealize.ShloMosaic.TcCoe Idealize.SL.Sem
open Idealize.ShloMosaic.Pointwise
open Cert.Proof.Turn (Rot tabC tabLo tabHi lanes Ang)

local notation "𝕀" => Idealize.ShloMosaic.Ideal

/-! ## The payloads at an index -/

/-- Four copies of a table of 128 lanes, side by side, read at a lane. -/
theorem four (f : Fin 128 → EReal) (k : Fin 512) :
    (if h : k.val < 128 then f ⟨k.val, h⟩ else if h : k.val - 128 < 128 then f ⟨k.val - 128, h⟩
      else if h : k.val - 128 - 128 < 128 then f ⟨k.val - 128 - 128, h⟩ else f ⟨k.val - 128 - 128 - 128, by omega⟩)
      = f ⟨k.val % 128, by omega⟩ := by
  split
  · exact congrArg f (Fin.ext (by dsimp only; omega))
  · split
    · exact congrArg f (Fin.ext (by dsimp only; omega))
    · split <;> exact congrArg f (Fin.ext (by dsimp only; omega))

section Payloads
variable (c lo hi : FVec 𝕀 S512x128 .f32) (r : Fin 512) (C S : Fin 8 → EReal)
  (hc : ∀ q : Fin 128, c (ix2 r q) = tabC C ⟨q.val % 64, by omega⟩)
  (hl : ∀ q : Fin 128, lo (ix2 r q) = tabLo S ⟨q.val % 64, by omega⟩)
  (hh : ∀ q : Fin 128, hi (ix2 r q) = tabHi S ⟨q.val % 64, by omega⟩)

include hc hl hh

/-- Eight heads of 64 lanes against four copies of the tables. -/
theorem turned512 (x : FVec 𝕀 S512x512 .f32) (k : Fin 512) :
    x (ix2 r k) * c (ix2 r ⟨k.val % 128, by omega⟩) + x (ix2 r ⟨(k.val + 512 - 8) % 512, by omega⟩) * hi (ix2 r ⟨k.val % 128, by omega⟩)
      + x (ix2 r ⟨(k.val + 512 - 504) % 512, by omega⟩) * lo (ix2 r ⟨k.val % 128, by omega⟩)
      = Rot (fun p => x (ix2 r ⟨k.val / 64 * 64 + p.val, by omega⟩)) C S ⟨k.val % 64, by omega⟩ := by
  have e : (⟨k.val % 128 % 64, by omega⟩ : Fin 64) = ⟨k.val % 64, by omega⟩ := Fin.ext (by dsimp only; omega)
  have ek : k = ⟨k.val / 64 * 64 + k.val % 64, by omega⟩ := Fin.ext (by dsimp only; omega)
  rw [hc, hl, hh, e]
  refine Eq.trans ?_ (lanes (fun p => x (ix2 r ⟨k.val / 64 * 64 + p.val, by omega⟩)) C S ⟨k.val % 64, by omega⟩
    (x (ix2 r ⟨(k.val + 512 - 8) % 512, by omega⟩)) (x (ix2 r ⟨(k.val + 512 - 504) % 512, by omega⟩)) ?_ ?_)
  · exact congrArg (fun z => x (ix2 r z) * _ + _ + _) ek
  · intro h
    refine congrArg (fun z => x (ix2 r z)) (Fin.ext ?_)
    dsimp only at h ⊢
    omega
  · intro h
    refine congrArg (fun z => x (ix2 r z)) (Fin.ext ?_)
    dsimp only at h ⊢
    omega

/-- Two heads of 64 lanes, staged from a column on, against the tables. -/
theorem turned128 (y : Fin 128 → EReal) (k : Fin 128) :
    y k * c (ix2 r k) + y ⟨(k.val + 128 - 8) % 128, by omega⟩ * hi (ix2 r k) + y ⟨(k.val + 128 - 120) % 128, by omega⟩ * lo (ix2 r k)
      = Rot (fun p => y ⟨k.val / 64 * 64 + p.val, by omega⟩) C S ⟨k.val % 64, by omega⟩ := by
  have ek : k = ⟨k.val / 64 * 64 + k.val % 64, by omega⟩ := Fin.ext (by dsimp only; omega)
  rw [hc, hl, hh]
  refine Eq.trans ?_ (lanes (fun p => y ⟨k.val / 64 * 64 + p.val, by omega⟩) C S ⟨k.val % 64, by omega⟩
    (y ⟨(k.val + 128 - 8) % 128, by omega⟩) (y ⟨(k.val + 128 - 120) % 128, by omega⟩) ?_ ?_)
  · exact congrArg (fun z => y z * _ + _ + _) ek
  · intro h
    refine congrArg y (Fin.ext ?_)
    dsimp only at h ⊢
    omega
  · intro h
    refine congrArg y (Fin.ext ?_)
    dsimp only at h ⊢
    omega

theorem pay9_apply (x : FVec 𝕀 S512x512 .f32) (k : Fin 512) :
    k0_pay9 (F := 𝕀) c lo hi x (ix2 r k)
      = Rot (fun p => x (ix2 r ⟨k.val / 64 * 64 + p.val, by omega⟩)) C S ⟨k.val % 64, by omega⟩ * Ideal.ofBits .f32 0x3E000000#32 := by
  rw [← turned512 c lo hi r C S hc hl hh x k, ← four (fun q => c (ix2 r q)) k, ← four (fun q => lo (ix2 r q)) k,
    ← four (fun q => hi (ix2 r q)) k]
  pointwise [k0_pay9, k0_pay6, k0_pay7, k0_pay8]

theorem pay10_apply (x : FVec 𝕀 S512x512 .f32) (k : Fin 512) :
    k0_pay10 (F := 𝕀) c lo hi x (ix2 r k)
      = Rot (fun p => x (ix2 r ⟨k.val / 64 * 64 + p.val, by omega⟩)) C S ⟨k.val % 64, by omega⟩ := by
  rw [← turned512 c lo hi r C S hc hl hh x k, ← four (fun q => c (ix2 r q)) k, ← four (fun q => lo (ix2 r q)) k,
    ← four (fun q => hi (ix2 r q)) k]
  pointwise [k0_pay10, k0_pay6, k0_pay7, k0_pay8]

theorem pay1_apply (x : FVec 𝕀 S512x512 .f32) (k : Fin 128) :
    k0_pay1 (F := 𝕀) (k0_pay7 lo) (k0_pay8 hi) (View.ld x r0_2) (k0_pay11 c (View.ld x r0_2)) (ix2 r k)
      = Rot (fun p => x (ix2 r ⟨k.val / 64 * 64 + p.val, by omega⟩)) C S ⟨k.val % 64, by omega⟩ := by
  rw [← turned128 c lo hi r C S hc hl hh (fun q => x (ix2 r ⟨q.val, by omega⟩)) k]
  pointwise [k0_pay1, k0_pay6, k0_pay7, k0_pay8, k0_pay11]

theorem pay2_apply (x : FVec 𝕀 S512x512 .f32) (k : Fin 64) :
    k0_pay2 (F := 𝕀) (k0_pay6 c) (k0_pay7 lo) (k0_pay8 hi) (View.ld x r0_4) (ix2 r k)
      = Rot (fun p => x (ix2 r ⟨256 + p.val, by omega⟩)) C S k := by
  have h := turned128 c lo hi r C S hc hl hh (fun q => x (ix2 r ⟨256 + q.val, by omega⟩)) ⟨k.val, by omega⟩
  have e0 : k.val / 64 = 0 := by omega
  have e1 : (⟨k.val % 64, by omega⟩ : Fin 64) = k := Fin.ext (by dsimp only; omega)
  simp only [e0, zero_mul, zero_add, e1] at h
  rw [← h]
  pointwise [k0_pay2, k0_pay6, k0_pay7, k0_pay8]

end Payloads

/-! ## What the body leaves -/

theorem zz : (![0, 0] : Fin 2 → Nat) = fun _ => 0 := funext fun a => match a with | ⟨0, _⟩ => rfl | ⟨1, _⟩ => rfl

theorem whole128 (x : Vec 𝕀 S512x128 .f32) : View.ld (Val := Elt 𝕀) (e' := .f32) x r0_0 = x := View.ld_unit_zero (S := S512x128) zz _ _
theorem whole512 (x : Vec 𝕀 S512x512 .f32) : View.ld (Val := Elt 𝕀) (e' := .f32) x r0_1 = x := View.ld_unit_zero (S := S512x512) zz _ _

section Outs
variable (x0 x1 x2 : FVec 𝕀 S512x512 .f32) (x3 x4 x5 : FVec 𝕀 S512x128 .f32)

theorem out6 : out0_6 (F := 𝕀) x0 x1 x2 x3 x4 x5 = k0_pay9 (F := 𝕀) x3 x4 x5 x0 := by
  unfold_out out0_6
  refine (View.canon_unit_zero zz _ _).trans ?_
  simp only [whole128, whole512, k0_pay12, k0_pay13, k0_pay14, k0_pay15]

theorem out7 : out0_7 (F := 𝕀) x0 x1 x2 x3 x4 x5 = k0_pay10 (F := 𝕀) x3 x4 x5 x1 := by
  unfold_out out0_7
  refine (View.canon_unit_zero zz _ _).trans ?_
  simp only [whole128, whole512, k0_pay12, k0_pay13, k0_pay14, k0_pay15]

theorem out8 : out0_8 (F := 𝕀) x0 x1 x2 x3 x4 x5 = k0_pay1 (F := 𝕀) (k0_pay7 x4) (k0_pay8 x5) (View.ld x2 r0_2) (k0_pay11 x3 (View.ld x2 r0_2)) := by
  unfold_out out0_8
  refine (View.canon_unit_zero zz _ _).trans ?_
  simp only [whole128, whole512, k0_pay12, k0_pay13, k0_pay14, k0_pay15]

theorem out9 : out0_9 (F := 𝕀) x0 x1 x2 x3 x4 x5 = View.ld x2 r0_3 := by
  unfold_out out0_9
  refine (View.canon_unit_zero zz _ _).trans ?_
  rfl

theorem out10 : out0_10 (F := 𝕀) x0 x1 x2 x3 x4 x5 = k0_pay2 (F := 𝕀) (k0_pay6 x3) (k0_pay7 x4) (k0_pay8 x5) (View.ld x2 r0_4) := by
  unfold_out out0_10
  refine (View.canon_unit_zero zz _ _).trans ?_
  simp only [whole128, whole512, k0_pay12, k0_pay13, k0_pay14, k0_pay15]

theorem out11 : out0_11 (F := 𝕀) x0 x1 x2 x3 x4 x5 = k0_pay3 (F := 𝕀) (k0_pay7 x4) (k0_pay8 x5) (View.ld x2 r0_2) (k0_pay11 x3 (View.ld x2 r0_2)) := by
  unfold_out out0_11
  refine (View.canon_unit_zero zz _ _).trans ?_
  simp only [whole128, whole512, k0_pay12, k0_pay13, k0_pay14, k0_pay15]

theorem out12 : out0_12 (F := 𝕀) x0 x1 x2 x3 x4 x5 = k0_pay4 (F := 𝕀) (View.ld x2 r0_3) := by
  unfold_out out0_12
  refine (View.canon_unit_zero zz _ _).trans ?_
  rfl

theorem out13 : out0_13 (F := 𝕀) x0 x1 x2 x3 x4 x5 = k0_pay5 (F := 𝕀) (k0_pay6 x3) (k0_pay7 x4) (k0_pay8 x5) (View.ld x2 r0_4) := by
  unfold_out out0_13
  refine (View.canon_unit_zero zz _ _).trans ?_
  simp only [whole128, whole512, k0_pay12, k0_pay13, k0_pay14, k0_pay15]

end Outs

/-! ## The tables -/

variable (m : (ℓ : Loc nD τ sig) → Buf (Elt 𝕀) ℓ) (c : Dev nD)

/-- Two copies of a table of 64 lanes, side by side, read at a lane. -/
theorem two (f : Fin 64 → EReal) (k : Fin 128) :
    (if h : k.val < 64 then f ⟨k.val, h⟩ else f ⟨k.val - 64, by omega⟩) = f ⟨k.val % 64, by omega⟩ := by
  split <;> exact congrArg f (Fin.ext (by dsimp only; omega))

theorem V_c (t : Fin 16896) (k : Fin 128) :
    V m c main_v32 (ix2 t k) = tabC (fun j => Host.cos (F := 𝕀) (φ := .f32) Ang (ix2 t j)) ⟨k.val % 64, by omega⟩ := by
  have e : V m c main_v32 = concatenate S16896x128 1
      [⟨S16896x64, concatenate S16896x64 1 [⟨S16896x8, Host.cos (F := 𝕀) (φ := .f32) Ang⟩, ⟨S16896x8, Host.cos (F := 𝕀) (φ := .f32) Ang⟩,
        ⟨S16896x48, broadcastInDim S16896x48 ![] bcast_S_S16896x48 (constant S_ .f32 0x3F800000#32)⟩] concatenates_S16896x8_S16896x8_S16896x48_S16896x64_d1⟩,
       ⟨S16896x64, concatenate S16896x64 1 [⟨S16896x8, Host.cos (F := 𝕀) (φ := .f32) Ang⟩, ⟨S16896x8, Host.cos (F := 𝕀) (φ := .f32) Ang⟩,
        ⟨S16896x48, broadcastInDim S16896x48 ![] bcast_S_S16896x48 (constant S_ .f32 0x3F800000#32)⟩] concatenates_S16896x8_S16896x8_S16896x48_S16896x64_d1⟩]
      concatenates_S16896x64_S16896x64_S16896x128_d1 := by
    simp only [V]
    after_reads_simp
    rfl
  rw [e]
  generalize Host.cos (F := 𝕀) (φ := .f32) Ang = T
  refine Eq.trans ?_ (two (tabC (fun j => T (ix2 t j))) k)
  unfold tabC
  pointwise []

theorem V_lo (t : Fin 16896) (k : Fin 128) :
    V m c main_v33 (ix2 t k) = tabLo (fun j => Host.sin (F := 𝕀) (φ := .f32) Ang (ix2 t j)) ⟨k.val % 64, by omega⟩ := by
  have e : V m c main_v33 = concatenate S16896x128 1
      [⟨S16896x64, concatenate S16896x64 1 [⟨S16896x8, Host.negf (Host.sin (F := 𝕀) (φ := .f32) Ang)⟩, ⟨S16896x8, broadcastInDim S16896x8 ![] bcast_S_S16896x8 (constant S_ .f32 0x00000000#32)⟩,
        ⟨S16896x48, broadcastInDim S16896x48 ![] bcast_S_S16896x48 (constant S_ .f32 0x00000000#32)⟩] concatenates_S16896x8_S16896x8_S16896x48_S16896x64_d1⟩,
       ⟨S16896x64, concatenate S16896x64 1 [⟨S16896x8, Host.negf (Host.sin (F := 𝕀) (φ := .f32) Ang)⟩, ⟨S16896x8, broadcastInDim S16896x8 ![] bcast_S_S16896x8 (constant S_ .f32 0x00000000#32)⟩,
        ⟨S16896x48, broadcastInDim S16896x48 ![] bcast_S_S16896x48 (constant S_ .f32 0x00000000#32)⟩] concatenates_S16896x8_S16896x8_S16896x48_S16896x64_d1⟩]
      concatenates_S16896x64_S16896x64_S16896x128_d1 := by
    simp only [V]
    after_reads_simp
    rfl
  rw [e]
  generalize Host.sin (F := 𝕀) (φ := .f32) Ang = T
  refine Eq.trans ?_ (two (tabLo (fun j => T (ix2 t j))) k)
  unfold tabLo
  pointwise []
  simp only [dite_eq_ite, ite_self]

theorem V_hi (t : Fin 16896) (k : Fin 128) :
    V m c main_v34 (ix2 t k) = tabHi (fun j => Host.sin (F := 𝕀) (φ := .f32) Ang (ix2 t j)) ⟨k.val % 64, by omega⟩ := by
  have e : V m c main_v34 = concatenate S16896x128 1
      [⟨S16896x64, concatenate S16896x64 1 [⟨S16896x8, broadcastInDim S16896x8 ![] bcast_S_S16896x8 (constant S_ .f32 0x00000000#32)⟩, ⟨S16896x8, Host.sin (F := 𝕀) (φ := .f32) Ang⟩,
        ⟨S16896x48, broadcastInDim S16896x48 ![] bcast_S_S16896x48 (constant S_ .f32 0x00000000#32)⟩] concatenates_S16896x8_S16896x8_S16896x48_S16896x64_d1⟩,
       ⟨S16896x64, concatenate S16896x64 1 [⟨S16896x8, broadcastInDim S16896x8 ![] bcast_S_S16896x8 (constant S_ .f32 0x00000000#32)⟩, ⟨S16896x8, Host.sin (F := 𝕀) (φ := .f32) Ang⟩,
        ⟨S16896x48, broadcastInDim S16896x48 ![] bcast_S_S16896x48 (constant S_ .f32 0x00000000#32)⟩] concatenates_S16896x8_S16896x8_S16896x48_S16896x64_d1⟩]
      concatenates_S16896x64_S16896x64_S16896x128_d1 := by
    simp only [V]
    after_reads_simp
    rfl
  rw [e]
  generalize Host.sin (F := 𝕀) (φ := .f32) Ang = T
  refine Eq.trans ?_ (two (tabHi (fun j => T (ix2 t j))) k)
  unfold tabHi
  pointwise []
  simp only [dite_eq_ite]

/-! ## The blocks -/

/-- The projected tokens. -/
abbrev Z : FVec 𝕀 S16896x8704 .f32 := m ((c : Thread nD τ).loc main_arg0)

theorem idx0 : ∀ t : Fin cfg0.N, win0_0.index t 0 = t.val ∧ win0_0.index t 1 = 14 := (by decide +kernel : ∀ t : Fin grid0.N, _)
theorem idx1 : ∀ t : Fin cfg0.N, win0_1.index t 0 = t.val ∧ win0_1.index t 1 = 15 := (by decide +kernel : ∀ t : Fin grid0.N, _)
theorem idx2 : ∀ t : Fin cfg0.N, win0_2.index t 0 = t.val ∧ win0_2.index t 1 = 16 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)
theorem idx9 : ∀ t : Fin cfg0.N, win0_9.index t 0 = t.val ∧ win0_9.index t 1 = 0 := (by decide +kernel : ∀ t : Fin grid0.N, _)
theorem idx10 : ∀ t : Fin cfg0.N, win0_10.index t 0 = t.val ∧ win0_10.index t 1 = 0 := (by decide +kernel : ∀ t : Fin grid0.N, _)
theorem idx11 : ∀ t : Fin cfg0.N, win0_11.index t 0 = t.val ∧ win0_11.index t 1 = 0 := (by decide +kernel : ∀ t : Fin grid0.N, _)
theorem idx12 : ∀ t : Fin cfg0.N, win0_12.index t 0 = t.val ∧ win0_12.index t 1 = 0 := (by decide +kernel : ∀ t : Fin grid0.N, _)
theorem idx13 : ∀ t : Fin cfg0.N, win0_13.index t 0 = t.val ∧ win0_13.index t 1 = 0 := (by decide +kernel : ∀ t : Fin grid0.N, _)

section Rows
variable (t : Fin cfg0.N) (r : Fin 512) (hr : t.val * 512 + r.val < 16896)

theorem blk0 (p : Fin 512) : (iblk m c 0 t : FVec 𝕀 S512x512 .f32) (ix2 r p) = Z m c (ix2 ⟨t.val * 512 + r.val, hr⟩ ⟨7168 + p.val, by omega⟩) := by
  unfold iblk
  refine Eq.trans (View.read_apply _ _) ?_
  refine (congrArg (V m c main_arg0) (funext fun a => Fin.ext ?_)).trans (congrFun (V_main_arg0 m c) _)
  match a with
  | ⟨0, _⟩ => show win0_0.index t 0 * 512 + 1 * r.val = t.val * 512 + r.val; rw [(idx0 t).1]; omega
  | ⟨1, _⟩ => show win0_0.index t 1 * 512 + 1 * p.val = 7168 + p.val; rw [(idx0 t).2]; omega

theorem blk1 (p : Fin 512) : (iblk m c 1 t : FVec 𝕀 S512x512 .f32) (ix2 r p) = Z m c (ix2 ⟨t.val * 512 + r.val, hr⟩ ⟨7680 + p.val, by omega⟩) := by
  unfold iblk
  refine Eq.trans (View.read_apply _ _) ?_
  refine (congrArg (V m c main_arg0) (funext fun a => Fin.ext ?_)).trans (congrFun (V_main_arg0 m c) _)
  match a with
  | ⟨0, _⟩ => show win0_1.index t 0 * 512 + 1 * r.val = t.val * 512 + r.val; rw [(idx1 t).1]; omega
  | ⟨1, _⟩ => show win0_1.index t 1 * 512 + 1 * p.val = 7680 + p.val; rw [(idx1 t).2]; omega

theorem blk2 (p : Fin 512) : (iblk m c 2 t : FVec 𝕀 S512x512 .f32) (ix2 r p) = Z m c (ix2 ⟨t.val * 512 + r.val, hr⟩ ⟨8192 + p.val, by omega⟩) := by
  unfold iblk
  refine Eq.trans (View.read_apply _ _) ?_
  refine (congrArg (V m c main_arg0) (funext fun a => Fin.ext ?_)).trans (congrFun (V_main_arg0 m c) _)
  match a with
  | ⟨0, _⟩ => show win0_2.index t 0 * 512 + 1 * r.val = t.val * 512 + r.val; rw [(idx2 t).1]; omega
  | ⟨1, _⟩ => show win0_2.index t 1 * 512 + 1 * p.val = 8192 + p.val; rw [(idx2 t).2]; omega

theorem blk3 (q : Fin 128) : (iblk m c 3 t : FVec 𝕀 S512x128 .f32) (ix2 r q)
    = tabC (fun j => Host.cos (F := 𝕀) (φ := .f32) Ang (ix2 ⟨t.val * 512 + r.val, hr⟩ j)) ⟨q.val % 64, by omega⟩ := by
  rw [← V_c m c]
  unfold iblk
  refine Eq.trans (View.read_apply _ _) ?_
  refine congrArg (V m c main_v32) (funext fun a => Fin.ext ?_)
  match a with
  | ⟨0, _⟩ => show win0_3.index t 0 * 512 + 1 * r.val = t.val * 512 + r.val; rw [(idx3 t).1]; omega
  | ⟨1, _⟩ => show win0_3.index t 1 * 128 + 1 * q.val = q.val; rw [(idx3 t).2]; omega

theorem blk4 (q : Fin 128) : (iblk m c 4 t : FVec 𝕀 S512x128 .f32) (ix2 r q)
    = tabLo (fun j => Host.sin (F := 𝕀) (φ := .f32) Ang (ix2 ⟨t.val * 512 + r.val, hr⟩ j)) ⟨q.val % 64, by omega⟩ := by
  rw [← V_lo m c]
  unfold iblk
  refine Eq.trans (View.read_apply _ _) ?_
  refine congrArg (V m c main_v33) (funext fun a => Fin.ext ?_)
  match a with
  | ⟨0, _⟩ => show win0_4.index t 0 * 512 + 1 * r.val = t.val * 512 + r.val; rw [(idx4 t).1]; omega
  | ⟨1, _⟩ => show win0_4.index t 1 * 128 + 1 * q.val = q.val; rw [(idx4 t).2]; omega

theorem blk5 (q : Fin 128) : (iblk m c 5 t : FVec 𝕀 S512x128 .f32) (ix2 r q)
    = tabHi (fun j => Host.sin (F := 𝕀) (φ := .f32) Ang (ix2 ⟨t.val * 512 + r.val, hr⟩ j)) ⟨q.val % 64, by omega⟩ := by
  rw [← V_hi m c]
  unfold iblk
  refine Eq.trans (View.read_apply _ _) ?_
  refine congrArg (V m c main_v34) (funext fun a => Fin.ext ?_)
  match a with
  | ⟨0, _⟩ => show win0_5.index t 0 * 512 + 1 * r.val = t.val * 512 + r.val; rw [(idx5 t).1]; omega
  | ⟨1, _⟩ => show win0_5.index t 1 * 128 + 1 * q.val = q.val; rw [(idx5 t).2]; omega

end Rows

/-! ## The call's results -/

/-- The dense queries, turned and scaled. -/
@[expose] noncomputable def Out6 : FVec 𝕀 S16896x512 .bf16 := fun i =>
  Rot (fun p => Z m c (ix2 (i 0) ⟨7168 + ((i 1).val / 64 * 64 + p.val), by have h : (i 1).val < 512 := (i 1).isLt; omega⟩)) (fun j => Host.cos (F := 𝕀) (φ := .f32) Ang (ix2 (i 0) j)) (fun j => Host.sin (F := 𝕀) (φ := .f32) Ang (ix2 (i 0) j)) ⟨(i 1).val % 64, by omega⟩ * Ideal.ofBits .f32 0x3E000000#32

theorem point6 (t : Fin cfg0.N) (r : Fin 512) (hr : t.val * 512 + r.val < 16896) (k : Fin 512) :
    out0_6 (F := 𝕀) (iblk m c 0 t) (iblk m c 1 t) (iblk m c 2 t) (iblk m c 3 t) (iblk m c 4 t) (iblk m c 5 t) (ix2 r k)
      = Out6 m c (ix2 ⟨t.val * 512 + r.val, hr⟩ k) := by
  rw [out6]
  refine (pay9_apply _ _ _ r _ _ (blk3 m c t r hr) (blk4 m c t r hr) (blk5 m c t r hr) _ k).trans ?_
  simp only [blk0 m c t r hr]
  rfl

theorem point_out6 (t : Fin cfg0.N) (y : S512x512.Idx) (i : S16896x512.Idx) (h0 : (i 0).val = t.val * 512 + (y 0).val) (h1 : (i 1).val = (y 1).val) :
    out0_6 (F := 𝕀) (iblk m c 0 t) (iblk m c 1 t) (iblk m c 2 t) (iblk m c 3 t) (iblk m c 4 t) (iblk m c 5 t) y = Out6 m c i := by
  have hr : t.val * 512 + (y 0).val < 16896 := h0 ▸ (i 0).isLt
  rw [eq_ix2 y]
  refine (point6 m c t (y 0) hr (y 1)).trans (congrArg (Out6 m c) ?_)
  rw [eq_ix2 i]
  exact congrArg₂ ix2 (Fin.ext h0.symm) (Fin.ext h1.symm)

theorem kernel6 : (dats m 0 c).arrAt 6 cfg0.N = Out6 m c := by
  refine (dats m 0 c).arrAt_eq_of_covers 6 _ (by decide +kernel) fun t _ y => ?_
  blk_simp
  rw [after0_6]
  refine point_out6 m c t y _ ?_ ?_
  · blk_simp [(idx6 t).1]
  · blk_simp [(idx6 t).2]

/-- The index queries, turned. -/
@[expose] noncomputable def Out7 : FVec 𝕀 S16896x512 .bf16 := fun i =>
  Rot (fun p => Z m c (ix2 (i 0) ⟨7680 + ((i 1).val / 64 * 64 + p.val), by have h : (i 1).val < 512 := (i 1).isLt; omega⟩)) (fun j => Host.cos (F := 𝕀) (φ := .f32) Ang (ix2 (i 0) j)) (fun j => Host.sin (F := 𝕀) (φ := .f32) Ang (ix2 (i 0) j)) ⟨(i 1).val % 64, by omega⟩

theorem point7 (t : Fin cfg0.N) (r : Fin 512) (hr : t.val * 512 + r.val < 16896) (k : Fin 512) :
    out0_7 (F := 𝕀) (iblk m c 0 t) (iblk m c 1 t) (iblk m c 2 t) (iblk m c 3 t) (iblk m c 4 t) (iblk m c 5 t) (ix2 r k)
      = Out7 m c (ix2 ⟨t.val * 512 + r.val, hr⟩ k) := by
  rw [out7]
  refine (pay10_apply _ _ _ r _ _ (blk3 m c t r hr) (blk4 m c t r hr) (blk5 m c t r hr) _ k).trans ?_
  simp only [blk1 m c t r hr]
  rfl

theorem point_out7 (t : Fin cfg0.N) (y : S512x512.Idx) (i : S16896x512.Idx) (h0 : (i 0).val = t.val * 512 + (y 0).val) (h1 : (i 1).val = (y 1).val) :
    out0_7 (F := 𝕀) (iblk m c 0 t) (iblk m c 1 t) (iblk m c 2 t) (iblk m c 3 t) (iblk m c 4 t) (iblk m c 5 t) y = Out7 m c i := by
  have hr : t.val * 512 + (y 0).val < 16896 := h0 ▸ (i 0).isLt
  rw [eq_ix2 y]
  refine (point7 m c t (y 0) hr (y 1)).trans (congrArg (Out7 m c) ?_)
  rw [eq_ix2 i]
  exact congrArg₂ ix2 (Fin.ext h0.symm) (Fin.ext h1.symm)

theorem kernel7 : (dats m 0 c).arrAt 7 cfg0.N = Out7 m c := by
  refine (dats m 0 c).arrAt_eq_of_covers 7 _ (by decide +kernel) fun t _ y => ?_
  blk_simp
  rw [after0_7]
  refine point_out7 m c t y _ ?_ ?_
  · blk_simp [(idx7 t).1]
  · blk_simp [(idx7 t).2]

/-- The keys, turned. -/
@[expose] noncomputable def Out8 : FVec 𝕀 S16896x128 .f32 := fun i =>
  Rot (fun p => Z m c (ix2 (i 0) ⟨8192 + ((i 1).val / 64 * 64 + p.val), by have h : (i 1).val < 128 := (i 1).isLt; omega⟩)) (fun j => Host.cos (F := 𝕀) (φ := .f32) Ang (ix2 (i 0) j)) (fun j => Host.sin (F := 𝕀) (φ := .f32) Ang (ix2 (i 0) j)) ⟨(i 1).val % 64, by omega⟩

theorem point8 (t : Fin cfg0.N) (r : Fin 512) (hr : t.val * 512 + r.val < 16896) (k : Fin 128) :
    out0_8 (F := 𝕀) (iblk m c 0 t) (iblk m c 1 t) (iblk m c 2 t) (iblk m c 3 t) (iblk m c 4 t) (iblk m c 5 t) (ix2 r k)
      = Out8 m c (ix2 ⟨t.val * 512 + r.val, hr⟩ k) := by
  rw [out8]
  refine (pay1_apply _ _ _ r _ _ (blk3 m c t r hr) (blk4 m c t r hr) (blk5 m c t r hr) _ k).trans ?_
  simp only [blk2 m c t r hr]
  rfl

theorem point_out8 (t : Fin cfg0.N) (y : S512x128.Idx) (i : S16896x128.Idx) (h0 : (i 0).val = t.val * 512 + (y 0).val) (h1 : (i 1).val = (y 1).val) :
    out0_8 (F := 𝕀) (iblk m c 0 t) (iblk m c 1 t) (iblk m c 2 t) (iblk m c 3 t) (iblk m c 4 t) (iblk m c 5 t) y = Out8 m c i := by
  have hr : t.val * 512 + (y 0).val < 16896 := h0 ▸ (i 0).isLt
  rw [eq_ix2 y]
  refine (point8 m c t (y 0) hr (y 1)).trans (congrArg (Out8 m c) ?_)
  rw [eq_ix2 i]
  exact congrArg₂ ix2 (Fin.ext h0.symm) (Fin.ext h1.symm)

theorem kernel8 : (dats m 0 c).arrAt 8 cfg0.N = Out8 m c := by
  refine (dats m 0 c).arrAt_eq_of_covers 8 _ (by decide +kernel) fun t _ y => ?_
  blk_simp
  rw [after0_8]
  refine point_out8 m c t y _ ?_ ?_
  · blk_simp [(idx8 t).1]
  · blk_simp [(idx8 t).2]

/-- The values. -/
@[expose] noncomputable def Out9 : FVec 𝕀 S16896x128 .f32 := fun i =>
  Z m c (ix2 (i 0) ⟨8320 + (i 1).val, by have h : (i 1).val < 128 := (i 1).isLt; omega⟩)

theorem point9 (t : Fin cfg0.N) (r : Fin 512) (hr : t.val * 512 + r.val < 16896) (k : Fin 128) :
    out0_9 (F := 𝕀) (iblk m c 0 t) (iblk m c 1 t) (iblk m c 2 t) (iblk m c 3 t) (iblk m c 4 t) (iblk m c 5 t) (ix2 r k)
      = Out9 m c (ix2 ⟨t.val * 512 + r.val, hr⟩ k) := by
  rw [out9]
  have e : View.ld (iblk m c 2 t : FVec 𝕀 S512x512 .f32) r0_3 (ix2 r k) = (iblk m c 2 t : FVec 𝕀 S512x512 .f32) (ix2 r ⟨128 + k.val, by omega⟩) := by
    pointwise []
  refine e.trans ((blk2 m c t r hr _).trans ?_)
  unfold Out9
  refine congrArg (fun z => Z m c (ix2 _ z)) (Fin.ext ?_)
  show 8192 + (128 + k.val) = 8320 + k.val
  omega

theorem point_out9 (t : Fin cfg0.N) (y : S512x128.Idx) (i : S16896x128.Idx) (h0 : (i 0).val = t.val * 512 + (y 0).val) (h1 : (i 1).val = (y 1).val) :
    out0_9 (F := 𝕀) (iblk m c 0 t) (iblk m c 1 t) (iblk m c 2 t) (iblk m c 3 t) (iblk m c 4 t) (iblk m c 5 t) y = Out9 m c i := by
  have hr : t.val * 512 + (y 0).val < 16896 := h0 ▸ (i 0).isLt
  rw [eq_ix2 y]
  refine (point9 m c t (y 0) hr (y 1)).trans (congrArg (Out9 m c) ?_)
  rw [eq_ix2 i]
  exact congrArg₂ ix2 (Fin.ext h0.symm) (Fin.ext h1.symm)

theorem kernel9 : (dats m 0 c).arrAt 9 cfg0.N = Out9 m c := by
  refine (dats m 0 c).arrAt_eq_of_covers 9 _ (by decide +kernel) fun t _ y => ?_
  blk_simp
  rw [after0_9]
  refine point_out9 m c t y _ ?_ ?_
  · blk_simp [(idx9 t).1]
  · blk_simp [(idx9 t).2]

/-- The index keys, turned. -/
@[expose] noncomputable def Out10 : FVec 𝕀 S16896x64 .f32 := fun i =>
  Rot (fun p => Z m c (ix2 (i 0) ⟨8448 + p.val, by omega⟩)) (fun j => Host.cos (F := 𝕀) (φ := .f32) Ang (ix2 (i 0) j)) (fun j => Host.sin (F := 𝕀) (φ := .f32) Ang (ix2 (i 0) j)) (i 1)

theorem point10 (t : Fin cfg0.N) (r : Fin 512) (hr : t.val * 512 + r.val < 16896) (k : Fin 64) :
    out0_10 (F := 𝕀) (iblk m c 0 t) (iblk m c 1 t) (iblk m c 2 t) (iblk m c 3 t) (iblk m c 4 t) (iblk m c 5 t) (ix2 r k)
      = Out10 m c (ix2 ⟨t.val * 512 + r.val, hr⟩ k) := by
  rw [out10]
  refine (pay2_apply _ _ _ r _ _ (blk3 m c t r hr) (blk4 m c t r hr) (blk5 m c t r hr) _ k).trans ?_
  simp only [blk2 m c t r hr]
  unfold Out10
  refine congrArg (fun f => Rot f _ _ _) (funext fun p => congrArg (fun z => Z m c (ix2 _ z)) (Fin.ext ?_))
  show 8192 + (256 + p.val) = 8448 + p.val
  omega

theorem point_out10 (t : Fin cfg0.N) (y : S512x64.Idx) (i : S16896x64.Idx) (h0 : (i 0).val = t.val * 512 + (y 0).val) (h1 : (i 1).val = (y 1).val) :
    out0_10 (F := 𝕀) (iblk m c 0 t) (iblk m c 1 t) (iblk m c 2 t) (iblk m c 3 t) (iblk m c 4 t) (iblk m c 5 t) y = Out10 m c i := by
  have hr : t.val * 512 + (y 0).val < 16896 := h0 ▸ (i 0).isLt
  rw [eq_ix2 y]
  refine (point10 m c t (y 0) hr (y 1)).trans (congrArg (Out10 m c) ?_)
  rw [eq_ix2 i]
  exact congrArg₂ ix2 (Fin.ext h0.symm) (Fin.ext h1.symm)

theorem kernel10 : (dats m 0 c).arrAt 10 cfg0.N = Out10 m c := by
  refine (dats m 0 c).arrAt_eq_of_covers 10 _ (by decide +kernel) fun t _ y => ?_
  blk_simp
  rw [after0_10]
  refine point_out10 m c t y _ ?_ ?_
  · blk_simp [(idx10 t).1]
  · blk_simp [(idx10 t).2]

/-- The keys, turned, as staged. -/
@[expose] noncomputable def Out11 : FVec 𝕀 S16896x128 .bf16 := fun i =>
  Out8 m c i

theorem point11 (t : Fin cfg0.N) (r : Fin 512) (hr : t.val * 512 + r.val < 16896) (k : Fin 128) :
    out0_11 (F := 𝕀) (iblk m c 0 t) (iblk m c 1 t) (iblk m c 2 t) (iblk m c 3 t) (iblk m c 4 t) (iblk m c 5 t) (ix2 r k)
      = Out11 m c (ix2 ⟨t.val * 512 + r.val, hr⟩ k) := by
  rw [out11]
  refine Eq.trans ?_ (point8 m c t r hr k)
  rw [out8]
  pointwise [k0_pay3]

theorem point_out11 (t : Fin cfg0.N) (y : S512x128.Idx) (i : S16896x128.Idx) (h0 : (i 0).val = t.val * 512 + (y 0).val) (h1 : (i 1).val = (y 1).val) :
    out0_11 (F := 𝕀) (iblk m c 0 t) (iblk m c 1 t) (iblk m c 2 t) (iblk m c 3 t) (iblk m c 4 t) (iblk m c 5 t) y = Out11 m c i := by
  have hr : t.val * 512 + (y 0).val < 16896 := h0 ▸ (i 0).isLt
  rw [eq_ix2 y]
  refine (point11 m c t (y 0) hr (y 1)).trans (congrArg (Out11 m c) ?_)
  rw [eq_ix2 i]
  exact congrArg₂ ix2 (Fin.ext h0.symm) (Fin.ext h1.symm)

theorem kernel11 : (dats m 0 c).arrAt 11 cfg0.N = Out11 m c := by
  refine (dats m 0 c).arrAt_eq_of_covers 11 _ (by decide +kernel) fun t _ y => ?_
  blk_simp
  rw [after0_11]
  refine point_out11 m c t y _ ?_ ?_
  · blk_simp [(idx11 t).1]
  · blk_simp [(idx11 t).2]

/-- The values, as staged. -/
@[expose] noncomputable def Out12 : FVec 𝕀 S16896x128 .bf16 := fun i =>
  Out9 m c i

theorem point12 (t : Fin cfg0.N) (r : Fin 512) (hr : t.val * 512 + r.val < 16896) (k : Fin 128) :
    out0_12 (F := 𝕀) (iblk m c 0 t) (iblk m c 1 t) (iblk m c 2 t) (iblk m c 3 t) (iblk m c 4 t) (iblk m c 5 t) (ix2 r k)
      = Out12 m c (ix2 ⟨t.val * 512 + r.val, hr⟩ k) := by
  rw [out12]
  refine Eq.trans ?_ (point9 m c t r hr k)
  rw [out9]
  pointwise [k0_pay4]

theorem point_out12 (t : Fin cfg0.N) (y : S512x128.Idx) (i : S16896x128.Idx) (h0 : (i 0).val = t.val * 512 + (y 0).val) (h1 : (i 1).val = (y 1).val) :
    out0_12 (F := 𝕀) (iblk m c 0 t) (iblk m c 1 t) (iblk m c 2 t) (iblk m c 3 t) (iblk m c 4 t) (iblk m c 5 t) y = Out12 m c i := by
  have hr : t.val * 512 + (y 0).val < 16896 := h0 ▸ (i 0).isLt
  rw [eq_ix2 y]
  refine (point12 m c t (y 0) hr (y 1)).trans (congrArg (Out12 m c) ?_)
  rw [eq_ix2 i]
  exact congrArg₂ ix2 (Fin.ext h0.symm) (Fin.ext h1.symm)

theorem kernel12 : (dats m 0 c).arrAt 12 cfg0.N = Out12 m c := by
  refine (dats m 0 c).arrAt_eq_of_covers 12 _ (by decide +kernel) fun t _ y => ?_
  blk_simp
  rw [after0_12]
  refine point_out12 m c t y _ ?_ ?_
  · blk_simp [(idx12 t).1]
  · blk_simp [(idx12 t).2]

/-- The index keys, turned, as staged. -/
@[expose] noncomputable def Out13 : FVec 𝕀 S16896x64 .bf16 := fun i =>
  Out10 m c i

theorem point13 (t : Fin cfg0.N) (r : Fin 512) (hr : t.val * 512 + r.val < 16896) (k : Fin 64) :
    out0_13 (F := 𝕀) (iblk m c 0 t) (iblk m c 1 t) (iblk m c 2 t) (iblk m c 3 t) (iblk m c 4 t) (iblk m c 5 t) (ix2 r k)
      = Out13 m c (ix2 ⟨t.val * 512 + r.val, hr⟩ k) := by
  rw [out13]
  refine Eq.trans ?_ (point10 m c t r hr k)
  rw [out10]
  pointwise [k0_pay5]

theorem point_out13 (t : Fin cfg0.N) (y : S512x64.Idx) (i : S16896x64.Idx) (h0 : (i 0).val = t.val * 512 + (y 0).val) (h1 : (i 1).val = (y 1).val) :
    out0_13 (F := 𝕀) (iblk m c 0 t) (iblk m c 1 t) (iblk m c 2 t) (iblk m c 3 t) (iblk m c 4 t) (iblk m c 5 t) y = Out13 m c i := by
  have hr : t.val * 512 + (y 0).val < 16896 := h0 ▸ (i 0).isLt
  rw [eq_ix2 y]
  refine (point13 m c t (y 0) hr (y 1)).trans (congrArg (Out13 m c) ?_)
  rw [eq_ix2 i]
  exact congrArg₂ ix2 (Fin.ext h0.symm) (Fin.ext h1.symm)

theorem kernel13 : (dats m 0 c).arrAt 13 cfg0.N = Out13 m c := by
  refine (dats m 0 c).arrAt_eq_of_covers 13 _ (by decide +kernel) fun t _ y => ?_
  blk_simp
  rw [after0_13]
  refine point_out13 m c t y _ ?_ ?_
  · blk_simp [(idx13 t).1]
  · blk_simp [(idx13 t).2]

end Cert.Proof.PrepValue

end
-- ==== Proof.Prep.lean ====
/-
  The rotary call's value claim: the kernel's eight results and the reference's are the same at every index.
-/
module

public import proofs.«01_k».proof.Defs
public import proofs.«01_k».proof.Proof.PrepValue

public section

set_option maxRecDepth 16384

namespace Cert.Proof.Prep

open Idealize.ShloMosaic Idealize.ShloMosaic.TcCoe Idealize.SL.Sem Idealize.ShloMosaic.Pointwise

local notation "𝕀" => Idealize.ShloMosaic.Ideal

section Results
variable (m : (ℓ : Loc Cert.Kernel5Ideal.nD Cert.Kernel5Ideal.τ Cert.Kernel5Ideal.sig) → Buf (Elt 𝕀) ℓ)
  (m' : (ℓ : Loc Cert.Reference5Ideal.nD Cert.Reference5Ideal.τ Cert.Reference5Ideal.sig) → Buf (Elt 𝕀) ℓ)
  (c : Dev Cert.Kernel5Ideal.nD) (hz : Turn.Z m' c = PrepValue.Z m c)

include hz

theorem res6 : Cert.Reference5Ideal.Value.res_main_v142 (F := 𝕀) m' c = PrepValue.Out6 m c := by
  refine funext fun i => ?_
  obtain ⟨t, k, rfl⟩ : ∃ (t : Fin 16896) (k : Fin 512), i = ix2 t k := ⟨i 0, i 1, eq_ix2 i⟩
  refine (Turn.v142_apply m' c t k).trans ?_
  rw [hz]
  rfl

theorem res7 : Cert.Reference5Ideal.Value.res_main_v143 (F := 𝕀) m' c = PrepValue.Out7 m c := by
  refine funext fun i => ?_
  obtain ⟨t, k, rfl⟩ : ∃ (t : Fin 16896) (k : Fin 512), i = ix2 t k := ⟨i 0, i 1, eq_ix2 i⟩
  refine (Turn.v143_apply m' c t k).trans ?_
  rw [hz]
  rfl

theorem res8 : Cert.Reference5Ideal.Value.res_main_v113 (F := 𝕀) m' c = PrepValue.Out8 m c := by
  refine funext fun i => ?_
  obtain ⟨t, k, rfl⟩ : ∃ (t : Fin 16896) (k : Fin 128), i = ix2 t k := ⟨i 0, i 1, eq_ix2 i⟩
  refine (Turn.v113_apply m' c t k).trans ?_
  rw [hz]
  rfl

theorem res10 : Cert.Reference5Ideal.Value.res_main_v141 (F := 𝕀) m' c = PrepValue.Out10 m c := by
  refine funext fun i => ?_
  obtain ⟨t, k, rfl⟩ : ∃ (t : Fin 16896) (k : Fin 64), i = ix2 t k := ⟨i 0, i 1, eq_ix2 i⟩
  refine (Turn.v141_apply m' c t k).trans ?_
  rw [hz]
  rfl

theorem res11 : Cert.Reference5Ideal.Value.res_main_v144 (F := 𝕀) m' c = PrepValue.Out11 m c := by
  refine funext fun i => ?_
  obtain ⟨t, k, rfl⟩ : ∃ (t : Fin 16896) (k : Fin 128), i = ix2 t k := ⟨i 0, i 1, eq_ix2 i⟩
  refine (Turn.v144_apply m' c t k).trans ?_
  rw [hz]
  rfl

theorem res13 : Cert.Reference5Ideal.Value.res_main_v146 (F := 𝕀) m' c = PrepValue.Out13 m c := by
  refine funext fun i => ?_
  obtain ⟨t, k, rfl⟩ : ∃ (t : Fin 16896) (k : Fin 64), i = ix2 t k := ⟨i 0, i 1, eq_ix2 i⟩
  refine (Turn.v146_apply m' c t k).trans ?_
  rw [hz]
  rfl

theorem res9 : extractStridedSlice Cert.Reference5Ideal.S16896x128 ![0, 8320] (Turn.Z m' c)
    Cert.Reference5Ideal.Gen.slices_S16896x8704_S16896x128_0_8320 = PrepValue.Out9 m c := by
  refine funext fun i => ?_
  obtain ⟨t, k, rfl⟩ : ∃ (t : Fin 16896) (k : Fin 128), i = ix2 t k := ⟨i 0, i 1, eq_ix2 i⟩
  rw [hz]
  unfold PrepValue.Out9
  pointwise []

theorem res12 : truncf .bf16 (extractStridedSlice Cert.Reference5Ideal.S16896x128 ![0, 8320] (Turn.Z m' c)
    Cert.Reference5Ideal.Gen.slices_S16896x8704_S16896x128_0_8320) Cert.Reference5Ideal.Gen.bitsLt_bf16_f32 = PrepValue.Out12 m c := by
  rw [res9 m m' c hz]
  rfl

end Results

/-- The value claim. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨PrepValue.Out6 m, PrepValue.Out7 m, PrepValue.Out8 m, PrepValue.Out9 m, PrepValue.Out10 m, PrepValue.Out11 m, PrepValue.Out12 m,
    PrepValue.Out13 m, (θ_run Cert.Kernel5Ideal.defs _ _).mono (fun r h c => ?_) (Cert.Kernel5Ideal.Value.run_blocks (F := 𝕀) m g),
    (θ_run Cert.Reference5Ideal.defs _ _).mono (fun r h c => ?_) (Cert.Reference5Ideal.Value.run (F := 𝕀) m' g')⟩
  · obtain ⟨h0, h1, h2, h3, h4, h5, h6, h7, ha⟩ := h c
    exact ⟨h0.trans (PrepValue.kernel6 m c), h1.trans (PrepValue.kernel7 m c), h2.trans (PrepValue.kernel8 m c),
      h3.trans (PrepValue.kernel9 m c), h4.trans (PrepValue.kernel10 m c), h5.trans (PrepValue.kernel11 m c),
      h6.trans (PrepValue.kernel12 m c), h7.trans (PrepValue.kernel13 m c), ha⟩
  · obtain ⟨h0, h1, h2, h3, h4, h5, h6, h7, ha⟩ := h c
    have hz : Turn.Z m' c = PrepValue.Z m c := hargs c
    exact ⟨h0.trans (res6 m m' c hz), h1.trans (res7 m m' c hz), h2.trans (res8 m m' c hz), h3.trans (res9 m m' c hz),
      h4.trans (res10 m m' c hz), h5.trans (res11 m m' c hz), h6.trans (res12 m m' c hz), h7.trans (res13 m m' c hz), ha⟩

end Cert.Proof.Prep

end
-- ==== Proof.Ffn1Body.lean ====
/-
  What the first feed-forward kernel's body stores in its two cases: at the first half of the hidden columns the normed tokens
  and the first partial product, at the second half the finished rows.
-/
module

public import proofs.«01_k».proof.Proof.Gen.Kernel6Ideal.Value
public import proofs.«01_k».proof.Proof.Rows

@[expose] public section

set_option maxRecDepth 16384

noncomputable section

namespace Cert.Proof.Ffn1Body

open Cert.Proof.Rows (read_whole)
open Cert.Kernel6Ideal Cert.Kernel6Ideal.Gen Idealize.ShloMosaic Idealize.ShloMosaic.TcCoe Idealize.SL.Sem

variable {F : FTy → Type} [FloatOps F]

variable (c : Dev nD) (i : grid0.Coords) (arg2 : Memref sig .tc .vmem S512x1024 .f32) (harg2 : arg2.IsWhole)
  (arg3 : Memref sig .tc .vmem S1x1024 .f32) (harg3 : arg3.IsWhole) (arg4 : Memref sig .tc .vmem S1024x1408 .bf16) (harg4 : arg4.IsWhole)
  (arg5 : Memref sig .tc .vmem S1024x1408 .bf16) (harg5 : arg5.IsWhole) (arg6 : Memref sig .tc .vmem S1408x1024 .bf16) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S512x1024 .f32) (harg10 : arg10.IsWhole)
  (x0 : Vec F S512x1024 .f32) (x1 : Vec F S1x1024 .f32) (x2 : Vec F S1024x1408 .bf16) (x3 : Vec F S1024x1408 .bf16)
  (x4 : Vec F S1408x1024 .bf16) (x5 : Vec F S1x1024 .f32) (xs0 : Vec F S512x1024 .bf16) (xs1 : Vec F S512x1024 .f32)

/-- The first half leaves the normed tokens in the first scratch. -/
theorem normed_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1
      x0 x1 x2 x3 x4 x5 = k0_pay1 x0 x1 := by
  unfold sout0_A_0 kernelRun0_A
  dsimp only
  sl_unfold_words
  refine (View.read_writes_full _ _ _ _ _).trans ?_
  rw [read_whole harg2, read_whole harg3]

/-- The first half leaves its partial product in the second scratch. -/
theorem part_A (hc0 : cond0_0 i) (hc1 : ¬cond0_1 i) :
    sout0_A_1 c i arg2 harg2 arg3 harg3 arg4 harg4 arg5 harg5 arg6 harg6 arg7 harg7 arg8 harg8 arg9 harg9 arg10 harg10 hc0 hc1
      x0 x1 x2 x3 x4 x5 = k0_pay3 (k0_pay1 x0 x1) x2 x3 k0_pay2 x4 := by
  unfold sout0_A_1 kernelRun0_A
  dsimp only
  sl_unfold_words
  refine (View.read_writes_full _ _ _ _ _).trans ?_
  rw [read_whole harg2, read_whole harg3, read_whole harg4, read_whole harg5, read_whole harg6, View.readCov_full, View.readCov_full]

/-- The second half's rows. -/
theorem out_B (hc0 : ¬cond0_0 i) (hc1 : cond0_1 i) :
    out0_B_6 c i arg2 harg2 arg3 harg3 arg4 harg4 arg5 harg5 arg6 harg6 arg7 harg7 arg8 harg8 arg9 harg9 arg10 harg10 hc0 hc1
      x0 x1 x2 x3 x4 x5 xs0 xs1 = k0_pay4 x0 (k0_pay3 xs0 x2 x3 xs1 x4) := by
  unfold out0_B_6 kernelRun0_B
  dsimp only
  sl_unfold_words
  refine (View.read_writes_full _ _ _ _ _).trans ?_
  rw [read_whole harg2, read_whole harg4, read_whole harg5, read_whole harg6, read_whole harg9, read_whole harg10,
    View.readCov_full]

end Cert.Proof.Ffn1Body

end
-- ==== Proof.Ffn1Value.lean ====
/-
  The first feed-forward kernel's result at an index: points `2 i` and `2 i + 1` of the grid sum the two halves of the hidden
  columns for the tokens of block `i`, and the result is the sum of the tokens and half of the whole product.
-/
module

public import proofs.«01_k».proof.Proof.Ffn1Body
public import Idealize.ShloMosaic.Lib.Pointwise
public import Idealize.ShloMosaic.Lib.StableHlo.RunRead

public section

set_option maxRecDepth 16384

namespace Cert.Proof.Ffn1Value

open Cert.Kernel6Ideal Cert.Kernel6Ideal.Gen Cert.Kernel6Ideal.Value Idealize.ShloMosaic Idealize.ShloMosaic.TcCoe Idealize.SL.Sem
open Idealize.ShloMosaic.Pointwise Cert.Proof.Rows

local notation "𝕀" => Idealize.ShloMosaic.Ideal

/-! ## The mathematics of a row -/

/-- The payloads of the kernel's stores at an index. -/
theorem pay1_apply (x : FVec 𝕀 S512x1024 .f32) (g : FVec 𝕀 S1x1024 .f32) (r : Fin 512) (k : Fin 1024) :
    k0_pay1 (F := 𝕀) x g (ix2 r k) = normed (fun j => x (ix2 r j)) (g (ix2 0 k)) k := by
  pointwise [k0_pay1]
  rfl

theorem pay2_apply (r : Fin 512) (k : Fin 1024) : k0_pay2 (F := 𝕀) (ix2 r k) = 0 := by
  pointwise [k0_pay2]

theorem pay3_apply (u : FVec 𝕀 S512x1024 .bf16) (w1 w3 : FVec 𝕀 S1024x1408 .bf16) (a : FVec 𝕀 S512x1024 .f32)
    (w2 : FVec 𝕀 S1408x1024 .bf16) (r : Fin 512) (k : Fin 1024) :
    k0_pay3 (F := 𝕀) u w1 w3 a w2 (ix2 r k) = a (ix2 r k)
      + ∑ n, hidden (fun j => u (ix2 r j)) (fun j => w1 (ix2 j n)) (fun j => w3 (ix2 j n)) * w2 (ix2 n k) := by
  pointwise [k0_pay3]
  rfl

theorem pay4_apply (x a : FVec 𝕀 S512x1024 .f32) (r : Fin 512) (k : Fin 1024) :
    k0_pay4 (F := 𝕀) x a (ix2 r k) = half (x (ix2 r k)) (a (ix2 r k)) := by
  pointwise [k0_pay4]
  rfl

/-! ## The call's result -/

section Result
variable (x : FVec 𝕀 S16896x1024 .f32) (g : FVec 𝕀 S1024 .f32) (w1 w3 : FVec 𝕀 S1024x2816 .f32) (w2 : FVec 𝕀 S2816x1024 .f32)

/-- A token's normed row. -/
@[expose] noncomputable def U (t : Fin 16896) (j : Fin 1024) : EReal := normed (fun j => x (ix2 t j)) (g (ix1 j)) j

/-- A token's feed-forward term at a hidden unit and a column. -/
@[expose] noncomputable def Term (t : Fin 16896) (k : Fin 1024) (n : Fin 2816) : EReal :=
  hidden (U x g t) (fun j => w1 (ix2 j n)) (fun j => w3 (ix2 j n)) * w2 (ix2 n k)

/-- The call's result at a token and a column. -/
@[expose] noncomputable def Res (t : Fin 16896) (k : Fin 1024) : EReal :=
  half (x (ix2 t k)) (∑ n, Term x g w1 w3 w2 t k n)

end Result

/-! ## The blocks -/

variable (m : (ℓ : Loc nD τ sig) → Buf (Elt 𝕀) ℓ) (c : Dev nD)

/-- The arguments' contents. -/
abbrev X : FVec 𝕀 S16896x1024 .f32 := m ((c : Thread nD τ).loc main_arg0)
abbrev G1 : FVec 𝕀 S1024 .f32 := m ((c : Thread nD τ).loc main_arg1)
abbrev W1 : FVec 𝕀 S1024x2816 .f32 := m ((c : Thread nD τ).loc main_arg2)
abbrev W3 : FVec 𝕀 S1024x2816 .f32 := m ((c : Thread nD τ).loc main_arg3)
abbrev W2 : FVec 𝕀 S2816x1024 .f32 := m ((c : Thread nD τ).loc main_arg4)

theorem V0 (k : Fin 1024) : (V m c main_v0 : FVec 𝕀 S1x1024 .f32) (ix2 0 k) = G1 m c (ix1 k) := by
  have e : V m c main_v0 = shapeCast S1x1024 (G1 m c) shapeCasts_S1024_S1x1024 := by
    simp only [V]
    after_reads_simp
    rfl
  rw [e]
  pointwise []
theorem V1 : V m c main_v1 = W1 m c := by
  simp only [V]
  after_reads_simp
  rfl
theorem V2 : V m c main_v2 = W3 m c := by
  simp only [V]
  after_reads_simp
  rfl
theorem V3 : V m c main_v3 = W2 m c := by
  simp only [V]
  after_reads_simp
  rfl

theorem idx0 : ∀ t : Fin cfg0.N, win0_0.index t 0 = t.val / 2 ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = t.val % 2 := (by decide +kernel : ∀ t : Fin grid0.N, _)
theorem idx3 : ∀ t : Fin cfg0.N, win0_3.index t 0 = 0 ∧ win0_3.index t 1 = t.val % 2 := (by decide +kernel : ∀ t : Fin grid0.N, _)
theorem idx4 : ∀ t : Fin cfg0.N, win0_4.index t 0 = t.val % 2 ∧ win0_4.index t 1 = 0 := (by decide +kernel : ∀ t : Fin grid0.N, _)

/-- A token's row in the block of points `2 i` and `2 i + 1`. -/
theorem blk_x (t : Fin cfg0.N) (r : Fin 512) (j : Fin 1024) (h : t.val / 2 * 512 + r.val < 16896) :
    (iblk m c 0 t : FVec 𝕀 S512x1024 .f32) (ix2 r j) = X m c (ix2 ⟨t.val / 2 * 512 + r.val, h⟩ j) := by
  unfold iblk
  refine Eq.trans (View.read_apply _ _) ?_
  refine (congrArg (V m c main_arg0) (funext fun a => Fin.ext ?_)).trans (congrFun (V_main_arg0 m c) _)
  match a with
  | ⟨0, _⟩ => show win0_0.index t 0 * 512 + 1 * r.val = t.val / 2 * 512 + r.val; rw [(idx0 t).1]; omega
  | ⟨1, _⟩ => show win0_0.index t 1 * 1024 + 1 * j.val = j.val; rw [(idx0 t).2]; omega

theorem blk_g (t : Fin cfg0.N) (j : Fin 1024) : (iblk m c 1 t : FVec 𝕀 S1x1024 .f32) (ix2 0 j) = G1 m c (ix1 j) := by
  unfold iblk
  refine Eq.trans (View.read_apply _ _) ?_
  refine (congrArg (V m c main_v0) (funext fun a => Fin.ext ?_)).trans (V0 m c j)
  match a with
  | ⟨0, _⟩ => show win0_1.index t 0 * 1 + 1 * 0 = 0; rw [(idx1 t).1]
  | ⟨1, _⟩ => show win0_1.index t 1 * 1024 + 1 * j.val = j.val; rw [(idx1 t).2]; omega

theorem blk_w1 (t : Fin cfg0.N) (j : Fin 1024) (n : Fin 1408) (h : t.val % 2 * 1408 + n.val < 2816) :
    (iblk m c 2 t : FVec 𝕀 S1024x1408 .bf16) (ix2 j n) = W1 m c (ix2 j ⟨t.val % 2 * 1408 + n.val, h⟩) := by
  unfold iblk
  refine Eq.trans (View.read_apply _ _) ?_
  refine (congrArg (V m c main_v1) (funext fun a => Fin.ext ?_)).trans (congrFun (V1 m c) _)
  match a with
  | ⟨0, _⟩ => show win0_2.index t 0 * 1024 + 1 * j.val = j.val; rw [(idx2 t).1]; omega
  | ⟨1, _⟩ => show win0_2.index t 1 * 1408 + 1 * n.val = t.val % 2 * 1408 + n.val; rw [(idx2 t).2]; omega

theorem blk_w3 (t : Fin cfg0.N) (j : Fin 1024) (n : Fin 1408) (h : t.val % 2 * 1408 + n.val < 2816) :
    (iblk m c 3 t : FVec 𝕀 S1024x1408 .bf16) (ix2 j n) = W3 m c (ix2 j ⟨t.val % 2 * 1408 + n.val, h⟩) := by
  unfold iblk
  refine Eq.trans (View.read_apply _ _) ?_
  refine (congrArg (V m c main_v2) (funext fun a => Fin.ext ?_)).trans (congrFun (V2 m c) _)
  match a with
  | ⟨0, _⟩ => show win0_3.index t 0 * 1024 + 1 * j.val = j.val; rw [(idx3 t).1]; omega
  | ⟨1, _⟩ => show win0_3.index t 1 * 1408 + 1 * n.val = t.val % 2 * 1408 + n.val; rw [(idx3 t).2]; omega

theorem blk_w2 (t : Fin cfg0.N) (n : Fin 1408) (k : Fin 1024) (h : t.val % 2 * 1408 + n.val < 2816) :
    (iblk m c 4 t : FVec 𝕀 S1408x1024 .bf16) (ix2 n k) = W2 m c (ix2 ⟨t.val % 2 * 1408 + n.val, h⟩ k) := by
  unfold iblk
  refine Eq.trans (View.read_apply _ _) ?_
  refine (congrArg (V m c main_v3) (funext fun a => Fin.ext ?_)).trans (congrFun (V3 m c) _)
  match a with
  | ⟨0, _⟩ => show win0_4.index t 0 * 1408 + 1 * n.val = t.val % 2 * 1408 + n.val; rw [(idx4 t).1]; omega
  | ⟨1, _⟩ => show win0_4.index t 1 * 1024 + 1 * k.val = k.val; rw [(idx4 t).2]; omega

/-! ## The two halves -/

/-- A block's partial product over normed tokens is the sum of its half of the hidden columns. -/
theorem part (t : Fin cfg0.N) (r : Fin 512) (k : Fin 1024) (u : FVec 𝕀 S512x1024 .bf16) (a : FVec 𝕀 S512x1024 .f32)
    (h : t.val / 2 * 512 + r.val < 16896)
    (hu : ∀ j, u (ix2 r j) = U (X m c) (G1 m c) ⟨t.val / 2 * 512 + r.val, h⟩ j) :
    k0_pay3 (F := 𝕀) u (iblk m c 2 t) (iblk m c 3 t) a (iblk m c 4 t) (ix2 r k) = a (ix2 r k)
      + ∑ n : Fin 1408, Term (X m c) (G1 m c) (W1 m c) (W3 m c) (W2 m c) ⟨t.val / 2 * 512 + r.val, h⟩ k
          ⟨t.val % 2 * 1408 + n.val, by omega⟩ := by
  rw [pay3_apply]
  congr 1
  refine Finset.sum_congr rfl fun n _ => ?_
  unfold Term
  rw [blk_w2 m c t n k (by omega), show (fun j => u (ix2 r j)) = U (X m c) (G1 m c) ⟨t.val / 2 * 512 + r.val, h⟩ from funext hu]
  congr 2
  · exact funext fun j => blk_w1 m c t j n (by omega)
  · exact funext fun j => blk_w3 m c t j n (by omega)

/-- After a block's first half: the normed tokens and the first partial product. -/
theorem first (n : ℕ) (hn : n < cfg0.N) (he : n % 2 = 0) (r : Fin 512) (h : n / 2 * 512 + r.val < 16896) :
    (∀ j, (outsAt0 m c n hn).2.1 (ix2 r j) = U (X m c) (G1 m c) ⟨n / 2 * 512 + r.val, h⟩ j)
    ∧ ∀ k, (outsAt0 m c n hn).2.2 (ix2 r k) = 0 + ∑ i : Fin 1408,
      Term (X m c) (G1 m c) (W1 m c) (W3 m c) (W2 m c) ⟨n / 2 * 512 + r.val, h⟩ k ⟨i.val, by omega⟩ := by
  have hu : ∀ j, k0_pay1 (F := 𝕀) (iblk m c 0 ⟨n, hn⟩) (iblk m c 1 ⟨n, hn⟩) (ix2 r j)
      = U (X m c) (G1 m c) ⟨n / 2 * 512 + r.val, h⟩ j := by
    intro j
    rw [pay1_apply, blk_g]
    unfold U
    congr 1
    exact funext fun j => blk_x m c ⟨n, hn⟩ r j h
  have e := outsAt0_A m c ⟨n, hn⟩ he (by show ¬ n % 2 = 1; omega)
  constructor
  · intro j
    refine (congrFun (congrArg (fun o => o.2.1) e) _).trans ?_
    dsimp only
    rw [Ffn1Body.normed_A]
    exact hu j
  · intro k
    refine (congrFun (congrArg (fun o => o.2.2) e) _).trans ?_
    dsimp only
    rw [Ffn1Body.part_A, part m c ⟨n, hn⟩ r k _ _ h hu, pay2_apply]
    congr 1
    refine Finset.sum_congr rfl fun i _ => congrArg _ (Fin.ext ?_)
    show n % 2 * 1408 + i.val = i.val
    omega

/-- After its second half: the result's rows. -/
theorem second (n : ℕ) (hn : n < cfg0.N) (ho : n % 2 = 1) (r : Fin 512) (k : Fin 1024) (h : n / 2 * 512 + r.val < 16896) :
    (outsAt0 m c n hn).1 (ix2 r k)
      = Res (X m c) (G1 m c) (W1 m c) (W3 m c) (W2 m c) ⟨n / 2 * 512 + r.val, h⟩ k := by
  have e := outsAt0_B m c ⟨n, hn⟩ (by show ¬ n % 2 = 0; omega) ho
  have hq : (n - 1) / 2 * 512 + r.val = n / 2 * 512 + r.val := by omega
  obtain ⟨f1, f2⟩ := first m c (n - 1) (by omega) (by omega) r (by omega)
  simp only [hq] at f1 f2
  refine (congrFun (congrArg (fun o => o.1) e) _).trans ?_
  dsimp only
  rw [Ffn1Body.out_B, pay4_apply]
  unfold Res
  rw [blk_x m c ⟨n, hn⟩ r k h, part m c ⟨n, hn⟩ r k _ _ h f1, f2, ← sum_halves]
  congr 2
  refine Finset.sum_congr rfl fun i _ => congrArg _ (Fin.ext ?_)
  show n % 2 * 1408 + i.val = 1408 + i.val
  omega

/-- The result at an index. -/
theorem out_kernel (r : Fin 16896) (k : Fin 1024) :
    G6 m c (ix2 r k) = Res (X m c) (G1 m c) (W1 m c) (W3 m c) (W2 m c) r k := by
  have hp : pt6Of (ix2 r k) = 2 * (r.val / 512) + 1 := by
    show 2 * (1 * (r.val / 512 - 0) + 1 * (k.val / 1024 - 0)) + 1 = _
    omega
  have hN : 2 * (r.val / 512) + 1 < cfg0.N := lt_of_lt_of_eq (by omega) (show 66 = cfg0.N from N_0.symm)
  have H := second m c (2 * (r.val / 512) + 1) hN (by omega) ⟨r.val % 512, by omega⟩ k (by dsimp only; omega)
  unfold G6
  rw [dif_pos (by rw [hp]; exact hN), fold0_congr m c _ _ _ (by rw [Nat.zero_add]; exact hN) hp, ← outsAt0_sweep]
  have el : loc6Of (ix2 r k) = ix2 ⟨r.val % 512, by omega⟩ k := funext fun a => Fin.ext (by
    match a with
    | ⟨0, _⟩ => rfl
    | ⟨1, _⟩ => show k.val % 1024 = k.val; omega)
  rw [el, H]
  · congr 1
    exact Fin.ext (by show (2 * (r.val / 512) + 1) / 2 * 512 + r.val % 512 = r.val; omega)
  · exact hN

end Cert.Proof.Ffn1Value
-- ==== Proof.Ffn1.lean ====
/-
  The first feed-forward call's value claim: the kernel's result and the reference's are the same expression at every index.
-/
module

public import proofs.«01_k».proof.Defs
public import proofs.«01_k».proof.Proof.Ffn1Value
public import proofs.«01_k».proof.Proof.Gen.Reference6Ideal
public import proofs.«01_k».proof.Proof.Gen.Reference6Ideal.Run

public section

set_option maxRecDepth 16384

namespace Cert.Proof.Ffn1

open Idealize.ShloMosaic Idealize.ShloMosaic.TcCoe Idealize.SL.Sem Idealize.ShloMosaic.Pointwise

local notation "𝕀" => Idealize.ShloMosaic.Ideal

/-- The value claim. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Value.G6 m c, Cert.Kernel6Ideal.Value.run m g, ?_⟩
  refine (θ_run Cert.Reference6Ideal.defs _ _).mono (fun r h c => ⟨(h c).1.trans ?_, (h c).2⟩)
    (Cert.Reference6Ideal.Value.run (F := 𝕀) m' g')
  obtain ⟨a0, a1, a2, a3, a4, a5⟩ := hargs c
  refine funext fun i => ?_
  obtain ⟨r, k, rfl⟩ : ∃ r k, i = ix2 r k := ⟨i 0, i 1, eq_ix2 i⟩
  rw [a0, a1, a2, a3, a4]
  refine Eq.trans ?_ (Ffn1Value.out_kernel m c r k).symm
  pointwise []
  rfl

end Cert.Proof.Ffn1
-- ==== Proof.GlaPieces.lean ====
/-
  What the second mixer's body stores, in its three cases, as functions of the four column slices: the log decays from the
  gate's low-rank input once for all heads, then each head as the first mixer's with its own queries, keys and values.
-/
module

public import proofs.«01_k».proof.Proof.Gen.Kernel7Ideal.Value
public import proofs.«01_k».proof.Proof.Pieces

@[expose] public section

set_option maxRecDepth 16384

noncomputable section

namespace Cert.Proof.GlaPieces

open Cert.Kernel7Ideal Cert.Kernel7Ideal.Gen Idealize.ShloMosaic Idealize.ShloMosaic.TcCoe Idealize.SL.Sem
open Cert.Proof.Head (running unpackState packState stateOut)
open Cert.Proof.Pieces (colRect slotRect winRect slotList winList slot0 slot1 slot2 slot3 in0 in1 in2 in3 readCov_miss readCov_slots)

variable {F : FTy → Type} [FloatOps F]

/-- The scores of the gate's low-rank input against its weights, both split in two, and the bias. -/
def scores (x : FVec F S128x128 .f32) (w : FVec F S128x512 .f32) (b : FVec F S1x512 .f32) : FVec F S128x512 .f32 :=
  addf
    (addf
      (addf
        (matmul dot_S128x128_S128x512_S128x512_1_0_0_1_n_n none (truncf .bf16 x bitsLt_bf16_f32)
          (truncf .bf16 w bitsLt_bf16_f32) (constant S128x512 .f32 0x00000000#32))
        (matmul dot_S128x128_S128x512_S128x512_1_0_0_1_n_n none (truncf .bf16 x bitsLt_bf16_f32)
          (truncf .bf16 (subf w (extf .f32 (truncf .bf16 w bitsLt_bf16_f32) bitsLt_bf16_f32)) bitsLt_bf16_f32)
          (constant S128x512 .f32 0x00000000#32)))
      (matmul dot_S128x128_S128x512_S128x512_1_0_0_1_n_n none
        (truncf .bf16 (subf x (extf .f32 (truncf .bf16 x bitsLt_bf16_f32) bitsLt_bf16_f32)) bitsLt_bf16_f32)
        (truncf .bf16 w bitsLt_bf16_f32) (constant S128x512 .f32 0x00000000#32)))
    (broadcastTo S128x512 b broadcasts_S1x512_S128x512)

/-- The log decays of scores. -/
def temper (y : FVec F S128x512 .f32) : FVec F S128x512 .f32 :=
  divf
    (subf (minimumf y (broadcast S128x512 (Scalar.ofBits .f32 0x00000000#32)))
      (log1p (exp (subf (broadcast S128x512 (Scalar.ofBits .f32 0x00000000#32)) (absf y)))))
    (broadcast S128x512 (Scalar.ofBits .f32 0x41800000#32))

/-- The queries, scaled. -/
def scaled (q : FVec F S128x128 .f32) : FVec F S128x128 .f32 :=
  mulf q (broadcast S128x128 (Scalar.ofBits .f32 0x3E000000#32))

variable (x0 x1 x2 x3 : Vec F S128x512 .f32) (x4 : Vec F S128x128 .f32) (x5 : Vec F S128x512 .f32) (x6 : Vec F S1x512 .f32)
  (x7 : Vec F S1x128 .f32) (x8 : Vec F S1x4x128x128 .f32) (xs : Vec F S4x128x128 .f32) (L : FVec F S128x512 .f32)

/-- The log decays of a chunk's blocks. -/
def decays : FVec F S128x512 .f32 :=
  temper (scores (View.ld x4 (Rect.unit ![0, 0] S128x128.size inb_S128x128_S128x128_0_0))
    (View.ld x5 (Rect.unit ![0, 0] S128x512.size inb_S128x512_S128x512_0_0))
    (View.ld x6 (Rect.unit ![0, 0] S1x512.size inb_S1x512_S1x512_0_0)))

/-- A head's output from its columns. -/
def outAt (o : ℕ) (inb : ∀ a, (![0, o] : Fin 2 → ℕ) a + S128x128.size a ≤ S128x512.size a)
    (sl : S128x512.Slices ![0, o] S128x128) (st : FVec F S1x128x128 .f32) : FVec F S128x128 .f32 :=
  Head.finish (Head.out (running (extractStridedSlice S128x128 ![0, o] L sl)) (scaled (View.ld x0 (colRect o inb)))
      (View.ld x1 (colRect o inb)) (View.ld x2 (colRect o inb)) (unpackState st))
    (View.ld x7 (Rect.unit ![0, 0] S1x128.size inb_S1x128_S1x128_0_0)) (View.ld x3 (colRect o inb))

/-- A head's next state from its columns. -/
def nextAt (o : ℕ) (inb : ∀ a, (![0, o] : Fin 2 → ℕ) a + S128x128.size a ≤ S128x512.size a)
    (sl : S128x512.Slices ![0, o] S128x128) (st : FVec F S1x128x128 .f32) : FVec F S1x128x128 .f32 :=
  packState (Head.next (running (extractStridedSlice S128x128 ![0, o] L sl)) (View.ld x1 (colRect o inb))
    (View.ld x2 (colRect o inb)) (unpackState st))

/-- The stores into the output block, last first. -/
def outList (s0 s1 s2 s3 : FVec F S1x128x128 .f32) : List (View.Piece (Elt F) S128x512 .f32) :=
  [⟨colRect 384 inb_S128x512_S128x128_0_384, outAt x0 x1 x2 x3 x7 L 384 inb_S128x512_S128x128_0_384 slices_S128x512_o0_384_S128x128 s3⟩,
   ⟨colRect 256 inb_S128x512_S128x128_0_256, outAt x0 x1 x2 x3 x7 L 256 inb_S128x512_S128x128_0_256 slices_S128x512_o0_256_S128x128 s2⟩,
   ⟨colRect 128 inb_S128x512_S128x128_0_128, outAt x0 x1 x2 x3 x7 L 128 inb_S128x512_S128x128_0_128 slices_S128x512_o0_128_S128x128 s1⟩,
   ⟨colRect 0 inb_S128x512_S128x128_0_0, outAt x0 x1 x2 x3 x7 L 0 inb_S128x512_S128x128_0_0 slices_S128x512_o0_0_S128x128 s0⟩]

/-- The heads' stores into the scratch, over others. -/
def stateList (s0 s1 s2 s3 : FVec F S1x128x128 .f32) (Ls : List (View.Piece (Elt F) S4x128x128 .f32)) :
    List (View.Piece (Elt F) S4x128x128 .f32) :=
  slotList
    (nextAt x1 x2 L 0 inb_S128x512_S128x128_0_0 slices_S128x512_o0_0_S128x128 s0)
    (nextAt x1 x2 L 128 inb_S128x512_S128x128_0_128 slices_S128x512_o0_128_S128x128 s1)
    (nextAt x1 x2 L 256 inb_S128x512_S128x128_0_256 slices_S128x512_o0_256_S128x128 s2)
    (nextAt x1 x2 L 384 inb_S128x512_S128x128_0_384 slices_S128x512_o0_384_S128x128 s3) Ls

section Runs

variable (c : Dev nD) (i : grid0.Coords) (arg2 : Memref sig .tc .vmem S128x512 .f32) (harg2 : arg2.IsWhole)
  (arg3 : Memref sig .tc .vmem S128x512 .f32) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S128x128 .f32) (harg6 : arg6.IsWhole)
  (arg7 : Memref sig .tc .vmem S128x512 .f32) (harg7 : arg7.IsWhole)
  (arg8 : Memref sig .tc .vmem S1x512 .f32) (harg8 : arg8.IsWhole)
  (arg9 : Memref sig .tc .vmem S1x128 .f32) (harg9 : arg9.IsWhole)
  (arg10 : Memref sig .tc .vmem S1x4x128x128 .f32) (harg10 : arg10.IsWhole)
  (arg11 : Memref sig .tc .vmem S128x512 .f32) (harg11 : arg11.IsWhole)
  (arg12 : Memref sig .tc .vmem S1x4x128x128 .f32) (harg12 : arg12.IsWhole)
  (arg13 : Memref sig .tc .vmem S4x128x128 .f32) (harg13 : arg13.IsWhole)

/-- A middle chunk's stores. -/
theorem run_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1
        = outList x0 x1 x2 x3 x7 (decays x4 x5 x6) (slot0 xs) (slot1 xs) (slot2 xs) (slot3 xs)
    ∧ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.2.1
        = stateList x1 x2 (decays x4 x5 x6) (slot0 xs) (slot1 xs) (slot2 xs) (slot3 xs) [] := by
  unfold kernelRun0_B
  dsimp only
  sl_unfold_words
  simp only [View.readAt_eq_ld, harg2.read_unread, harg3.read_unread, harg4.read_unread, harg5.read_unread,
    harg6.read_unread, harg7.read_unread, harg8.read_unread, harg9.read_unread, harg13.read_unread]
  exact ⟨rfl, rfl⟩

/-- The last chunk's stores. -/
theorem run_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).1
        = outList x0 x1 x2 x3 x7 (decays x4 x5 x6) (slot0 xs) (slot1 xs) (slot2 xs) (slot3 xs)
    ∧ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.2.1
        = stateList x1 x2 (decays x4 x5 x6) (slot0 xs) (slot1 xs) (slot2 xs) (slot3 xs) []
    ∧ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs).2.1
        = winList
            (nextAt x1 x2 (decays x4 x5 x6) 0 inb_S128x512_S128x128_0_0 slices_S128x512_o0_0_S128x128 (slot0 xs))
            (nextAt x1 x2 (decays x4 x5 x6) 128 inb_S128x512_S128x128_0_128 slices_S128x512_o0_128_S128x128 (slot1 xs))
            (nextAt x1 x2 (decays x4 x5 x6) 256 inb_S128x512_S128x128_0_256 slices_S128x512_o0_256_S128x128 (slot2 xs))
            (nextAt x1 x2 (decays x4 x5 x6) 384 inb_S128x512_S128x128_0_384 slices_S128x512_o0_384_S128x128 (slot3 xs)) := by
  unfold kernelRun0_C
  dsimp only
  sl_unfold_words
  simp only [View.readAt_eq_ld, harg2.read_unread, harg3.read_unread, harg4.read_unread, harg5.read_unread,
    harg6.read_unread, harg7.read_unread, harg8.read_unread, harg9.read_unread, harg13.read_unread]
  refine ⟨rfl, rfl, ?_⟩
  obtain ⟨e0, e1, e2, e3⟩ := readCov_slots (F := F) arg13.view
    (nextAt x1 x2 (decays x4 x5 x6) 0 inb_S128x512_S128x128_0_0 slices_S128x512_o0_0_S128x128 (slot0 xs))
    (nextAt x1 x2 (decays x4 x5 x6) 128 inb_S128x512_S128x128_0_128 slices_S128x512_o0_128_S128x128 (slot1 xs))
    (nextAt x1 x2 (decays x4 x5 x6) 256 inb_S128x512_S128x128_0_256 slices_S128x512_o0_256_S128x128 (slot2 xs))
    (nextAt x1 x2 (decays x4 x5 x6) 384 inb_S128x512_S128x128_0_384 slices_S128x512_o0_384_S128x128 (slot3 xs)) []
  refine Eq.trans ?_ (congr (congr (congr (congrArg winList e0) e1) e2) e3)
  rfl

/-- The first chunk's stores. -/
theorem run_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1
        = outList x0 x1 x2 x3 x7 (decays x4 x5 x6) (in0 x8) (in1 x8) (in2 x8) (in3 x8)
    ∧ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1
        = stateList x1 x2 (decays x4 x5 x6) (in0 x8) (in1 x8) (in2 x8) (in3 x8) (slotList (in0 x8) (in1 x8) (in2 x8) (in3 x8) []) := by
  unfold kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread]
  obtain ⟨e0, e1, e2, e3⟩ := readCov_slots (F := F) arg13.view (in0 x8) (in1 x8) (in2 x8) (in3 x8) []
  have f1 := fun t0 => (readCov_miss (F := F) arg13.view 0 1 (by decide) inb_S4x128x128_S1x128x128_0_0_0
    inb_S4x128x128_S1x128x128_1_0_0 t0 (slotList (in0 x8) (in1 x8) (in2 x8) (in3 x8) [])).trans e1
  have f2 := fun t0 t1 => (readCov_miss (F := F) arg13.view 1 2 (by decide) inb_S4x128x128_S1x128x128_1_0_0
    inb_S4x128x128_S1x128x128_2_0_0 t1 (⟨slotRect 0 inb_S4x128x128_S1x128x128_0_0_0, t0⟩ ::
      slotList (in0 x8) (in1 x8) (in2 x8) (in3 x8) [])).trans ((readCov_miss (F := F) arg13.view 0 2 (by decide)
      inb_S4x128x128_S1x128x128_0_0_0 inb_S4x128x128_S1x128x128_2_0_0 t0
      (slotList (in0 x8) (in1 x8) (in2 x8) (in3 x8) [])).trans e2)
  have f3 := fun t0 t1 t2 => (readCov_miss (F := F) arg13.view 2 3 (by decide) inb_S4x128x128_S1x128x128_2_0_0
    inb_S4x128x128_S1x128x128_3_0_0 t2 (⟨slotRect 1 inb_S4x128x128_S1x128x128_1_0_0, t1⟩ ::
      ⟨slotRect 0 inb_S4x128x128_S1x128x128_0_0_0, t0⟩ :: slotList (in0 x8) (in1 x8) (in2 x8) (in3 x8) [])).trans
    ((readCov_miss (F := F) arg13.view 1 3 (by decide) inb_S4x128x128_S1x128x128_1_0_0 inb_S4x128x128_S1x128x128_3_0_0 t1
      (⟨slotRect 0 inb_S4x128x128_S1x128x128_0_0_0, t0⟩ :: slotList (in0 x8) (in1 x8) (in2 x8) (in3 x8) [])).trans
    ((readCov_miss (F := F) arg13.view 0 3 (by decide) inb_S4x128x128_S1x128x128_0_0_0 inb_S4x128x128_S1x128x128_3_0_0 t0
      (slotList (in0 x8) (in1 x8) (in2 x8) (in3 x8) [])).trans e3))
  set t0 := nextAt x1 x2 (decays x4 x5 x6) 0 inb_S128x512_S128x128_0_0 slices_S128x512_o0_0_S128x128
    (arg13.view.readCov (Val := Elt F) (slotList (in0 x8) (in1 x8) (in2 x8) (in3 x8) [])
      (slotRect 0 inb_S4x128x128_S1x128x128_0_0_0).toLoadRect) with ht0
  set t1 := nextAt x1 x2 (decays x4 x5 x6) 128 inb_S128x512_S128x128_0_128 slices_S128x512_o0_128_S128x128
    (arg13.view.readCov (Val := Elt F) (⟨slotRect 0 inb_S4x128x128_S1x128x128_0_0_0, t0⟩ ::
      slotList (in0 x8) (in1 x8) (in2 x8) (in3 x8) []) (slotRect 1 inb_S4x128x128_S1x128x128_1_0_0).toLoadRect) with ht1
  set t2 := nextAt x1 x2 (decays x4 x5 x6) 256 inb_S128x512_S128x128_0_256 slices_S128x512_o0_256_S128x128
    (arg13.view.readCov (Val := Elt F) (⟨slotRect 1 inb_S4x128x128_S1x128x128_1_0_0, t1⟩ ::
      ⟨slotRect 0 inb_S4x128x128_S1x128x128_0_0_0, t0⟩ ::
      slotList (in0 x8) (in1 x8) (in2 x8) (in3 x8) []) (slotRect 2 inb_S4x128x128_S1x128x128_2_0_0).toLoadRect) with ht2
  constructor
  · refine Eq.trans ?_ (congr (congr (congr (congrArg (outList x0 x1 x2 x3 x7 (decays x4 x5 x6)) e0) (f1 t0)) (f2 t0 t1)) (f3 t0 t1 t2))
    rfl
  · refine Eq.trans ?_ (congrFun (congr (congr (congr (congrArg (stateList x1 x2 (decays x4 x5 x6)) e0) (f1 t0)) (f2 t0 t1)) (f3 t0 t1 t2)) _)
    rfl

/-- A first chunk's output block. -/
theorem out_A (hc0 : cond0_0 i) (hc1 : ¬cond0_1 i) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8
      = View.canon (outList x0 x1 x2 x3 x7 (decays x4 x5 x6) (in0 x8) (in1 x8) (in2 x8) (in3 x8)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8),
    (run_A x0 x1 x2 x3 x4 x5 x6 x7 x8 c i arg2 harg2 arg3 harg3 arg4 harg4 arg5 harg5 arg6 harg6 arg7 harg7 arg8 harg8 arg9 harg9 arg10 harg10 arg11 harg11 arg12 harg12 arg13 harg13 hc0 hc1).1]

/-- A first chunk's scratch. -/
theorem scratch_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8
      = View.canon (stateList x1 x2 (decays x4 x5 x6) (in0 x8) (in1 x8) (in2 x8) (in3 x8) (slotList (in0 x8) (in1 x8) (in2 x8) (in3 x8) [])) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8),
    (run_A x0 x1 x2 x3 x4 x5 x6 x7 x8 c i arg2 harg2 arg3 harg3 arg4 harg4 arg5 harg5 arg6 harg6 arg7 harg7 arg8 harg8 arg9 harg9 arg10 harg10 arg11 harg11 arg12 harg12 arg13 harg13 hc0 hc1).2]

/-- A middle chunk's output block. -/
theorem out_B (hc0 : ¬cond0_0 i) (hc1 : ¬cond0_1 i) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs
      = View.canon (outList x0 x1 x2 x3 x7 (decays x4 x5 x6) (slot0 xs) (slot1 xs) (slot2 xs) (slot3 xs)) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs),
    (run_B x0 x1 x2 x3 x4 x5 x6 x7 x8 xs c i arg2 harg2 arg3 harg3 arg4 harg4 arg5 harg5 arg6 harg6 arg7 harg7 arg8 harg8 arg9 harg9 arg10 harg10 arg11 harg11 arg12 harg12 arg13 harg13 hc0 hc1).1]

/-- A middle chunk's scratch. -/
theorem scratch_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs
      = View.canon (stateList x1 x2 (decays x4 x5 x6) (slot0 xs) (slot1 xs) (slot2 xs) (slot3 xs) []) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs),
    (run_B x0 x1 x2 x3 x4 x5 x6 x7 x8 xs c i arg2 harg2 arg3 harg3 arg4 harg4 arg5 harg5 arg6 harg6 arg7 harg7 arg8 harg8 arg9 harg9 arg10 harg10 arg11 harg11 arg12 harg12 arg13 harg13 hc0 hc1).2]

/-- A last chunk's output block. -/
theorem out_C (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs
      = View.canon (outList x0 x1 x2 x3 x7 (decays x4 x5 x6) (slot0 xs) (slot1 xs) (slot2 xs) (slot3 xs)) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs),
    (run_C x0 x1 x2 x3 x4 x5 x6 x7 x8 xs c i arg2 harg2 arg3 harg3 arg4 harg4 arg5 harg5 arg6 harg6 arg7 harg7 arg8 harg8 arg9 harg9 arg10 harg10 arg11 harg11 arg12 harg12 arg13 harg13 hc0 hc1).1]

/-- A last chunk's scratch. -/
theorem scratch_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs
      = View.canon (stateList x1 x2 (decays x4 x5 x6) (slot0 xs) (slot1 xs) (slot2 xs) (slot3 xs) []) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs),
    (run_C x0 x1 x2 x3 x4 x5 x6 x7 x8 xs c i arg2 harg2 arg3 harg3 arg4 harg4 arg5 harg5 arg6 harg6 arg7 harg7 arg8 harg8 arg9 harg9 arg10 harg10 arg11 harg11 arg12 harg12 arg13 harg13 hc0 hc1).2.1]

/-- The last chunk's state block. -/
theorem last_C (hc0 : ¬cond0_0 i) (hc1 : cond0_1 i) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs
      = View.canon (winList
          (nextAt x1 x2 (decays x4 x5 x6) 0 inb_S128x512_S128x128_0_0 slices_S128x512_o0_0_S128x128 (slot0 xs))
          (nextAt x1 x2 (decays x4 x5 x6) 128 inb_S128x512_S128x128_0_128 slices_S128x512_o0_128_S128x128 (slot1 xs))
          (nextAt x1 x2 (decays x4 x5 x6) 256 inb_S128x512_S128x128_0_256 slices_S128x512_o0_256_S128x128 (slot2 xs))
          (nextAt x1 x2 (decays x4 x5 x6) 384 inb_S128x512_S128x128_0_384 slices_S128x512_o0_384_S128x128 (slot3 xs))) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs),
    (run_C x0 x1 x2 x3 x4 x5 x6 x7 x8 xs c i arg2 harg2 arg3 harg3 arg4 harg4 arg5 harg5 arg6 harg6 arg7 harg7 arg8 harg8 arg9 harg9 arg10 harg10 arg11 harg11 arg12 harg12 arg13 harg13 hc0 hc1).2.2]

end Runs

end Cert.Proof.GlaPieces
-- ==== Proof.GlaGates.lean ====
/-
  The second mixer's gates as scalar functions over the extended reals: the log decay as a scaled softplus, in the two
  spellings that meet, and the real decays, keys, queries and values of a head where the inputs are real.
-/
module

public import proofs.«01_k».proof.Proof.Gates

@[expose] public section

namespace Cert.Proof.GlaGates

open Idealize.ShloMosaic Idealize.ShloMosaic.Pointwise Cert.Proof.Recur Cert.Proof.Gates

local notation "𝕀" => Idealize.ShloMosaic.Ideal

/-- The log decay of a gate input: minus the softplus of its negation, over the temperature. -/
noncomputable def decay1 (r : EReal) : EReal :=
  Ideal.div (-(max (-r) 0 + Ideal.log1p (Ideal.exp (-max r (-r))))) (Ideal.ofBits .f32 0x41800000#32)

/-- The query, scaled. -/
noncomputable def scaled1 (x : EReal) : EReal := x * Ideal.ofBits .f32 0x3E000000#32

/-- The temperature is a positive real. -/
theorem temp_real : ∃ c : ℝ, 0 < c ∧ Ideal.ofBits .f32 0x41800000#32 = (c : EReal) := by
  refine ⟨_, ?_, by simp [Ideal.ofBits, Ideal.ieee]; rfl⟩
  positivity

/-- The queries' scale is a real. -/
theorem scale_real : ∃ c : ℝ, Ideal.ofBits .f32 0x3E000000#32 = (c : EReal) := by
  refine ⟨_, by simp [Ideal.ofBits, Ideal.ieee]; rfl⟩

/-- The larger of two reals, in the extended reals. -/
theorem coe_max (a b : ℝ) : max (a : EReal) (b : EReal) = ((max a b : ℝ) : EReal) :=
  (Monotone.map_max (f := ((↑) : ℝ → EReal)) EReal.coe_strictMono.monotone).symm

/-- The smaller of two reals, in the extended reals. -/
theorem coe_min (a b : ℝ) : min (a : EReal) (b : EReal) = ((min a b : ℝ) : EReal) :=
  (Monotone.map_min (f := ((↑) : ℝ → EReal)) EReal.coe_strictMono.monotone).symm

/-- The softplus's second summand is real. -/
theorem log1p_exp_coe (r : ℝ) :
    Ideal.log1p (Ideal.exp (-max (r : EReal) (-(r : EReal)))) = ((Real.log (1 + Real.exp (-max r (-r))) : ℝ) : EReal) := by
  rw [← EReal.coe_neg, coe_max, ← EReal.coe_neg, Ideal.exp_coe]
  unfold Ideal.log1p
  rw [show (1 : EReal) = ((1 : ℝ) : EReal) from rfl, ← EReal.coe_add, Ideal.log_coe, if_neg (not_le.2 (by positivity))]

/-- At either infinity the softplus's second summand vanishes. -/
theorem log1p_exp_bot : Ideal.log1p (Ideal.exp ⊥) = 0 := by
  rw [show Ideal.exp ⊥ = ((0 : ℝ) : EReal) from rfl]
  unfold Ideal.log1p
  rw [show (1 : EReal) = ((1 : ℝ) : EReal) from rfl, ← EReal.coe_add, Ideal.log_coe, if_neg (not_le.2 (by norm_num))]
  simp

/-- The log decay of a gate input above minus infinity is real. -/
theorem decay1_real {x : EReal} (hx : x ≠ ⊥) : decay1 x = ((decay1 x).toReal : EReal) := by
  refine eq_toReal ?_
  obtain ⟨c, hc, e⟩ := temp_real
  unfold decay1
  rw [e, Ideal.div_coe hc.ne']
  induction x using EReal.rec with
  | bot => exact absurd rfl hx
  | coe r =>
    rw [log1p_exp_coe, ← EReal.coe_neg, show (0 : EReal) = ((0 : ℝ) : EReal) from rfl, coe_max, ← EReal.coe_add, ← EReal.coe_neg]
    exact ⟨-(max (-r) 0 + Real.log (1 + Real.exp (-max r (-r)))) * (1 / c), by rw [← EReal.coe_mul]⟩
  | top =>
    rw [EReal.neg_top, max_eq_left (bot_le : (⊥ : EReal) ≤ ⊤), max_eq_right (bot_le : (⊥ : EReal) ≤ 0), EReal.neg_top, log1p_exp_bot]
    exact ⟨0, by simp⟩

/-- The log decay of minus infinity is minus infinity. -/
theorem decay1_bot : decay1 ⊥ = ⊥ := by
  obtain ⟨c, hc, e⟩ := temp_real
  unfold decay1
  rw [e, Ideal.div_coe hc.ne', EReal.neg_bot, max_eq_right (bot_le : (⊥ : EReal) ≤ ⊤), max_eq_left (le_top : (0 : EReal) ≤ ⊤),
    EReal.neg_top, log1p_exp_bot, add_zero, EReal.neg_top]
  exact EReal.bot_mul_coe_of_pos (by positivity)

/-- The same log decay, by the smaller of the gate input and zero. -/
theorem decay1_min (x : EReal) :
    Ideal.div (min x 0 - Ideal.log1p (Ideal.exp (0 - max x (-x)))) (Ideal.ofBits .f32 0x41800000#32) = decay1 x := by
  unfold decay1
  rw [zero_sub]
  congr 1
  induction x using EReal.rec with
  | bot =>
    rw [EReal.neg_bot, max_eq_right (bot_le : (⊥ : EReal) ≤ ⊤), max_eq_left (le_top : (0 : EReal) ≤ ⊤), EReal.neg_top, log1p_exp_bot,
      min_eq_left (bot_le : (⊥ : EReal) ≤ 0), sub_zero, add_zero, EReal.neg_top]
  | coe r =>
    rw [log1p_exp_coe, ← EReal.coe_neg, show (0 : EReal) = ((0 : ℝ) : EReal) from rfl, coe_max, coe_min, ← EReal.coe_add,
      ← EReal.coe_neg, ← EReal.coe_sub]
    congr 1
    rcases le_total r 0 with h | h
    · rw [min_eq_left h, max_eq_left (by linarith : (0 : ℝ) ≤ -r)]; ring
    · rw [min_eq_right h, max_eq_right (by linarith : -r ≤ (0 : ℝ))]; ring
  | top =>
    rw [EReal.neg_top, max_eq_left (bot_le : (⊥ : EReal) ≤ ⊤), max_eq_right (bot_le : (⊥ : EReal) ≤ 0), EReal.neg_top, log1p_exp_bot,
      min_eq_right (le_top : (0 : EReal) ≤ ⊤), sub_zero, add_zero, neg_zero]

/-- The same log decay, by the magnitude of the negated gate input. -/
theorem decay1_neg (x : EReal) :
    Ideal.div (-(max (-x) 0 + Ideal.log1p (Ideal.exp (-max (-x) (-(-x)))))) (Ideal.ofBits .f32 0x41800000#32) = decay1 x := by
  unfold decay1
  rw [neg_neg, max_comm (-x) x]

/-- A real scaled is real. -/
theorem scaled1_real {x : EReal} (hx : x ≠ ⊤ ∧ x ≠ ⊥) : scaled1 x = ((scaled1 x).toReal : EReal) := by
  refine eq_toReal ?_
  obtain ⟨a, rfl⟩ := real_of_ne hx
  obtain ⟨c, e⟩ := scale_real
  unfold scaled1
  rw [e]
  exact ⟨a * c, by rw [EReal.coe_mul]⟩

section Data

variable (z : (⟨2, ![16896, 8704]⟩ : Shape).Idx → EReal) (wup : (⟨2, ![128, 512]⟩ : Shape).Idx → EReal)
  (bup : (⟨2, ![1, 512]⟩ : Shape).Idx → EReal) (b : Fin 2) (h : Fin 4)

/-- A gate column. -/
abbrev small (y : Fin 128) : Fin 8704 := ⟨8576 + y.val, by omega⟩

/-- A token's gate input for a channel: its gate columns against the channel's weights, and the bias. -/
noncomputable def raw (n : ℕ) (c : Fin 512) : EReal :=
  (∑ y : Fin 128, z (ix2 (tok b n) (small y)) * wup (ix2 y c)) + bup (ix2 0 c)

/-- A head's log decays. -/
noncomputable def G (n : ℕ) (d : Fin 128) : ℝ := (decay1 (raw z wup bup b n (ch h d))).toReal

/-- A head's keys. -/
noncomputable def K (n : ℕ) (d : Fin 128) : ℝ := (z (ix2 (tok b n) (col h 5632 (by decide) d))).toReal

open Classical in
/-- A head's queries; none in a channel with a bias of minus infinity, whose log decays are minus infinity. -/
noncomputable def Q (n : ℕ) (d : Fin 128) : ℝ :=
  if bup (ix2 0 (ch h d)) = ⊥ then 0 else (scaled1 (z (ix2 (tok b n) (col h 5120 (by decide) d)))).toReal

/-- A head's values. -/
noncomputable def V (n : ℕ) (d : Fin 128) : ℝ := (z (ix2 (tok b n) (col h 6144 (by decide) d))).toReal

/-- The queries', keys', values' and gate columns and the gate's weights are real. -/
structure Finite : Prop where
  hq : ∀ (r : Fin 16384) (c : Fin 512), z (ix2 ⟨r.val, by omega⟩ ⟨5120 + c.val, by omega⟩) ≠ ⊤
      ∧ z (ix2 ⟨r.val, by omega⟩ ⟨5120 + c.val, by omega⟩) ≠ ⊥
  hk : ∀ (r : Fin 16384) (c : Fin 512), z (ix2 ⟨r.val, by omega⟩ ⟨5632 + c.val, by omega⟩) ≠ ⊤
      ∧ z (ix2 ⟨r.val, by omega⟩ ⟨5632 + c.val, by omega⟩) ≠ ⊥
  hv : ∀ (r : Fin 16384) (c : Fin 512), z (ix2 ⟨r.val, by omega⟩ ⟨6144 + c.val, by omega⟩) ≠ ⊤
      ∧ z (ix2 ⟨r.val, by omega⟩ ⟨6144 + c.val, by omega⟩) ≠ ⊥
  hr : ∀ (r : Fin 16384) (y : Fin 128), z (ix2 ⟨r.val, by omega⟩ (small y)) ≠ ⊤
      ∧ z (ix2 ⟨r.val, by omega⟩ (small y)) ≠ ⊥
  hw : ∀ (y : Fin 128) (c : Fin 512), wup (ix2 y c) ≠ ⊤ ∧ wup (ix2 y c) ≠ ⊥

/-- The queries of a channel with a bias of minus infinity. -/
theorem query_bot (n : ℕ) (d : Fin 128) (hd : bup (ix2 0 (ch h d)) = ⊥) : Q z bup b h n d = 0 := if_pos hd

variable (hf : Finite z wup) (n : ℕ) (hn : n < 8192)
include hf hn

/-- A token's row is one of the prompt's. -/
theorem tok_lt : (b.val * 8192 + n) % 16896 < 16384 := by
  have := b.isLt
  exact lt_of_le_of_lt (Nat.mod_le _ _) (by omega)

/-- A gate column of a token is real. -/
theorem small_ne (y : Fin 128) : z (ix2 (tok b n) (small y)) ≠ ⊤ ∧ z (ix2 (tok b n) (small y)) ≠ ⊥ :=
  hf.hr ⟨(b.val * 8192 + n) % 16896, tok_lt z wup b hf n hn⟩ y

/-- A token's gate columns against a channel's weights are real. -/
theorem sum_real (c : Fin 512) : ∃ r : ℝ, (∑ y : Fin 128, z (ix2 (tok b n) (small y)) * wup (ix2 y c)) = (r : EReal) := by
  refine ⟨∑ y : Fin 128, (z (ix2 (tok b n) (small y))).toReal * (wup (ix2 y c)).toReal, ?_⟩
  rw [coe_sum]
  refine Finset.sum_congr rfl fun y _ => ?_
  have hz := small_ne z wup b hf n hn y
  have hw := hf.hw y c
  rw [EReal.coe_mul, EReal.coe_toReal hz.1 hz.2, EReal.coe_toReal hw.1 hw.2]

/-- A head's log decays are real in a channel with a bias above minus infinity. -/
theorem gate_eq (d : Fin 128) (hd : ¬bup (ix2 0 (ch h d)) = ⊥) :
    decay1 (raw z wup bup b n (ch h d)) = (G z wup bup b h n d : EReal) := by
  refine decay1_real ?_
  unfold raw
  obtain ⟨r, e⟩ := sum_real z wup b hf n hn (ch h d)
  rw [e]
  exact fun c => (EReal.add_eq_bot_iff.1 c).elim (EReal.coe_ne_bot r) hd

/-- A head's log decays are minus infinity in a channel with a bias of minus infinity. -/
theorem gate_bot (d : Fin 128) (hd : bup (ix2 0 (ch h d)) = ⊥) : decay1 (raw z wup bup b n (ch h d)) = ⊥ := by
  unfold raw
  rw [hd, EReal.add_bot, decay1_bot]

/-- A head's keys are real. -/
theorem key_eq (d : Fin 128) : z (ix2 (tok b n) (col h 5632 (by decide) d)) = (K z b h n d : EReal) :=
  eq_toReal (real_of_ne (hf.hk ⟨(b.val * 8192 + n) % 16896, tok_lt z wup b hf n hn⟩ (ch h d)))

/-- A head's scaled queries are real. -/
theorem query_eq (d : Fin 128) (hd : ¬bup (ix2 0 (ch h d)) = ⊥) :
    scaled1 (z (ix2 (tok b n) (col h 5120 (by decide) d))) = (Q z bup b h n d : EReal) := by
  unfold Q
  rw [if_neg hd]
  exact scaled1_real (hf.hq ⟨(b.val * 8192 + n) % 16896, tok_lt z wup b hf n hn⟩ (ch h d))

/-- A head's values are real. -/
theorem value_eq (d : Fin 128) : z (ix2 (tok b n) (col h 6144 (by decide) d)) = (V z b h n d : EReal) :=
  eq_toReal (real_of_ne (hf.hv ⟨(b.val * 8192 + n) % 16896, tok_lt z wup b hf n hn⟩ (ch h d)))

end Data

end Cert.Proof.GlaGates
-- ==== Proof.GlaRef.lean ====
/-
  The second mixer's reference: its loop is the first's at other operands, so after `k` trips the carried state is the
  recurrence's at token `16 k` and the stacked readings of the first `k` blocks are the recurrence's.
-/
module

public import proofs.«01_k».proof.Proof.Gen.Reference7Ideal.Run
public import proofs.«01_k».proof.Proof.Gen.Reference7Ideal.Step
public import proofs.«01_k».proof.Proof.RefRun
public import proofs.«01_k».proof.Proof.GlaGates

@[expose] public section

namespace Cert.Proof.GlaRef

noncomputable section

open Idealize.ShloMosaic Idealize.ShloMosaic.TcCoe Idealize.SL.Sem Idealize.ShloMosaic.StableHlo
open Cert.Reference7Ideal Cert.Reference7Ideal.Gen Cert.Reference7Ideal.Value
open Cert.Reference7Ideal.Step (State init)

variable {F : FTy → Type} [FloatOps F]

/-- The carried buffers of a valuation. -/
def stateOf (V : Valuation τ sig (Elt F)) : State F where
  main_v28_5 := V (Proc.devRef .tc main_v28_5)
  main_v28_6 := V (Proc.devRef .tc main_v28_6)
  main_v28_0 := V (Proc.devRef .tc main_v28_0)
  main_v28_1 := V (Proc.devRef .tc main_v28_1)
  main_v28_2 := V (Proc.devRef .tc main_v28_2)
  main_v28_3 := V (Proc.devRef .tc main_v28_3)

/-- Them as the first mixer's loop carries them. -/
def toFirst (s : State F) : Cert.ReferenceIdeal.Step.State F where
  main_v49_5 := s.main_v28_5
  main_v49_6 := s.main_v28_6
  main_v49_0 := s.main_v28_0
  main_v49_1 := s.main_v28_1
  main_v49_2 := s.main_v28_2
  main_v49_3 := s.main_v28_3

set_option maxRecDepth 8192 in
/-- One trip at counter `j` is the first mixer's trip `j` on the carried buffers. -/
theorem stateOf_STEP (V : Valuation τ sig (Elt F)) (j : ℕ)
    (hn : V (Proc.devRef .tc main_v28_4) = constantI S_ 32 (BitVec.ofNat 32 j)) :
    toFirst (stateOf (STEP V)) = Cert.ReferenceIdeal.Step.step j (toFirst (stateOf V)) := by
  have e5 : step_main_v28_5 V = (Cert.ReferenceIdeal.Step.step j (toFirst (stateOf V))).main_v49_5 := by
    unfold step_main_v28_5 res_main_while0b_v76 res_main_while0b_v54 res_main_while0b_v51 res_main_while0b_v52
    rw [hn]; rfl
  have e6 : step_main_v28_6 V = (Cert.ReferenceIdeal.Step.step j (toFirst (stateOf V))).main_v49_6 := by
    unfold step_main_v28_6 res_main_while0b_v57 res_main_while0b_v54 res_main_while0b_v50 res_main_while0b_v51 res_main_while0b_v52
    rw [hn]; rfl
  unfold stateOf
  rw [STEP_main_v28_5, STEP_main_v28_6, STEP_main_v28_0, STEP_main_v28_1, STEP_main_v28_2, STEP_main_v28_3]
  unfold toFirst
  dsimp only
  rw [e5, e6]
  rfl

/-- One trip raises the counter by one. -/
theorem counter_STEP (V : Valuation τ sig (Elt F)) (j : ℕ)
    (hn : V (Proc.devRef .tc main_v28_4) = constantI S_ 32 (BitVec.ofNat 32 j)) :
    STEP V (Proc.devRef .tc main_v28_4) = constantI S_ 32 (BitVec.ofNat 32 (j + 1)) := by
  rw [STEP_main_v28_4]
  unfold step_main_v28_4
  rw [hn]
  funext i
  exact (BitVec.ofNat_add j 1).symm

/-- The reference's sequence of states: `init` of its arguments, then the first mixer's trips. -/
def refIter (z : (⟨S16896x8704, .f32⟩ : BufTy).Contents (Elt F)) (wup : (⟨S128x512, .f32⟩ : BufTy).Contents (Elt F))
    (bup : (⟨S1x512, .f32⟩ : BufTy).Contents (Elt F)) (s0 : (⟨S2x4x128x128, .f32⟩ : BufTy).Contents (Elt F)) :
    ℕ → Cert.ReferenceIdeal.Step.State F
  | 0 => toFirst (init s0 z wup bup)
  | n + 1 => Cert.ReferenceIdeal.Step.step n (refIter z wup bup s0 n)

section Iter

variable (m : (ℓ : Loc nD τ sig) → Buf (Elt F) ℓ) (c : Dev nD)

set_option maxRecDepth 65536 in
set_option maxHeartbeats 400000 in
/-- What the operations before the loop leave in the carried buffers is `init` of the arguments. -/
theorem entry_state : stateOf (entryContents preI m c) =
    init (m ((c.tc : Thread nD τ).loc main_arg4)) (m ((c.tc : Thread nD τ).loc main_arg0)) (m ((c.tc : Thread nD τ).loc main_arg1))
      (m ((c.tc : Thread nD τ).loc main_arg2)) := by
  unfold stateOf
  simp only [entryContents, afterL_cons, afterL_nil]
  after_reads_simp
  rfl

set_option maxRecDepth 65536 in
/-- The counter starts at zero. -/
theorem entry_counter : entryContents preI m c (Proc.devRef .tc main_v28_4) = constantI S_ 32 (BitVec.ofNat 32 0) := by
  simp only [entryContents, afterL_cons, afterL_nil]
  after_reads_simp
  rfl

/-- After `k` trips the counter is `k` and the carried buffers are the `k`-th state of the sequence. -/
theorem iter_state : ∀ k, (STEP^[k] (entryContents preI m c)) (Proc.devRef .tc main_v28_4) = constantI S_ 32 (BitVec.ofNat 32 k)
    ∧ toFirst (stateOf (STEP^[k] (entryContents preI m c))) = refIter (m ((c.tc : Thread nD τ).loc main_arg0))
      (m ((c.tc : Thread nD τ).loc main_arg1)) (m ((c.tc : Thread nD τ).loc main_arg2)) (m ((c.tc : Thread nD τ).loc main_arg4)) k
  | 0 => ⟨entry_counter m c, congrArg toFirst (entry_state m c)⟩
  | k + 1 => by
    rw [Function.iterate_succ_apply']
    obtain ⟨h1, h2⟩ := iter_state k
    exact ⟨counter_STEP _ k h1, by rw [stateOf_STEP _ k h1, h2]; rfl⟩

end Iter

end

set_option maxRecDepth 16384

open Idealize.ShloMosaic Idealize.ShloMosaic.TcCoe Idealize.ShloMosaic.Pointwise
open Cert.Reference7Ideal Cert.Reference7Ideal.Gen Cert.Reference7Ideal.Step Cert.Proof.RefValue
open Cert.Proof.Recur Cert.Proof.GlaGates
open Cert.Proof.Gates (tok col ch finish1 S0)
open Cert.Proof.RefRun (read_z)

local notation "𝕀" => Idealize.ShloMosaic.Ideal

variable (z : FVec 𝕀 S16896x8704 .f32) (wup : FVec 𝕀 S128x512 .f32) (bup : FVec 𝕀 S1x512 .f32) (s0 : FVec 𝕀 S2x4x128x128 .f32)

/-- A read of the gate columns, by its row's and column's numbers. -/
theorem read_small (b : Fin 2) (n : ℕ) (hn : n < 8192) (y : Fin 128) (r : Fin 16896) (c : Fin 8704) (hr : r.val = b.val * 8192 + n)
    (hc : c.val = 8576 + y.val) : z (ix2 r c) = z (ix2 (tok b n) (small y)) := by
  have e1 : r = tok b n := Fin.ext (by
    have := b.isLt
    show r.val = (b.val * 8192 + n) % 16896
    rw [hr, Nat.mod_eq_of_lt (by omega)])
  have e2 : c = (small y) := Fin.ext hc
  rw [e1, e2]

section Operands
variable (j : ℕ) (hj : j < 512) (b : Fin 2) (t : Fin 16) (h : Fin 4) (d : Fin 128)

/-- The blocked queries. -/
theorem query_apply : A_main_v20 (F := 𝕀) z wup bup (ix5 ⟨j, hj⟩ b t h d)
    = scaled1 (z (ix2 (tok b (16 * j + t)) (col h 5120 (by decide) d))) := by
  pointwise [A_main_v20, A_main_v19, A_main_v16, A_main_v14, A_main_v1, A_main_v0, K_main_v15, K_main_cst_0]
  rw [read_z z b h d 5120 (by decide) (16 * j + t) (by omega) _ _ ?_ ?_]
  · rfl
  · simp; omega
  · simp

/-- The blocked keys. -/
theorem key_apply : A_main_v22 (F := 𝕀) z wup bup (ix5 ⟨j, hj⟩ b t h d) = z (ix2 (tok b (16 * j + t)) (col h 5632 (by decide) d)) := by
  pointwise [A_main_v22, A_main_v21, A_main_v17, A_main_v2, A_main_v0]
  rw [read_z z b h d 5632 (by decide) (16 * j + t) (by omega) _ _ ?_ ?_]
  · simp; omega
  · simp

/-- The blocked values. -/
theorem value_apply : A_main_v24 (F := 𝕀) z wup bup (ix5 ⟨j, hj⟩ b t h d) = z (ix2 (tok b (16 * j + t)) (col h 6144 (by decide) d)) := by
  pointwise [A_main_v24, A_main_v23, A_main_v18, A_main_v3, A_main_v0]
  rw [read_z z b h d 6144 (by decide) (16 * j + t) (by omega) _ _ ?_ ?_]
  · simp; omega
  · simp

/-- The gate inputs of all tokens. -/
theorem raw_apply (r : Fin 16384) (c : Fin 512) (n : ℕ) (hn : n < 8192) (hr : r.val = b.val * 8192 + n) (hc : c.val = h.val * 128 + d.val) :
    A_main_v7 (F := 𝕀) z wup bup (ix2 r c) = raw z wup bup b n (ch h d) := by
  have e : c = ch h d := Fin.ext hc
  subst e
  pointwise [A_main_v7, A_main_v6, A_main_v5, A_main_v4, A_main_v0]
  unfold raw
  refine congrArg (· + _) (Finset.sum_congr rfl fun y _ => ?_)
  rw [read_small z b n hn y _ _ ?_ ?_]
  · simp [hr]
  · simp

/-- The blocked log decays. -/
theorem gate_apply : A_main_v26 (F := 𝕀) z wup bup (ix5 ⟨j, hj⟩ b t h d) = decay1 (raw z wup bup b (16 * j + t) (ch h d)) := by
  pointwise [A_main_v26, A_main_v25, A_main_v13, A_main_v12, A_main_v10, A_main_v9, A_main_call0_v11, A_main_call0_v10,
    A_main_call0_v9, A_main_call0_v8, A_main_call0_v7, A_main_call0_v6, A_main_call0_v4, A_main_call0_v3, A_main_call0_v1,
    A_main_v8, K_main_v11, K_main_cst, K_main_call0_v0, K_main_call0_v2, K_main_call0_v5, K_main_call0_cst]
  rw [raw_apply z wup bup b h d _ _ (16 * j + t) (by omega) ?_ ?_]
  · rw [if_neg (fun e => e rfl)]
    exact decay1_neg _
  · simp; omega
  · simp

end Operands

open Classical in
/-- The recurrence's state of a sequence's head after `n` tokens; a channel whose log decays are minus infinity is empty after
any. -/
noncomputable def St (b : Fin 2) (h : Fin 4) (n : ℕ) (d v : Fin 128) : EReal :=
  if bup (ix2 0 (ch h d)) = ⊥ ∧ 0 < n then 0
  else stateAt (G z wup bup b h) (K z b h) (V z b h) (S0 s0 b h) n d v

/-- The state of a channel with a bias above minus infinity. -/
theorem St_alive (b : Fin 2) (h : Fin 4) (n : ℕ) (d v : Fin 128) (hd : ¬bup (ix2 0 (ch h d)) = ⊥) :
    St z wup bup s0 b h n d v = stateAt (G z wup bup b h) (K z b h) (V z b h) (S0 s0 b h) n d v :=
  if_neg fun c => hd c.1

/-- The state of a channel with a bias of minus infinity. -/
theorem St_dead (b : Fin 2) (h : Fin 4) (n : ℕ) (hn : 0 < n) (d v : Fin 128) (hd : bup (ix2 0 (ch h d)) = ⊥) :
    St z wup bup s0 b h n d v = 0 :=
  if_pos ⟨hd, hn⟩

/-- The state before any token. -/
theorem St_zero (b : Fin 2) (h : Fin 4) (d v : Fin 128) : St z wup bup s0 b h 0 d v = s0 (ix4 b h d v) := by
  unfold St
  rw [if_neg fun c => lt_irrefl _ c.2, stateAt_zero]
  rfl

/-- The recurrence's reading at a token of a sequence's head. -/
noncomputable abbrev Out (b : Fin 2) (h : Fin 4) (n : ℕ) (v : Fin 128) : EReal :=
  outAt (G z wup bup b h) (K z b h) (Q z bup b h) (V z b h) (S0 s0 b h) n v

/-- What the loop holds after `k` trips. -/
structure Holds (k : ℕ) (s : Cert.ReferenceIdeal.Step.State 𝕀) : Prop where
  hq : s.main_v49_0 = A_main_v20 (F := 𝕀) z wup bup
  hk : s.main_v49_1 = A_main_v22 (F := 𝕀) z wup bup
  hv : s.main_v49_2 = A_main_v24 (F := 𝕀) z wup bup
  hg : s.main_v49_3 = A_main_v26 (F := 𝕀) z wup bup
  state : ∀ b h d v, s.main_v49_5 (ix4 b h d v) = St z wup bup s0 b h (16 * k) d v
  out : ∀ (n : Fin 512) b (t : Fin 16) h v, n.val < k → s.main_v49_6 (ix5 n b t h v) = Out z wup bup s0 b h (16 * n + t) v

variable (hf : Finite z wup)
include hf

/-- One more trip. -/
theorem holds_step (k : ℕ) (hk : k < 512) (s : Cert.ReferenceIdeal.Step.State 𝕀) (H : Holds z wup bup s0 k s) :
    Holds z wup bup s0 (k + 1) (Cert.ReferenceIdeal.Step.step k s) where
  hq := H.hq
  hk := H.hk
  hv := H.hv
  hg := H.hg
  state b h d v := by
    rw [Cert.ReferenceIdeal.Step.step_main_v49_5]
    by_cases c : bup (ix2 0 (ch h d)) = ⊥
    · rw [St_dead z wup bup s0 b h _ (by omega) d v c]
      exact b81_dead k hk s b h d
        (fun t => by rw [H.hg]; exact (gate_apply z wup bup k hk b t h d).trans (gate_bot z wup bup b h hf _ (by omega) d c)) v
    · rw [St_alive z wup bup s0 b h _ d v c]
      exact b81_alive _ _ _ _ k hk s b h d
        (fun t => by rw [H.hk]; exact (key_apply z wup bup k hk b t h d).trans (key_eq z wup b h hf _ (by omega) d))
        (fun t d => by rw [H.hv]; exact (value_apply z wup bup k hk b t h d).trans (value_eq z wup b h hf _ (by omega) d))
        (fun t => by rw [H.hg]; exact (gate_apply z wup bup k hk b t h d).trans (gate_eq z wup bup b h hf _ (by omega) d c))
        (fun v => (H.state b h d v).trans (St_alive z wup bup s0 b h _ d v c)) v
  out n b t h v hn := by
    rw [Cert.ReferenceIdeal.Step.step_main_v49_6, b88_apply k hk]
    by_cases e : n.val = k
    · rw [if_pos e, e]
      exact b82_dead _ _ _ _ _ k hk s b h (fun d => bup (ix2 0 (ch h d)) = ⊥) (fun n d c => query_bot z bup b h n d c)
        (fun t d c => by rw [H.hq]; exact (query_apply z wup bup k hk b t h d).trans (query_eq z wup bup b h hf _ (by omega) d c))
        (fun t d _ => by rw [H.hk]; exact (key_apply z wup bup k hk b t h d).trans (key_eq z wup b h hf _ (by omega) d))
        (fun t d => by rw [H.hv]; exact (value_apply z wup bup k hk b t h d).trans (value_eq z wup b h hf _ (by omega) d))
        (fun t d c => by rw [H.hg]; exact (gate_apply z wup bup k hk b t h d).trans (gate_eq z wup bup b h hf _ (by omega) d c))
        (fun t d c => by rw [H.hg]; exact (gate_apply z wup bup k hk b t h d).trans (gate_bot z wup bup b h hf _ (by omega) d c))
        (fun d v c => (H.state b h d v).trans (St_alive z wup bup s0 b h _ d v c)) t v
    · rw [if_neg e]
      exact H.out n b t h v (by omega)

/-- After every number of trips. -/
theorem holds : ∀ k ≤ 512, Holds z wup bup s0 k (refIter z wup bup s0 k)
  | 0, _ =>
    { hq := rfl
      hk := rfl
      hv := rfl
      hg := rfl
      state := fun b h d v => by rw [Nat.mul_zero, St_zero]; rfl
      out := fun n b t h v hn => absurd hn (by omega) }
  | k + 1, hk => holds_step z wup bup s0 hf k (by omega) _ (holds k (by omega))

/-- The reference's last state. -/
theorem state_ref (k : ℕ) (hk : k = 512) (b : Fin 2) (h : Fin 4) (d v : Fin 128) :
    (refIter (F := 𝕀) z wup bup s0 k).main_v49_5 (ix4 b h d v) = St z wup bup s0 b h 8192 d v := by
  rw [(holds z wup bup s0 hf k hk.le).state b h d v, hk]

omit hf in
/-- The output tokens, of a loop's last state. -/
theorem finish_apply (nw : FVec 𝕀 S1x128 .f32) (s : State 𝕀)
    (ho : ∀ (n : Fin 512) b (t : Fin 16) h v, s.main_v28_6 (ix5 n b t h v) = Out z wup bup s0 b h (16 * n + t) v)
    (r : Fin 16384) (c : Fin 512) :
    R_main_v49 (F := 𝕀) s z nw (ix2 r c)
      = finish1 (Out z wup bup s0 ⟨r.val / 8192, by omega⟩ ⟨c.val / 128, by omega⟩ (r.val % 8192)) (nw (ix2 0 ⟨c.val % 128, by omega⟩))
        (z (ix2 ⟨r.val, by omega⟩ ⟨6656 + c.val, by omega⟩)) ⟨c.val % 128, by omega⟩ := by
  pointwise [R_main_v49]
  simp only [ho, Nat.div_add_mod]
  unfold finish1 Ideal.logistic
  rfl

/-- The reference's output tokens, of any state with the last stack. -/
theorem out_ref (k : ℕ) (hk : k = 512) (s : State 𝕀) (hs : toFirst s = refIter (F := 𝕀) z wup bup s0 k) (nw : FVec 𝕀 S1x128 .f32)
    (r : Fin 16384) (c : Fin 512) :
    R_main_v49 (F := 𝕀) s z nw (ix2 r c)
      = finish1 (Out z wup bup s0 ⟨r.val / 8192, by omega⟩ ⟨c.val / 128, by omega⟩ (r.val % 8192)) (nw (ix2 0 ⟨c.val % 128, by omega⟩))
        (z (ix2 ⟨r.val, by omega⟩ ⟨6656 + c.val, by omega⟩)) ⟨c.val % 128, by omega⟩ :=
  finish_apply z wup bup s0 nw s (fun n b t h v => by
    have e : s.main_v28_6 = (refIter (F := 𝕀) z wup bup s0 k).main_v49_6 := by rw [← hs]; rfl
    rw [e]
    exact (holds z wup bup s0 hf k hk.le).out n b t h v (by rw [hk]; exact n.isLt)) r c

end Cert.Proof.GlaRef
-- ==== Proof.GlaKernel.lean ====
/-
  The second mixer's results at an index: a chunk's log decays are those of its tokens' gate inputs, so its heads' stores are
  the recurrence's; by induction over the points of the grid, as for the first mixer, so are the outputs and last states.
-/
module

public import proofs.«01_k».proof.Proof.GlaPieces
public import proofs.«01_k».proof.Proof.GlaRef
public import proofs.«01_k».proof.Proof.KernelValue

public section

set_option maxRecDepth 16384

namespace Cert.Proof.GlaKernel

open Cert.Kernel7Ideal Cert.Kernel7Ideal.Gen Cert.Kernel7Ideal.Value Idealize.ShloMosaic Idealize.ShloMosaic.TcCoe Idealize.SL.Sem
open Idealize.ShloMosaic.Pointwise Cert.Proof.GlaGates Cert.Proof.GlaPieces
open Cert.Proof.Gates (tok col ch finish1 S0 eq_toReal real_of_ne)
open Cert.Proof.Head (running unpackState packState stateIn stateOut)
open Cert.Proof.Pieces (colRect slotRect winRect slotList winList slot0 slot1 slot2 slot3 in0 in1 in2 in3)
open Cert.Proof.ChunkValue (ld_col ld_nw finish_apply)
open Cert.Proof.KernelValue (canon_slots canon_wins slots_apply)
open Cert.Proof.GlaRef (St Out St_alive St_dead St_zero)

local notation "𝕀" => Idealize.ShloMosaic.Ideal

/-- A load of a whole block. -/
theorem ld_whole {s : Shape} (x : FVec 𝕀 s .f32) (off : Fin s.rank → ℕ) (h0 : ∀ a, off a = 0) (inb : ∀ a, off a + s.size a ≤ s.size a) :
    View.ld (Val := Elt 𝕀) (e' := .f32) x (Rect.unit off s.size inb) = x :=
  funext fun i => congrArg x (funext fun a => Fin.ext (by
    show off a + 1 * (i a).val = (i a).val
    rw [h0 a]
    omega))

/-- A real less itself. -/
theorem sub_self_of {x : EReal} (hx : x ≠ ⊤ ∧ x ≠ ⊥) : x - x = 0 := EReal.sub_self hx.1 hx.2

/-- The scores of real blocks: what the splits leave adds nothing. -/
theorem scores_apply (x : FVec 𝕀 S128x128 .f32) (w : FVec 𝕀 S128x512 .f32) (b : FVec 𝕀 S1x512 .f32) (r : Fin 128) (c : Fin 512)
    (hx : ∀ y : Fin 128, x (ix2 r y) ≠ ⊤ ∧ x (ix2 r y) ≠ ⊥) (hw : ∀ y : Fin 128, w (ix2 y c) ≠ ⊤ ∧ w (ix2 y c) ≠ ⊥) :
    scores x w b (ix2 r c) = (∑ y : Fin 128, x (ix2 r y) * w (ix2 y c)) + b (ix2 0 c) := by
  pointwise [scores]
  simp only [sub_self_of (hx _), sub_self_of (hw _), mul_zero, zero_mul, Finset.sum_const_zero, add_zero, zero_add]

/-- The log decay of a score. -/
theorem temper_apply (y : FVec 𝕀 S128x512 .f32) (r : Fin 128) (c : Fin 512) :
    temper y (ix2 r c) = decay1 (y (ix2 r c)) := by
  refine Eq.trans ?_ (decay1_min _)
  pointwise [temper]
  rfl

/-- The scaled queries. -/
theorem scaled_apply (q : FVec 𝕀 S128x128 .f32) (r d : Fin 128) : scaled q (ix2 r d) = scaled1 (q (ix2 r d)) := by
  pointwise [scaled]
  rfl

/-- A head's columns of the log decays. -/
theorem cut_apply (L : FVec 𝕀 S128x512 .f32) (h : Fin 4) (o : ℕ) (ho : o = h.val * 128) (sl : S128x512.Slices ![0, o] S128x128) (r d : Fin 128) :
    extractStridedSlice S128x128 ![0, o] L sl (ix2 r d) = L (ix2 r (ch h d)) := by
  subst ho
  refine congrArg L (funext fun a => Fin.ext ?_)
  match a with
  | ⟨0, _⟩ => show 0 + r.val = r.val; omega
  | ⟨1, _⟩ => show h.val * 128 + d.val = h.val * 128 + d.val; rfl

section Heads

variable (z : FVec 𝕀 S16896x8704 .f32) (wup : FVec 𝕀 S128x512 .f32) (bup : FVec 𝕀 S1x512 .f32) (nw : FVec 𝕀 S1x128 .f32)
  (s0 : FVec 𝕀 S2x4x128x128 .f32)
  (b : Fin 2) (n : ℕ) (x0 x1 x2 x3 : FVec 𝕀 S128x512 .f32) (x4 : FVec 𝕀 S128x128 .f32) (x5 : FVec 𝕀 S128x512 .f32)
  (x6 : FVec 𝕀 S1x512 .f32) (x7 : FVec 𝕀 S1x128 .f32)

/-- The blocks of the chunk at token `n` of a sequence. -/
structure Blocks : Prop where
  hq : ∀ (r : Fin 128) (h : Fin 4) (d : Fin 128), x0 (ix2 r (ch h d)) = z (ix2 (tok b (n + r)) (col h 5120 (by decide) d))
  hk : ∀ (r : Fin 128) (h : Fin 4) (d : Fin 128), x1 (ix2 r (ch h d)) = z (ix2 (tok b (n + r)) (col h 5632 (by decide) d))
  hv : ∀ (r : Fin 128) (h : Fin 4) (d : Fin 128), x2 (ix2 r (ch h d)) = z (ix2 (tok b (n + r)) (col h 6144 (by decide) d))
  hg : ∀ (r : Fin 128) (h : Fin 4) (d : Fin 128), x3 (ix2 r (ch h d)) = z (ix2 (tok b (n + r)) (col h 6656 (by decide) d))
  hr : ∀ (r y : Fin 128), x4 (ix2 r y) = z (ix2 (tok b (n + r)) (small y))
  hw : ∀ (y : Fin 128) (c : Fin 512), x5 (ix2 y c) = wup (ix2 y c)
  hb : ∀ c : Fin 512, x6 (ix2 0 c) = bup (ix2 0 c)
  hnw : ∀ d : Fin 128, x7 (ix2 0 d) = nw (ix2 0 d)

variable (hfin : Finite z wup) (hn : n + 128 ≤ 8192) (B : Blocks z wup bup nw b n x0 x1 x2 x3 x4 x5 x6 x7)
include hfin hn B

/-- The log decays of the chunk's tokens. -/
theorem decays_apply (r : Fin 128) (h : Fin 4) (d : Fin 128) :
    decays (F := 𝕀) x4 x5 x6 (ix2 r (ch h d)) = decay1 (raw z wup bup b (n + r) (ch h d)) := by
  unfold decays
  rw [ld_whole x4 _ (by decide), ld_whole x5 _ (by decide), ld_whole x6 _ (by decide)]
  have e : scores x4 x5 x6 (ix2 r (ch h d)) = raw z wup bup b (n + r) (ch h d) := by
    rw [scores_apply x4 x5 x6 r (ch h d)
      (fun y => by rw [B.hr]; exact small_ne z wup b hfin (n + r) (by omega) y) (fun y => by rw [B.hw]; exact hfin.hw y _)]
    unfold raw
    rw [B.hb]
    exact congrArg (· + _) (Finset.sum_congr rfl fun y _ => by rw [B.hr, B.hw])
  rw [temper_apply, e]

section One

variable (h : Fin 4) (o : ℕ) (ho : o = h.val * 128)
  (inb : ∀ a, (![0, o] : Fin 2 → ℕ) a + S128x128.size a ≤ S128x512.size a)
  (sl : S128x512.Slices ![0, o] S128x128) (st : FVec 𝕀 S1x128x128 .f32)
  (hst : ∀ w d, st (ix3 0 w d) = St z wup bup s0 b h n d w)
include ho hst

/-- A head's state after the chunk. -/
theorem next_apply (w d : Fin 128) :
    nextAt x1 x2 (decays x4 x5 x6) o inb sl st (ix3 0 w d) = St z wup bup s0 b h (n + 128) d w := by
  have hl : ∀ i : Fin 128, extractStridedSlice S128x128 ![0, o] (decays (F := 𝕀) x4 x5 x6) sl (ix2 i d)
      = decay1 (raw z wup bup b (n + i) (ch h d)) := fun i => by
    rw [cut_apply _ h o ho]; exact decays_apply z wup bup nw b n x0 x1 x2 x3 x4 x5 x6 x7 hfin hn B i h d
  by_cases c : bup (ix2 0 (ch h d)) = ⊥
  · rw [St_dead z wup bup s0 b h _ (by omega) d w c]
    exact HeadValue.state_dead _ _ _ _ (fun d => bup (ix2 0 (ch h d)) = ⊥)
      (fun i d c => by
        rw [cut_apply _ h o ho, decays_apply z wup bup nw b n x0 x1 x2 x3 x4 x5 x6 x7 hfin hn B i h d]
        exact gate_bot z wup bup b h hfin _ (by omega) d c) w d c
  · rw [St_alive z wup bup s0 b h _ d w c]
    exact HeadValue.state_alive (G z wup bup b h) (K z b h) (V z b h) (S0 s0 b h) n _ _ _ _ w d
      (fun i => (hl i).trans (gate_eq z wup bup b h hfin _ (by omega) d c))
      (fun i => by rw [ld_col x1 h o ho, B.hk]; exact key_eq z wup b h hfin _ (by omega) _)
      (fun i d => by rw [ld_col x2 h o ho, B.hv]; exact value_eq z wup b h hfin _ (by omega) _)
      (fun w => (hst w d).trans (St_alive z wup bup s0 b h _ d w c))

/-- A head's output. -/
theorem out_apply (r w : Fin 128) : outAt x0 x1 x2 x3 x7 (decays x4 x5 x6) o inb sl st (ix2 r w)
    = finish1 (Out z wup bup s0 b h (n + r)) (nw (ix2 0 w)) (z (ix2 (tok b (n + r)) (col h 6656 (by decide) w))) w := by
  unfold outAt
  rw [finish_apply, ld_nw, ld_col x3 h o ho, B.hg, B.hnw]
  congr 1
  funext w
  exact HeadValue.out_dead (G z wup bup b h) (K z b h) (Q z bup b h) (V z b h) (S0 s0 b h) n _ _ _ _ _
    (fun d => bup (ix2 0 (ch h d)) = ⊥)
    (fun i d c => by
      rw [cut_apply _ h o ho, decays_apply z wup bup nw b n x0 x1 x2 x3 x4 x5 x6 x7 hfin hn B i h d]
      exact gate_eq z wup bup b h hfin _ (by omega) d c)
    (fun i d c => by
      rw [cut_apply _ h o ho, decays_apply z wup bup nw b n x0 x1 x2 x3 x4 x5 x6 x7 hfin hn B i h d]
      exact gate_bot z wup bup b h hfin _ (by omega) d c)
    (fun n d c => query_bot z bup b h n d c)
    (fun i d _ => by rw [ld_col x1 h o ho, B.hk]; exact key_eq z wup b h hfin _ (by omega) _)
    (fun i d c => by rw [scaled_apply, ld_col x0 h o ho, B.hq]; exact query_eq z wup bup b h hfin _ (by omega) _ c)
    (fun i d => by rw [ld_col x2 h o ho, B.hv]; exact value_eq z wup b h hfin _ (by omega) _)
    (fun w d c => (hst w d).trans (St_alive z wup bup s0 b h _ d w c)) r w

end One

section Chunk
variable (t : Fin 4 → FVec 𝕀 S1x128x128 .f32) (ht : ∀ h w d, t h (ix3 0 w d) = St z wup bup s0 b h n d w)
include ht

/-- The heads' stores into the scratch. -/
theorem canon_states (L : List (View.Piece (Elt 𝕀) S4x128x128 .f32)) (h : Fin 4) (w d : Fin 128) :
    View.canon (stateList x1 x2 (decays x4 x5 x6) (t 0) (t 1) (t 2) (t 3) L) (ix3 h w d) = St z wup bup s0 b h (n + 128) d w := by
  unfold stateList
  refine (canon_slots (![_, _, _, _] : Fin 4 → FVec 𝕀 S1x128x128 .f32) L h w d).trans ?_
  fin_cases h
  · exact next_apply z wup bup nw s0 b n x0 x1 x2 x3 x4 x5 x6 x7 hfin hn B 0 0 rfl _ _ (t 0) (ht 0) w d
  · exact next_apply z wup bup nw s0 b n x0 x1 x2 x3 x4 x5 x6 x7 hfin hn B 1 128 rfl _ _ (t 1) (ht 1) w d
  · exact next_apply z wup bup nw s0 b n x0 x1 x2 x3 x4 x5 x6 x7 hfin hn B 2 256 rfl _ _ (t 2) (ht 2) w d
  · exact next_apply z wup bup nw s0 b n x0 x1 x2 x3 x4 x5 x6 x7 hfin hn B 3 384 rfl _ _ (t 3) (ht 3) w d

/-- The stores into the state window. -/
theorem canon_last (h : Fin 4) (d w : Fin 128) :
    View.canon (winList
      (nextAt x1 x2 (decays x4 x5 x6) 0 inb_S128x512_S128x128_0_0 slices_S128x512_o0_0_S128x128 (t 0))
      (nextAt x1 x2 (decays x4 x5 x6) 128 inb_S128x512_S128x128_0_128 slices_S128x512_o0_128_S128x128 (t 1))
      (nextAt x1 x2 (decays x4 x5 x6) 256 inb_S128x512_S128x128_0_256 slices_S128x512_o0_256_S128x128 (t 2))
      (nextAt x1 x2 (decays x4 x5 x6) 384 inb_S128x512_S128x128_0_384 slices_S128x512_o0_384_S128x128 (t 3))) (ix4 0 h d w) = St z wup bup s0 b h (n + 128) d w := by
  refine (canon_wins (![_, _, _, _] : Fin 4 → FVec 𝕀 S1x128x128 .f32) h d w).trans ?_
  fin_cases h
  · exact next_apply z wup bup nw s0 b n x0 x1 x2 x3 x4 x5 x6 x7 hfin hn B 0 0 rfl _ _ (t 0) (ht 0) w d
  · exact next_apply z wup bup nw s0 b n x0 x1 x2 x3 x4 x5 x6 x7 hfin hn B 1 128 rfl _ _ (t 1) (ht 1) w d
  · exact next_apply z wup bup nw s0 b n x0 x1 x2 x3 x4 x5 x6 x7 hfin hn B 2 256 rfl _ _ (t 2) (ht 2) w d
  · exact next_apply z wup bup nw s0 b n x0 x1 x2 x3 x4 x5 x6 x7 hfin hn B 3 384 rfl _ _ (t 3) (ht 3) w d

/-- The stores into the output block. -/
theorem canon_out (r : Fin 128) (h : Fin 4) (w : Fin 128) :
    View.canon (outList x0 x1 x2 x3 x7 (decays x4 x5 x6) (t 0) (t 1) (t 2) (t 3)) (ix2 r (ch h w))
      = finish1 (Out z wup bup s0 b h (n + r)) (nw (ix2 0 w)) (z (ix2 (tok b (n + r)) (col h 6656 (by decide) w))) w := by
  have hit : ∀ (o : ℕ) (inb) (v : FVec 𝕀 S128x128 .f32) (L' : List (View.Piece (Elt 𝕀) S128x512 .f32)), o = h.val * 128 →
      View.canon (⟨colRect o inb, v⟩ :: L') (ix2 r (ch h w)) = v (ix2 r w) := by
    intro k inb v L' hk
    have e : (colRect k inb).emb (ix2 r w : S128x128.Idx) = ix2 r (ch h w) := funext fun a => Fin.ext (by
      subst hk
      match a with
      | ⟨0, _⟩ => show 0 + 1 * r.val = r.val; omega
      | ⟨1, _⟩ => show h.val * 128 + 1 * w.val = h.val * 128 + w.val; omega)
    rw [← e]
    exact View.canon_cons_emb _ _ _ _
  have miss : ∀ (k : ℕ) (inb) (v : FVec 𝕀 S128x128 .f32) (L' : List (View.Piece (Elt 𝕀) S128x512 .f32)), h.val ≠ k →
      View.canon (⟨colRect (k * 128) inb, v⟩ :: L') (ix2 r (ch h w)) = View.canon L' (ix2 r (ch h w)) := by
    intro k inb v L' hk
    refine View.canon_cons_of_not_mem _ _ fun hm => hk ?_
    have : k * 128 ≤ h.val * 128 + w.val ∧ h.val * 128 + w.val < k * 128 + 128 := (Rect.mem_set_unit (inb := inb)).1 hm 1
    omega
  unfold outList
  fin_cases h
  · exact (miss 3 _ _ _ (by decide)).trans ((miss 2 _ _ _ (by decide)).trans ((miss 1 _ _ _ (by decide)).trans ((hit 0 _ _ _ rfl).trans
      (out_apply z wup bup nw s0 b n x0 x1 x2 x3 x4 x5 x6 x7 hfin hn B 0 0 rfl _ _ (t 0) (ht 0) r w))))
  · exact (miss 3 _ _ _ (by decide)).trans ((miss 2 _ _ _ (by decide)).trans ((hit 128 _ _ _ rfl).trans
      (out_apply z wup bup nw s0 b n x0 x1 x2 x3 x4 x5 x6 x7 hfin hn B 1 128 rfl _ _ (t 1) (ht 1) r w)))
  · exact (miss 3 _ _ _ (by decide)).trans ((hit 256 _ _ _ rfl).trans
      (out_apply z wup bup nw s0 b n x0 x1 x2 x3 x4 x5 x6 x7 hfin hn B 2 256 rfl _ _ (t 2) (ht 2) r w))
  · exact (hit 384 _ _ _ rfl).trans
      (out_apply z wup bup nw s0 b n x0 x1 x2 x3 x4 x5 x6 x7 hfin hn B 3 384 rfl _ _ (t 3) (ht 3) r w)

end Chunk

end Heads

/-! ## The blocks of a point -/

section Point
variable (m : (ℓ : Loc nD τ sig) → Buf (Elt 𝕀) ℓ) (c : Dev nD)

/-- The projected tokens, gate weights and bias, norm weights and entry states of a memory. -/
abbrev Z : FVec 𝕀 S16896x8704 .f32 := m ((c : Thread nD τ).loc main_arg0)
abbrev WU : FVec 𝕀 S128x512 .f32 := m ((c : Thread nD τ).loc main_arg1)
abbrev BU : FVec 𝕀 S1x512 .f32 := m ((c : Thread nD τ).loc main_arg2)
abbrev NW : FVec 𝕀 S1x128 .f32 := m ((c : Thread nD τ).loc main_arg3)
abbrev S00 : FVec 𝕀 S2x4x128x128 .f32 := m ((c : Thread nD τ).loc main_arg4)

/-- The block that window 0 holds at a point. -/
theorem idx0 : ∀ t : Fin cfg0.N, win0_0.index t (0 : Fin 2) = t.val ∧ win0_0.index t (1 : Fin 2) = 10 :=
  (by decide +kernel : ∀ t : Fin grid0.N, _)
/-- The block that window 1 holds at a point. -/
theorem idx1 : ∀ t : Fin cfg0.N, win0_1.index t (0 : Fin 2) = t.val ∧ win0_1.index t (1 : Fin 2) = 11 :=
  (by decide +kernel : ∀ t : Fin grid0.N, _)
/-- The block that window 2 holds at a point. -/
theorem idx2 : ∀ t : Fin cfg0.N, win0_2.index t (0 : Fin 2) = t.val ∧ win0_2.index t (1 : Fin 2) = 12 :=
  (by decide +kernel : ∀ t : Fin grid0.N, _)
/-- The block that window 3 holds at a point. -/
theorem idx3 : ∀ t : Fin cfg0.N, win0_3.index t (0 : Fin 2) = t.val ∧ win0_3.index t (1 : Fin 2) = 13 :=
  (by decide +kernel : ∀ t : Fin grid0.N, _)
/-- The block that window 4 holds at a point. -/
theorem idx4 : ∀ t : Fin cfg0.N, win0_4.index t (0 : Fin 2) = t.val ∧ win0_4.index t (1 : Fin 2) = 67 :=
  (by decide +kernel : ∀ t : Fin grid0.N, _)
/-- The block that window 5 holds at a point. -/
theorem idx5 : ∀ t : Fin cfg0.N, win0_5.index t (0 : Fin 2) = 0 ∧ win0_5.index t (1 : Fin 2) = 0 :=
  (by decide +kernel : ∀ t : Fin grid0.N, _)
/-- The block that window 6 holds at a point. -/
theorem idx6 : ∀ t : Fin cfg0.N, win0_6.index t (0 : Fin 2) = 0 ∧ win0_6.index t (1 : Fin 2) = 0 :=
  (by decide +kernel : ∀ t : Fin grid0.N, _)
/-- The block that window 7 holds at a point. -/
theorem idx7 : ∀ t : Fin cfg0.N, win0_7.index t (0 : Fin 2) = 0 ∧ win0_7.index t (1 : Fin 2) = 0 :=
  (by decide +kernel : ∀ t : Fin grid0.N, _)
/-- The block that window 8 holds at a point. -/
theorem idx8 : ∀ t : Fin cfg0.N, win0_8.index t (0 : Fin 4) = t.val / 64 ∧ win0_8.index t (1 : Fin 4) = 0
    ∧ win0_8.index t (2 : Fin 4) = 0 ∧ win0_8.index t (3 : Fin 4) = 0 :=
  (by decide +kernel : ∀ t : Fin grid0.N, _)

/-- The blocks of point `64 b + i` are those of the chunk at token `128 i`. -/
theorem blocks (t : Fin cfg0.N) (b : Fin 2) (i : ℕ) (hi : i < 64) (ht : t.val = 64 * b.val + i) :
    Blocks (Z m c) (WU m c) (BU m c) (NW m c) b (128 * i) (iblk m c 0 t) (iblk m c 1 t) (iblk m c 2 t) (iblk m c 3 t)
      (iblk m c 4 t) (iblk m c 5 t) (iblk m c 6 t) (iblk m c 7 t) := by
  have row : ∀ r : Fin 128, t.val * 128 + 1 * r.val = (b.val * 8192 + (128 * i + r.val)) % 16896 := by
    intro r
    have := b.isLt
    rw [Nat.mod_eq_of_lt (by omega), ht]
    ring
  constructor
  · intro r h d
    unfold iblk
    rw [View.read_apply]
    refine congrArg (V m c main_arg0) (funext fun a => Fin.ext ?_)
    match a with
    | ⟨0, _⟩ => show win0_0.index t 0 * 128 + 1 * r.val = (b.val * 8192 + (128 * i + r.val)) % 16896; rw [(idx0 t).1, row]
    | ⟨1, _⟩ => show win0_0.index t 1 * 512 + 1 * (h.val * 128 + d.val) = 5120 + (h.val * 128 + d.val); rw [(idx0 t).2]; omega
  · intro r h d
    unfold iblk
    rw [View.read_apply]
    refine congrArg (V m c main_arg0) (funext fun a => Fin.ext ?_)
    match a with
    | ⟨0, _⟩ => show win0_1.index t 0 * 128 + 1 * r.val = (b.val * 8192 + (128 * i + r.val)) % 16896; rw [(idx1 t).1, row]
    | ⟨1, _⟩ => show win0_1.index t 1 * 512 + 1 * (h.val * 128 + d.val) = 5632 + (h.val * 128 + d.val); rw [(idx1 t).2]; omega
  · intro r h d
    unfold iblk
    rw [View.read_apply]
    refine congrArg (V m c main_arg0) (funext fun a => Fin.ext ?_)
    match a with
    | ⟨0, _⟩ => show win0_2.index t 0 * 128 + 1 * r.val = (b.val * 8192 + (128 * i + r.val)) % 16896; rw [(idx2 t).1, row]
    | ⟨1, _⟩ => show win0_2.index t 1 * 512 + 1 * (h.val * 128 + d.val) = 6144 + (h.val * 128 + d.val); rw [(idx2 t).2]; omega
  · intro r h d
    unfold iblk
    rw [View.read_apply]
    refine congrArg (V m c main_arg0) (funext fun a => Fin.ext ?_)
    match a with
    | ⟨0, _⟩ => show win0_3.index t 0 * 128 + 1 * r.val = (b.val * 8192 + (128 * i + r.val)) % 16896; rw [(idx3 t).1, row]
    | ⟨1, _⟩ => show win0_3.index t 1 * 512 + 1 * (h.val * 128 + d.val) = 6656 + (h.val * 128 + d.val); rw [(idx3 t).2]; omega
  · intro r y
    unfold iblk
    rw [View.read_apply]
    refine congrArg (V m c main_arg0) (funext fun a => Fin.ext ?_)
    match a with
    | ⟨0, _⟩ => show win0_4.index t 0 * 128 + 1 * r.val = (b.val * 8192 + (128 * i + r.val)) % 16896; rw [(idx4 t).1, row]
    | ⟨1, _⟩ => show win0_4.index t 1 * 128 + 1 * y.val = 8576 + y.val; rw [(idx4 t).2]; omega
  · intro y k
    unfold iblk
    rw [View.read_apply]
    refine congrArg (V m c main_arg1) (funext fun a => Fin.ext ?_)
    match a with
    | ⟨0, _⟩ => show win0_5.index t 0 * 128 + 1 * y.val = y.val; rw [(idx5 t).1]; omega
    | ⟨1, _⟩ => show win0_5.index t 1 * 512 + 1 * k.val = k.val; rw [(idx5 t).2]; omega
  · intro k
    unfold iblk
    rw [View.read_apply]
    refine congrArg (V m c main_arg2) (funext fun a => Fin.ext ?_)
    match a with
    | ⟨0, _⟩ => show win0_6.index t 0 * 1 + 1 * 0 = 0; rw [(idx6 t).1]
    | ⟨1, _⟩ => show win0_6.index t 1 * 512 + 1 * k.val = k.val; rw [(idx6 t).2]; omega
  · intro d
    unfold iblk
    rw [View.read_apply]
    refine congrArg (V m c main_arg3) (funext fun a => Fin.ext ?_)
    match a with
    | ⟨0, _⟩ => show win0_7.index t 0 * 1 + 1 * 0 = 0; rw [(idx7 t).1]
    | ⟨1, _⟩ => show win0_7.index t 1 * 128 + 1 * d.val = d.val; rw [(idx7 t).2]; omega

/-- The entry states, as the scratch takes them. -/
theorem entry (t : Fin cfg0.N) (b : Fin 2) (i : ℕ) (hi : i < 64) (ht : t.val = 64 * b.val + i) (h : Fin 4) (w d : Fin 128) :
    (![in0 (iblk m c 8 t), in1 (iblk m c 8 t), in2 (iblk m c 8 t), in3 (iblk m c 8 t)] : Fin 4 → FVec 𝕀 S1x128x128 .f32) h (ix3 0 w d)
      = S00 m c (ix4 b h d w) := by
  have rd : ∀ (k : ℕ) (inb), h.val = k →
      stateIn (View.ld (Val := Elt 𝕀) (e' := .f32) (iblk m c 8 t) (winRect k inb)) (ix3 0 w d) = S00 m c (ix4 b h d w) := by
    intro k inb hk
    pointwise [stateIn]
    unfold iblk
    refine Eq.trans (View.read_apply _ _) ?_
    refine congrArg (V m c main_arg4) (funext fun a => Fin.ext ?_)
    obtain ⟨e0, e1, e2, e3⟩ := idx8 t
    subst hk
    match a with
    | ⟨0, _⟩ => show win0_8.index t 0 * 1 + 1 * (0 + 1 * 0) = b.val; rw [e0]; omega
    | ⟨1, _⟩ => show win0_8.index t 1 * 4 + 1 * (h.val + 1 * 0) = h.val; rw [e1]; omega
    | ⟨2, _⟩ => show win0_8.index t 2 * 128 + 1 * d.val = d.val; rw [e2]; omega
    | ⟨3, _⟩ => show win0_8.index t 3 * 128 + 1 * w.val = w.val; rw [e3]; omega
  fin_cases h
  · exact rd 0 _ rfl
  · exact rd 1 _ rfl
  · exact rd 2 _ rfl
  · exact rd 3 _ rfl

/-! ## The induction over the points -/

/-- What the point of chunk `i` of sequence `b` leaves. -/
structure After (b : Fin 2) (i : ℕ) (o : Vec 𝕀 S128x512 .f32 × Vec 𝕀 S1x4x128x128 .f32 × Vec 𝕀 S4x128x128 .f32) : Prop where
  out : ∀ (r : Fin 128) (h : Fin 4) (w : Fin 128), o.1 (ix2 r (ch h w))
    = finish1 (Out (Z m c) (WU m c) (BU m c) (S00 m c) b h (128 * i + r)) (NW m c (ix2 0 w))
      (Z m c (ix2 (tok b (128 * i + r)) (col h 6656 (by decide) w))) w
  state : ∀ (h : Fin 4) (w d : Fin 128), o.2.2 (ix3 h w d) = St (Z m c) (WU m c) (BU m c) (S00 m c) b h (128 * i + 128) d w
  last : i = 63 → ∀ (h : Fin 4) (d w : Fin 128), o.2.1 (ix4 0 h d w) = St (Z m c) (WU m c) (BU m c) (S00 m c) b h 8192 d w

variable (hfin : Finite (Z m c) (WU m c))
include hfin

/-- The first chunk of a sequence. -/
theorem after_first (t : Fin cfg0.N) (b : Fin 2) (ht : t.val = 64 * b.val) : After m c b 0 (outsAt0 m c t.val t.isLt) := by
  have B := blocks m c t b 0 (by omega) (by omega)
  have hS : ∀ h w d, (![in0 (iblk m c 8 t), in1 (iblk m c 8 t), in2 (iblk m c 8 t), in3 (iblk m c 8 t)] :
      Fin 4 → FVec 𝕀 S1x128x128 .f32) h (ix3 0 w d) = St (Z m c) (WU m c) (BU m c) (S00 m c) b h (128 * 0) d w := by
    intro h w d
    rw [entry m c t b 0 (by omega) (by omega), Nat.mul_zero, St_zero]
  rw [outsAt0_A m c t (by omega) (by omega)]
  refine ⟨fun r h w => ?_, fun h w d => ?_, fun e => absurd e (by decide)⟩
  · dsimp only
    rw [out_A]
    exact canon_out _ _ _ _ _ b (128 * 0) _ _ _ _ _ _ _ _ hfin (by omega) B _ hS r h w
  · dsimp only
    rw [scratch_A]
    exact canon_states _ _ _ _ _ b (128 * 0) _ _ _ _ _ _ _ _ hfin (by omega) B _ hS _ h w d

/-- A later chunk, from what the one before left. -/
theorem after_next (t : Fin cfg0.N) (b : Fin 2) (i : ℕ) (hi : i + 1 < 64) (ht : t.val = 64 * b.val + (i + 1))
    (H : After m c b i (outsAt0 m c (t.val - 1) (Nat.lt_of_le_of_lt (Nat.sub_le _ _) t.isLt))) :
    After m c b (i + 1) (outsAt0 m c t.val t.isLt) := by
  have B := blocks m c t b (i + 1) hi ht
  have hS : ∀ h w d, (![slot0 _, slot1 _, slot2 _, slot3 _] : Fin 4 → FVec 𝕀 S1x128x128 .f32) h (ix3 0 w d)
      = St (Z m c) (WU m c) (BU m c) (S00 m c) b h (128 * (i + 1)) d w := fun h w d => (slots_apply _ h w d).trans (H.state h w d)
  by_cases h63 : t.val % 64 = 63
  · rw [outsAt0_C m c t (by omega) h63]
    refine ⟨fun r h w => ?_, fun h w d => ?_, fun e h d w => ?_⟩
    · dsimp only
      rw [out_C]
      exact canon_out _ _ _ _ _ b (128 * (i + 1)) _ _ _ _ _ _ _ _ hfin (by omega) B _ hS r h w
    · dsimp only
      rw [scratch_C]
      exact canon_states _ _ _ _ _ b (128 * (i + 1)) _ _ _ _ _ _ _ _ hfin (by omega) B _ hS _ h w d
    · dsimp only
      rw [last_C, show 8192 = 128 * (i + 1) + 128 by omega]
      exact canon_last _ _ _ _ _ b (128 * (i + 1)) _ _ _ _ _ _ _ _ hfin (by omega) B _ hS h d w
  · rw [outsAt0_B m c t (by omega) h63]
    refine ⟨fun r h w => ?_, fun h w d => ?_, fun e => absurd e (by omega)⟩
    · dsimp only
      rw [out_B]
      exact canon_out _ _ _ _ _ b (128 * (i + 1)) _ _ _ _ _ _ _ _ hfin (by omega) B _ hS r h w
    · dsimp only
      rw [scratch_B]
      exact canon_states _ _ _ _ _ b (128 * (i + 1)) _ _ _ _ _ _ _ _ hfin (by omega) B _ hS _ h w d

/-- Every chunk of a sequence. -/
theorem after (b : Fin 2) : ∀ (i : ℕ) (_ : i < 64) (hn : 64 * b.val + i < cfg0.N), After m c b i (outsAt0 m c (64 * b.val + i) hn)
  | 0, _, hn => after_first m c hfin ⟨64 * b.val, hn⟩ b rfl
  | i + 1, hi, hn => after_next m c hfin ⟨64 * b.val + (i + 1), hn⟩ b i hi rfl (after b i (by omega) (Nat.lt_of_succ_lt hn))

/-- The kernel's output tokens. -/
theorem out_kernel (r : Fin 16384) (k : Fin 512) : G9 m c (ix2 r k)
    = finish1 (Out (Z m c) (WU m c) (BU m c) (S00 m c) ⟨r.val / 8192, by omega⟩ ⟨k.val / 128, by omega⟩ (r.val % 8192))
      (NW m c (ix2 0 ⟨k.val % 128, by omega⟩)) (Z m c (ix2 ⟨r.val, by omega⟩ ⟨6656 + k.val, by omega⟩)) ⟨k.val % 128, by omega⟩ := by
  have hp : pt9Of (ix2 r k) = 64 * (r.val / 8192) + r.val % 8192 / 128 := by
    show 1 * (r.val / 128 - 0) + 1 * (k.val / 512 - 0) = _
    omega
  have hN : 64 * (r.val / 8192) + r.val % 8192 / 128 < cfg0.N := lt_of_lt_of_eq (by omega) (show 128 = cfg0.N from N_0.symm)
  have H := (after m c hfin ⟨r.val / 8192, by omega⟩ (r.val % 8192 / 128) (by omega) hN).out ⟨r.val % 128, by omega⟩
    ⟨k.val / 128, by omega⟩ ⟨k.val % 128, by omega⟩
  unfold G9
  rw [dif_pos (by rw [hp]; exact hN), fold0_congr m c _ _ _ (by rw [Nat.zero_add]; exact hN) hp, ← outsAt0_sweep]
  have el : loc9Of (ix2 r k) = ix2 ⟨r.val % 128, by omega⟩ (ch ⟨k.val / 128, by omega⟩ ⟨k.val % 128, by omega⟩) :=
    funext fun a => Fin.ext (by
      match a with
      | ⟨0, _⟩ => rfl
      | ⟨1, _⟩ => show k.val % 512 = k.val / 128 * 128 + k.val % 128; omega)
  rw [el, H]
  have e1 : 128 * (r.val % 8192 / 128) + r.val % 128 = r.val % 8192 := by omega
  have e2 : (ix2 (tok ⟨r.val / 8192, by omega⟩ (128 * (r.val % 8192 / 128) + r.val % 128))
      (col ⟨k.val / 128, by omega⟩ 6656 (by decide) ⟨k.val % 128, by omega⟩) : S16896x8704.Idx)
      = ix2 ⟨r.val, by omega⟩ ⟨6656 + k.val, by omega⟩ := funext fun a => Fin.ext (by
    match a with
    | ⟨0, _⟩ =>
      show (r.val / 8192 * 8192 + (128 * (r.val % 8192 / 128) + r.val % 128)) % 16896 = r.val
      omega
    | ⟨1, _⟩ => show 6656 + (k.val / 128 * 128 + k.val % 128) = 6656 + k.val; omega)
  show finish1 (Out (Z m c) (WU m c) (BU m c) (S00 m c) _ _ (128 * (r.val % 8192 / 128) + r.val % 128)) _ (Z m c (ix2 (tok _ (128 * (r.val % 8192 / 128) + r.val % 128)) _)) _ = _
  rw [e2, e1]
  exact hN

/-- The kernel's last states. -/
theorem state_kernel (b : Fin 2) (h : Fin 4) (d v : Fin 128) :
    G10 m c (ix4 b h d v) = St (Z m c) (WU m c) (BU m c) (S00 m c) b h 8192 d v := by
  have hb := b.isLt
  have hh := h.isLt
  have hp : pt10Of (ix4 b h d v) = 64 * b.val + 63 := by
    show 64 * (1 * (b.val / 1 - 0) + 1 * (h.val / 4 - 0) + 1 * (d.val / 128 - 0) + 1 * (v.val / 128 - 0)) + 63 = _
    omega
  have hN : 64 * b.val + 63 < cfg0.N := lt_of_lt_of_eq (by omega) (show 128 = cfg0.N from N_0.symm)
  have H := (after m c hfin b 63 (by omega) hN).last rfl h d v
  unfold G10
  rw [dif_pos (by rw [hp]; exact hN), fold0_congr m c _ _ _ (by rw [Nat.zero_add]; exact hN) hp, ← outsAt0_sweep]
  have el : loc10Of (ix4 b h d v) = ix4 0 h d v := funext fun a => Fin.ext (by
    match a with
    | ⟨0, _⟩ => show b.val % 1 = 0; omega
    | ⟨1, _⟩ => show h.val % 4 = h.val; omega
    | ⟨2, _⟩ => show d.val % 128 = d.val; omega
    | ⟨3, _⟩ => show v.val % 128 = v.val; omega)
  rw [el, H]
  exact hN

end Point

end Cert.Proof.GlaKernel
-- ==== Proof.Gla.lean ====
/-
  The second mixer's claim: under finite queries, keys, values, gate columns and gate weights, the call's two results are the plain
  recurrence's.
-/
module

public import proofs.«01_k».proof.Defs
public import proofs.«01_k».proof.Proof.Gen.Pre_finite_gates
public import proofs.«01_k».proof.Proof.GlaKernel
public import proofs.«01_k».proof.Proof.Mixer

@[expose] public section

set_option maxRecDepth 16384

noncomputable section

namespace Cert.Proof.Gla

open Idealize.ShloMosaic Idealize.ShloMosaic.TcCoe Idealize.SL.Sem Idealize.ShloMosaic.Pointwise
open Cert.Proof.GlaGates
open Cert.Proof.Mixer (and_one ne_of_abs_lt)
open Cert.Proof.GlaRef (St Out out_ref state_ref)

local notation "𝕀" => Idealize.ShloMosaic.Ideal

/-- The precondition, read at an index, says which columns are real. -/
theorem finite_of_pre (z : FVec 𝕀 Cert.Pre_finite_gates.S16896x8704 .f32) (wup : FVec 𝕀 Cert.Pre_finite_gates.S128x512 .f32)
    (bup : FVec 𝕀 Cert.Pre_finite_gates.S1x512 .f32) (nw : FVec 𝕀 Cert.Pre_finite_gates.S1x128 .f32)
    (s0 : FVec 𝕀 Cert.Pre_finite_gates.S2x4x128x128 .f32)
    (h : Cert.Pre_finite_gates.fn (F := 𝕀) z wup bup nw s0 = fun _ => 1#1) : Finite z wup := by
  have key : ∀ (r : Fin 16384) (k : Fin 512) (y : Fin 128), k.val % 128 = y.val → ∀ (x : Fin 128), r.val % 128 = x.val →
      (((Ideal.cmp .olt (max (z (ix2 ⟨r.val, by omega⟩ ⟨5120 + k.val, by omega⟩)) (-z (ix2 ⟨r.val, by omega⟩ ⟨5120 + k.val, by omega⟩))) (Ideal.ofBits .f32 0x7F800000#32) = 1#1
        ∧ Ideal.cmp .olt (max (z (ix2 ⟨r.val, by omega⟩ ⟨5632 + k.val, by omega⟩)) (-z (ix2 ⟨r.val, by omega⟩ ⟨5632 + k.val, by omega⟩))) (Ideal.ofBits .f32 0x7F800000#32) = 1#1)
        ∧ Ideal.cmp .olt (max (z (ix2 ⟨r.val, by omega⟩ ⟨6144 + k.val, by omega⟩)) (-z (ix2 ⟨r.val, by omega⟩ ⟨6144 + k.val, by omega⟩))) (Ideal.ofBits .f32 0x7F800000#32) = 1#1)
        ∧ Ideal.cmp .olt (max (z (ix2 ⟨r.val, by omega⟩ (small y))) (-z (ix2 ⟨r.val, by omega⟩ (small y)))) (Ideal.ofBits .f32 0x7F800000#32) = 1#1)
        ∧ Ideal.cmp .olt (max (wup (ix2 x k)) (-wup (ix2 x k))) (Ideal.ofBits .f32 0x7F800000#32) = 1#1 := by
    intro r k y hy x hx
    obtain ⟨y, hy'⟩ := y
    obtain ⟨x, hx'⟩ := x
    dsimp only at hy hx
    subst hy hx
    have e := congrFun h (ix2 r k)
    pointwise [Cert.Pre_finite_gates.fn, Cert.Pre_finite_gates.fn_part1] at e
    have e1 := and_one _ _ e
    have e2 := and_one _ _ e1.1
    have e3 := and_one _ _ e2.1
    exact ⟨⟨⟨and_one _ _ e3.1, e3.2⟩, e2.2⟩, e1.2⟩
  exact {
    hq := fun r k => ne_of_abs_lt _ (key r k ⟨k.val % 128, by omega⟩ rfl ⟨r.val % 128, by omega⟩ rfl).1.1.1.1
    hk := fun r k => ne_of_abs_lt _ (key r k ⟨k.val % 128, by omega⟩ rfl ⟨r.val % 128, by omega⟩ rfl).1.1.1.2
    hv := fun r k => ne_of_abs_lt _ (key r k ⟨k.val % 128, by omega⟩ rfl ⟨r.val % 128, by omega⟩ rfl).1.1.2
    hr := fun r y => ne_of_abs_lt _ (key r ⟨y.val, by omega⟩ y (Nat.mod_eq_of_lt y.isLt) ⟨r.val % 128, by omega⟩ rfl).1.2
    hw := fun x k => ne_of_abs_lt _ (key ⟨x.val, by omega⟩ k ⟨k.val % 128, by omega⟩ rfl x (Nat.mod_eq_of_lt x.isLt)).2 }

section Run

open Cert.Reference7Ideal Cert.Reference7Ideal.Value Cert.Proof.GlaRef Cert.Reference7Ideal.Step

/-- What the operations after the loop make of a valuation, of its carried buffers and two arguments. -/
theorem out_of_state (V : Valuation Cert.Reference7Ideal.τ Cert.Reference7Ideal.sig (Elt 𝕀)) :
    out_main_v49 V = R_main_v49 (F := 𝕀) (stateOf V) (V (Proc.devRef .tc main_arg0)) (V (Proc.devRef .tc main_arg3)) := rfl

end Run

open Cert.Proof.GlaRef Cert.Reference7Ideal.Value Idealize.ShloMosaic.StableHlo in
/-- The two programs' results agree wherever the queries, keys, values, gate columns and gate weights are real. -/
theorem algebraic : Cert.algebraic_Kernel7Ideal_Reference7Ideal_pre_finite_gates (hKernel7Ideal := Cert.Kernel7Ideal.Gen.facts)
    (hReference7Ideal := Cert.Reference7Ideal.Gen.facts) (hPre_finite_gates := Cert.Pre_finite_gates.Gen.facts) := by
  intro m g m' g' hpre hargs
  refine ⟨fun c => Cert.Kernel7Ideal.Value.G9 m c, fun c => Cert.Kernel7Ideal.Value.G10 m c, Cert.Kernel7Ideal.Value.run m g, ?_⟩
  refine (θ_run Cert.Reference7Ideal.defs _ _).mono (fun r h c => ?_) (Cert.Reference7Ideal.Value.run (F := 𝕀) m' g')
  obtain ⟨a0, a1, a2, a3, a4⟩ := hargs c
  have hf := finite_of_pre _ _ _ _ _ (hpre c)
  obtain ⟨h49, h5, hkeep⟩ := h c
  have hs := (iter_state (F := 𝕀) m' c 512).2
  rw [a0, a1, a2, a4] at hs
  refine ⟨h49.trans ?_, h5.trans ?_, hkeep⟩
  · rw [out_of_state, iter_main_arg0, iter_main_arg3, a0, a3]
    refine funext fun i => ?_
    obtain ⟨r, k, rfl⟩ : ∃ r k, i = ix2 r k := ⟨i 0, i 1, eq_ix2 i⟩
    exact (out_ref _ _ _ _ hf 512 rfl _ hs _ r k).trans (GlaKernel.out_kernel m c hf r k).symm
  · rw [show (STEP^[512] (entryContents preI m' c)) (Proc.devRef .tc Cert.Reference7Ideal.main_v28_5)
      = (toFirst (stateOf (STEP^[512] (entryContents preI m' c)))).main_v49_5 from rfl, hs]
    refine funext fun i => ?_
    obtain ⟨b, h, d, v, rfl⟩ : ∃ b h d v, i = ix4 b h d v := ⟨i 0, i 1, i 2, i 3, eq_ix4 i⟩
    exact (state_ref _ _ _ _ hf 512 rfl b h d v).trans (GlaKernel.state_kernel m c hf b h d v).symm

end Cert.Proof.Gla

end
-- ==== Proof.lean ====
/- The proof of the certificate: the frames of the claimed calls and of their references, and the equality of each call and its
   reference at the ideal instance. -/
module

public import proofs.«01_k».proof.Proof.Gen.KernelIdeal.Value
public import proofs.«01_k».proof.Proof.Gen.ReferenceIdeal.Step
public import proofs.«01_k».proof.Proof.Gen.ReferenceIdeal.Run
public import proofs.«01_k».proof.Proof.Gen.Pre_finite_inputs
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel2
public import proofs.«01_k».proof.Proof.Gen.Kernel2.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel3
public import proofs.«01_k».proof.Proof.Gen.Kernel3.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel4
public import proofs.«01_k».proof.Proof.Gen.Kernel4.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel5
public import proofs.«01_k».proof.Proof.Gen.Kernel5.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel6
public import proofs.«01_k».proof.Proof.Gen.Kernel6.Frame
public import proofs.«01_k».proof.Proof.Gen.Kernel7Ideal.Value
public import proofs.«01_k».proof.Proof.Gen.Reference7Ideal
public import proofs.«01_k».proof.Proof.Gen.Reference7Ideal.Step
public import proofs.«01_k».proof.Proof.Gen.Reference7Ideal.Run
public import proofs.«01_k».proof.Proof.Gen.Kernel7
public import proofs.«01_k».proof.Proof.Gen.Kernel7.Frame
public import proofs.«01_k».proof.Proof.Gen.Pre_finite_gates
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Mixer
public import proofs.«01_k».proof.Proof.Ffn
public import proofs.«01_k».proof.Proof.Proj
public import proofs.«01_k».proof.Proof.Merge
public import proofs.«01_k».proof.Proof.Prep
public import proofs.«01_k».proof.Proof.Ffn1
public import proofs.«01_k».proof.Proof.Gla
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its run leaves the arguments as they were, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The frame of the reference of the last feed-forward call. -/
theorem frame_reference2 : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The frame of the reference of the in-projection. -/
theorem frame_reference3 : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The frame of the reference of the gated merge. -/
theorem frame_reference4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The frame of the reference of the rotary call. -/
theorem frame_reference5 : Cert.quiescent_Reference5Ideal (hReference5Ideal := Cert.Reference5Ideal.Gen.facts) := fun m ρ _ =>
  (θ_run Cert.Reference5Ideal.defs _ _).mono (fun r h => ⟨fun c => (h c).2.2.2.2.2.2.2.2,
      Idealize.ShloMosaic.sem_eq_zero_of_no_sems (by decide) r.2⟩)
    (Cert.Reference5Ideal.Value.run (F := Ideal) m ρ)

/-- The frame of the reference of the first feed-forward call. -/
theorem frame_reference6 : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The frame of the reference of the second mixer. -/
theorem frame_reference7 : Cert.quiescent_Reference7Ideal (hReference7Ideal := Cert.Reference7Ideal.Gen.facts) := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_inputs.Gen.facts, Cert.Pre_finite_gates.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, fun m ρ _ => Cert.Kernel7Ideal.Gen.frame m ρ,
  frame_reference7, fun m ρ _ => frame_reference7 m ρ trivial,
  trivial, Mixer.algebraic,
  trivial, Ffn.algebraic,
  trivial, Proj.algebraic,
  trivial, Merge.algebraic,
  trivial, Prep.algebraic,
  trivial, Ffn1.algebraic,
  trivial, Gla.algebraic⟩

end Cert.Proof

end
